-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_counts_in_range2 : Cert.Pre_counts_in_range2.Facts] (m : (ℓ : Loc Cert.Kernel2.nD Cert.Kernel2.τ Cert.Kernel2.sig) → Buf (Elt Bits) ℓ) : Prop :=
  ∀ c : Dev Cert.Kernel2.nD,
    (Cert.Pre_counts_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_counts_in_range2 : Cert.Pre_counts_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counts_in_range2 [hPre_counts_in_range2 : Cert.Pre_counts_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_counts_in_range2 : Cert.Pre_counts_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_counts_in_range2 : Cert.Pre_counts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_counts_in_range2 [hReference2Ideal : Cert.Reference2Ideal.Facts] [hPre_counts_in_range2 : Cert.Pre_counts_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counts_in_range2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_counts_in_range2 : Cert.Pre_counts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v53)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_counts_in_range : Cert.Pre_counts_in_range.Facts) (hPre_counts_in_range2 : Cert.Pre_counts_in_range2.Facts),
    quiescent_Kernel (hKernel := hKernel) (hPre_counts_in_range := hPre_counts_in_range)
    ∧ quiescent_KernelIdeal (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ quiescent_Kernel2 (hKernel2 := hKernel2) (hPre_counts_in_range2 := hPre_counts_in_range2)
    ∧ quiescent_Kernel2Ideal (hKernel2Ideal := hKernel2Ideal) (hPre_counts_in_range2 := hPre_counts_in_range2)
    ∧ quiescent_Reference2Ideal (hReference2Ideal := hReference2Ideal)
    ∧ quiescent_Reference2Ideal_pre_counts_in_range2 (hReference2Ideal := hReference2Ideal) (hPre_counts_in_range2 := hPre_counts_in_range2)
    ∧ preserves_Kernel_KernelIdeal
    ∧ algebraic_KernelIdeal_ReferenceIdeal (hKernelIdeal := hKernelIdeal) (hReferenceIdeal := hReferenceIdeal) (hPre_counts_in_range := hPre_counts_in_range)
    ∧ preserves_Kernel2_Kernel2Ideal
    ∧ algebraic_Kernel2Ideal_Reference2Ideal (hKernel2Ideal := hKernel2Ideal) (hReference2Ideal := hReference2Ideal) (hPre_counts_in_range2 := hPre_counts_in_range2)
-- ==== Pre_counts_in_range.lean ====
abbrev S18432x2048 : Shape := ⟨2, ![18432, 2048]⟩
abbrev S8 : Shape := ⟨1, ![8]⟩
abbrev S8x4096x7168 : Shape := ⟨3, ![8, 4096, 7168]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S18432x2048 32) (main_arg1 : IVec S8 32) (main_arg2 : FVec F S8x4096x7168 .f32) (main_arg3 : FVec F S8x4096x7168 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 16384#32
  let main_v2 : IVec S8 32 := broadcastInDim S8 ![] bcast_S_S8 main_c_0
  let main_v3 : IVec S8 1 := cmpi .sle main_arg1 main_v2
  let main_v4 : IVec S8 1 := andi main_v1 main_v3
  main_v4
-- ==== Pre_counts_in_range2.lean ====
abbrev S18432x7168 : Shape := ⟨2, ![18432, 7168]⟩
abbrev S8 : Shape := ⟨1, ![8]⟩
abbrev S8x7168x4096 : Shape := ⟨3, ![8, 7168, 4096]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S18432x7168 .bf16) (main_arg1 : IVec S8 32) (main_arg2 : FVec F S8x7168x4096 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 16384#32
  let main_v2 : IVec S8 32 := broadcastInDim S8 ![] bcast_S_S8 main_c_0
  let main_v3 : IVec S8 1 := cmpi .sle main_arg1 main_v2
  let main_v4 : IVec S8 1 := andi main_v1 main_v3
  main_v4
-- ==== Kernel.lean ====
abbrev S18432x2048 : Shape := ⟨2, ![18432, 2048]⟩
abbrev S8 : Shape := ⟨1, ![8]⟩
abbrev S8x4096x7168 : Shape := ⟨3, ![8, 4096, 7168]⟩
abbrev S_ : Shape := ⟨0, ![]⟩
abbrev S1 : Shape := ⟨1, ![1]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S71 : Shape := ⟨1, ![71]⟩
abbrev S18432x7168 : Shape := ⟨2, ![18432, 7168]⟩
abbrev S256x2048 : Shape := ⟨2, ![256, 2048]⟩
abbrev S1x4096x512 : Shape := ⟨3, ![1, 4096, 512]⟩
abbrev S256x512 : Shape := ⟨2, ![256, 512]⟩
abbrev S4096x512 : Shape := ⟨2, ![4096, 512]⟩
abbrev S256x1 : Shape := ⟨2, ![256, 1]⟩
abbrev S256x4096 : Shape := ⟨2, ![256, 4096]⟩

abbrev nBuf : Space → Nat
  | .hbm => 89
  | .vmem => 10
  | .smem => 3
  | _ => 0

abbrev bufTy : (tb : Table) → Fin (tcTables nBuf tb) → BufTy
  | .hbm, ⟨0, _⟩ => ⟨S18432x2048, .i32⟩
  | .hbm, ⟨1, _⟩ => ⟨S8, .i32⟩
  | .hbm, ⟨2, _⟩ => ⟨S8x4096x7168, .f32⟩
  | .hbm, ⟨3, _⟩ => ⟨S8x4096x7168, .f32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S1, .i32⟩
  | .hbm, ⟨33, _⟩ => ⟨S_, .i32⟩
  | .hbm, ⟨34, _⟩ => ⟨S72, .i32⟩
  | .hbm, ⟨35, _⟩ => ⟨S_, .i32⟩
  | .hbm, ⟨36, _⟩ => ⟨S_, .i32⟩
  | .hbm, ⟨37, _⟩ => ⟨S72, .i32⟩
  | .hbm, ⟨38, _⟩ => ⟨S72, .i32⟩
  | .hbm, ⟨39, _⟩ => ⟨S72x1, .i32⟩
  | .hbm, ⟨40, _⟩ => ⟨S1x8, .i32⟩
  | .hbm, ⟨41, _⟩ => ⟨S72x8, .i32⟩
  | .hbm, ⟨42, _⟩ => ⟨S72x8, .i32⟩
  | .hbm, ⟨43, _⟩ => ⟨S72x8, .i1⟩
  | .hbm, ⟨44, _⟩ => ⟨S72x8, .i32⟩
  | .hbm, ⟨45, _⟩ => ⟨S_, .i32⟩
  | .hbm, ⟨46, _⟩ => ⟨S72, .i32⟩
  | .hbm, ⟨47, _⟩ => ⟨S72, .i1⟩
  | .hbm, ⟨48, _⟩ => ⟨S_, .i32⟩
  | .hbm, ⟨49, _⟩ => ⟨S72, .i32⟩
  | .hbm, ⟨50, _⟩ => ⟨S72, .i1⟩
  | .hbm, ⟨51, _⟩ => ⟨S_, .i32⟩
  | .hbm, ⟨52, _⟩ => ⟨S72, .i32⟩
  | .hbm, ⟨53, _⟩ => ⟨S72, .i32⟩
  | .hbm, ⟨54, _⟩ => ⟨S72, .i32⟩
  | .hbm, ⟨55, _⟩ => ⟨S72x1, .i32⟩
  | .hbm, ⟨56, _⟩ => ⟨S72, .i32⟩
  | .hbm, ⟨57, _⟩ => ⟨S_, .i32⟩
  | .hbm, ⟨58, _⟩ => ⟨S72, .i32⟩
  | .hbm, ⟨59, _⟩ => ⟨S72, .i1⟩
  | .hbm, ⟨60, _⟩ => ⟨S_, .i32⟩
  | .hbm, ⟨61, _⟩ => ⟨S72, .i32⟩
  | .hbm, ⟨62, _⟩ => ⟨S72, .i32⟩
  | .hbm, ⟨63, _⟩ => ⟨S72, .i32⟩
  | .hbm, ⟨64, _⟩ => ⟨S72x1, .i32⟩
  | .hbm, ⟨65, _⟩ => ⟨S72, .i32⟩
  | .hbm, ⟨66, _⟩ => ⟨S72, .i32⟩
  | .hbm, ⟨67, _⟩ => ⟨S_, .i32⟩
  | .hbm, ⟨68, _⟩ => ⟨S72, .i32⟩
  | .hbm, ⟨69, _⟩ => ⟨S72, .i32⟩
  | .hbm, ⟨70, _⟩ => ⟨S72, .i32⟩
  | .hbm, ⟨71, _⟩ => ⟨S_, .i32⟩
  | .hbm, ⟨72, _⟩ => ⟨S72, .i32⟩
  | .hbm, ⟨73, _⟩ => ⟨S72, .i32⟩
  | .hbm, ⟨74, _⟩ => ⟨S_, .i32⟩
  | .hbm, ⟨75, _⟩ => ⟨S_, .i32⟩
  | .hbm, ⟨76, _⟩ => ⟨S72, .i32⟩
  | .hbm, ⟨77, _⟩ => ⟨S_, .i32⟩
  | .hbm, ⟨78, _⟩ => ⟨S1, .i32⟩
  | .hbm, ⟨79, _⟩ => ⟨S71, .i32⟩
  | .hbm, ⟨80, _⟩ => ⟨S72, .i32⟩
  | .hbm, ⟨81, _⟩ => ⟨S72, .i1⟩
  | .hbm, ⟨82, _⟩ => ⟨S72, .i32⟩
  | .hbm, ⟨83, _⟩ => ⟨S72, .i1⟩
  | .hbm, ⟨84, _⟩ => ⟨S72, .i1⟩
  | .hbm, ⟨85, _⟩ => ⟨S_, .i32⟩
  | .hbm, ⟨86, _⟩ => ⟨S8, .i32⟩
  | .hbm, ⟨87, _⟩ => ⟨S8, .i32⟩
  | .hbm, ⟨88, _⟩ => ⟨S18432x7168, .bf16⟩
  | .local _ .vmem, ⟨0, _⟩ => ⟨S256x2048, .i32⟩
  | .local _ .vmem, ⟨1, _⟩ => ⟨S256x2048, .i32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S72, .i32⟩
  | .local _ .smem, ⟨1, _⟩ => ⟨S72, .i32⟩
  | .local _ .smem, ⟨2, _⟩ => ⟨S72, .i32⟩
  | _, _ => ⟨S18432x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_call2_v0 : Ref sig .tc := ⟨.hbm, 75, rfl⟩
abbrev main_call2_v1 : Ref sig .tc := ⟨.hbm, 76, rfl⟩
abbrev main_c_11 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v19 : Ref sig .tc := ⟨.smem, 0, rfl⟩
abbrev main_v42 : Ref sig .tc := ⟨.smem, 1, rfl⟩
abbrev main_v50 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 72], ![false, false]⟩

abbrev pre0 : Pipeline.Prefetch sig := ⟨3, ![main_v19.idx, main_v42.idx, main_v50.idx], fun | 0 => main_v19.names | 1 => main_v42.names | 2 => main_v50.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v16 : Index := Scalar.indexCast arg1
  ![v16.toNat]
def k0_off4 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S18432x2048 : Shape := ⟨2, ![18432, 2048]⟩
abbrev S8 : Shape := ⟨1, ![8]⟩
abbrev S8x4096x7168 : Shape := ⟨3, ![8, 4096, 7168]⟩
abbrev S_ : Shape := ⟨0, ![]⟩
abbrev S18432x4096 : Shape := ⟨2, ![18432, 4096]⟩
abbrev S18432 : Shape := ⟨1, ![18432]⟩
abbrev S18432x7168 : Shape := ⟨2, ![18432, 7168]⟩
abbrev S1 : Shape := ⟨1, ![1]⟩
abbrev S18432x1 : Shape := ⟨2, ![18432, 1]⟩
abbrev S1x4096x7168 : Shape := ⟨3, ![1, 4096, 7168]⟩
abbrev S4096x7168 : Shape := ⟨2, ![4096, 7168]⟩

abbrev nBuf : Space → Nat
  | .hbm => 309
  | .vmem => 0
  | .smem => 0
  | _ => 0

abbrev hbmTy0_0 (i : Nat) : BufTy := match i % 128 with
  | 0 => ⟨S18432x2048, .i32⟩
  | 1 => ⟨S8, .i32⟩
  | 2 => ⟨S8x4096x7168, .f32⟩
  | 3 => ⟨S8x4096x7168, .f32⟩
  | 4 => ⟨S_, .i32⟩
  | 5 => ⟨S18432x2048, .i32⟩
  | 6 => ⟨S18432x2048, .i32⟩
  | 7 => ⟨S18432x2048, .f32⟩
  | 8 => ⟨S_, .i32⟩
  | 9 => ⟨S18432x2048, .i32⟩
  | 10 => ⟨S18432x2048, .i32⟩
  | 11 => ⟨S18432x2048, .f32⟩
  | 12 => ⟨S18432x4096, .f32⟩
  | 13 => ⟨S_, .i32⟩
  | 14 => ⟨S8, .i32⟩
  | 15 => ⟨S8, .i32⟩
  | 16 => ⟨S_, .i32⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i1⟩
  | 24 => ⟨S8, .i32⟩
  | 25 => ⟨S8, .i32⟩
  | 26 => ⟨S_, .i32⟩
  | 27 => ⟨S8, .i32⟩
  | 28 => ⟨S8, .i1⟩
  | 29 => ⟨S8, .i1⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S_, .i32⟩
  | 39 => ⟨S8, .i32⟩
  | 40 => ⟨S8, .i32⟩
  | 41 => ⟨S18432, .i32⟩
  | 42 => ⟨S_, .f32⟩
  | 43 => ⟨S18432x7168, .f32⟩
  | 44 => ⟨S1, .i32⟩
  | 45 => ⟨S_, .i32⟩
  | 46 => ⟨S18432, .i32⟩
  | 47 => ⟨S18432, .i1⟩
  | 48 => ⟨S1, .i32⟩
  | 49 => ⟨S_, .i32⟩
  | 50 => ⟨S1, .i32⟩
  | 51 => ⟨S_, .i32⟩
  | 52 => ⟨S_, .i32⟩
  | 53 => ⟨S18432, .i32⟩
  | 54 => ⟨S18432, .i1⟩
  | 55 => ⟨S18432, .i1⟩
  | 56 => ⟨S18432, .f32⟩
  | 57 => ⟨S18432x1, .f32⟩
  | 58 => ⟨S1x4096x7168, .f32⟩
  | 59 => ⟨S4096x7168, .f32⟩
  | 60 => ⟨S18432x7168, .f32⟩
  | 61 => ⟨S18432x7168, .f32⟩
  | 62 => ⟨S18432x7168, .f32⟩
  | 63 => ⟨S_, .f32⟩
  | 64 => ⟨S18432x7168, .f32⟩
  | 65 => ⟨S18432x7168, .f32⟩
  | 66 => ⟨S_, .f32⟩
  | 67 => ⟨S18432x7168, .f32⟩
  | 68 => ⟨S18432x7168, .f32⟩
  | 69 => ⟨S18432x7168, .f32⟩
  | 70 => ⟨S1x4096x7168, .f32⟩
  | 71 => ⟨S4096x7168, .f32⟩
  | 72 => ⟨S18432x7168, .f32⟩
  | 73 => ⟨S18432x7168, .f32⟩
  | 74 => ⟨S18432x7168, .f32⟩
  | 75 => ⟨S18432x7168, .f32⟩
  | 76 => ⟨S18432x7168, .f32⟩
  | 77 => ⟨S1, .i32⟩
  | 78 => ⟨S_, .i32⟩
  | 79 => ⟨S18432, .i32⟩
  | 80 => ⟨S18432, .i1⟩
  | 81 => ⟨S1, .i32⟩
  | 82 => ⟨S_, .i32⟩
  | 83 => ⟨S1, .i32⟩
  | 84 => ⟨S_, .i32⟩
  | 85 => ⟨S_, .i32⟩
  | 86 => ⟨S18432, .i32⟩
  | 87 => ⟨S18432, .i1⟩
  | 88 => ⟨S18432, .i1⟩
  | 89 => ⟨S18432, .f32⟩
  | 90 => ⟨S18432x1, .f32⟩
  | 91 => ⟨S1x4096x7168, .f32⟩
  | 92 => ⟨S4096x7168, .f32⟩
  | 93 => ⟨S18432x7168, .f32⟩
  | 94 => ⟨S18432x7168, .f32⟩
  | 95 => ⟨S18432x7168, .f32⟩
  | 96 => ⟨S_, .f32⟩
  | 97 => ⟨S18432x7168, .f32⟩
  | 98 => ⟨S18432x7168, .f32⟩
  | 99 => ⟨S_, .f32⟩
  | 100 => ⟨S18432x7168, .f32⟩
  | 101 => ⟨S18432x7168, .f32⟩
  | 102 => ⟨S18432x7168, .f32⟩
  | 103 => ⟨S1x4096x7168, .f32⟩
  | 104 => ⟨S4096x7168, .f32⟩
  | 105 => ⟨S18432x7168, .f32⟩
  | 106 => ⟨S18432x7168, .f32⟩
  | 107 => ⟨S18432x7168, .f32⟩
  | 108 => ⟨S18432x7168, .f32⟩
  | 109 => ⟨S18432x7168, .f32⟩
  | 110 => ⟨S1, .i32⟩
  | 111 => ⟨S_, .i32⟩
  | 112 => ⟨S18432, .i32⟩
  | 113 => ⟨S18432, .i1⟩
  | 114 => ⟨S1, .i32⟩
  | 115 => ⟨S_, .i32⟩
  | 116 => ⟨S1, .i32⟩
  | 117 => ⟨S_, .i32⟩
  | 118 => ⟨S_, .i32⟩
  | 119 => ⟨S18432, .i32⟩
  | 120 => ⟨S18432, .i1⟩
  | 121 => ⟨S18432, .i1⟩
  | 122 => ⟨S18432, .f32⟩
  | 123 => ⟨S18432x1, .f32⟩
  | 124 => ⟨S1x4096x7168, .f32⟩
  | 125 => ⟨S4096x7168, .f32⟩
  | 126 => ⟨S18432x7168, .f32⟩
  | 127 => ⟨S18432x7168, .f32⟩
  | _ => ⟨S18432x2048, .i32⟩

abbrev hbmTy0_1 (i : Nat) : BufTy := match i % 128 with
  | 0 => ⟨S18432x7168, .f32⟩
  | 1 => ⟨S_, .f32⟩
  | 2 => ⟨S18432x7168, .f32⟩
  | 3 => ⟨S18432x7168, .f32⟩
  | 4 => ⟨S_, .f32⟩
  | 5 => ⟨S18432x7168, .f32⟩
  | 6 => ⟨S18432x7168, .f32⟩
  | 7 => ⟨S18432x7168, .f32⟩
  | 8 => ⟨S1x4096x7168, .f32⟩
  | 9 => ⟨S4096x7168, .f32⟩
  | 10 => ⟨S18432x7168, .f32⟩
  | 11 => ⟨S18432x7168, .f32⟩
  | 12 => ⟨S18432x7168, .f32⟩
  | 13 => ⟨S18432x7168, .f32⟩
  | 14 => ⟨S18432x7168, .f32⟩
  | 15 => ⟨S1, .i32⟩
  | 16 => ⟨S_, .i32⟩
  | 17 => ⟨S18432, .i32⟩
  | 18 => ⟨S18432, .i1⟩
  | 19 => ⟨S1, .i32⟩
  | 20 => ⟨S_, .i32⟩
  | 21 => ⟨S1, .i32⟩
  | 22 => ⟨S_, .i32⟩
  | 23 => ⟨S_, .i32⟩
  | 24 => ⟨S18432, .i32⟩
  | 25 => ⟨S18432, .i1⟩
  | 26 => ⟨S18432, .i1⟩
  | 27 => ⟨S18432, .f32⟩
  | 28 => ⟨S18432x1, .f32⟩
  | 29 => ⟨S1x4096x7168, .f32⟩
  | 30 => ⟨S4096x7168, .f32⟩
  | 31 => ⟨S18432x7168, .f32⟩
  | 32 => ⟨S18432x7168, .f32⟩
  | 33 => ⟨S18432x7168, .f32⟩
  | 34 => ⟨S_, .f32⟩
  | 35 => ⟨S18432x7168, .f32⟩
  | 36 => ⟨S18432x7168, .f32⟩
  | 37 => ⟨S_, .f32⟩
  | 38 => ⟨S18432x7168, .f32⟩
  | 39 => ⟨S18432x7168, .f32⟩
  | 40 => ⟨S18432x7168, .f32⟩
  | 41 => ⟨S1x4096x7168, .f32⟩
  | 42 => ⟨S4096x7168, .f32⟩
  | 43 => ⟨S18432x7168, .f32⟩
  | 44 => ⟨S18432x7168, .f32⟩
  | 45 => ⟨S18432x7168, .f32⟩
  | 46 => ⟨S18432x7168, .f32⟩
  | 47 => ⟨S18432x7168, .f32⟩
  | 48 => ⟨S1, .i32⟩
  | 49 => ⟨S_, .i32⟩
  | 50 => ⟨S18432, .i32⟩
  | 51 => ⟨S18432, .i1⟩
  | 52 => ⟨S1, .i32⟩
  | 53 => ⟨S_, .i32⟩
  | 54 => ⟨S1, .i32⟩
  | 55 => ⟨S_, .i32⟩
  | 56 => ⟨S_, .i32⟩
  | 57 => ⟨S18432, .i32⟩
  | 58 => ⟨S18432, .i1⟩
  | 59 => ⟨S18432, .i1⟩
  | 60 => ⟨S18432, .f32⟩
  | 61 => ⟨S18432x1, .f32⟩
  | 62 => ⟨S1x4096x7168, .f32⟩
  | 63 => ⟨S4096x7168, .f32⟩
  | 64 => ⟨S18432x7168, .f32⟩
  | 65 => ⟨S18432x7168, .f32⟩
  | 66 => ⟨S18432x7168, .f32⟩
  | 67 => ⟨S_, .f32⟩
  | 68 => ⟨S18432x7168, .f32⟩
  | 69 => ⟨S18432x7168, .f32⟩
  | 70 => ⟨S_, .f32⟩
  | 71 => ⟨S18432x7168, .f32⟩
  | 72 => ⟨S18432x7168, .f32⟩
  | 73 => ⟨S18432x7168, .f32⟩
  | 74 => ⟨S1x4096x7168, .f32⟩
  | 75 => ⟨S4096x7168, .f32⟩
  | 76 => ⟨S18432x7168, .f32⟩
  | 77 => ⟨S18432x7168, .f32⟩
  | 78 => ⟨S18432x7168, .f32⟩
  | 79 => ⟨S18432x7168, .f32⟩
  | 80 => ⟨S18432x7168, .f32⟩
  | 81 => ⟨S1, .i32⟩
  | 82 => ⟨S_, .i32⟩
  | 83 => ⟨S18432, .i32⟩
  | 84 => ⟨S18432, .i1⟩
  | 85 => ⟨S1, .i32⟩
  | 86 => ⟨S_, .i32⟩
  | 87 => ⟨S1, .i32⟩
  | 88 => ⟨S_, .i32⟩
  | 89 => ⟨S_, .i32⟩
  | 90 => ⟨S18432, .i32⟩
  | 91 => ⟨S18432, .i1⟩
  | 92 => ⟨S18432, .i1⟩
  | 93 => ⟨S18432, .f32⟩
  | 94 => ⟨S18432x1, .f32⟩
  | 95 => ⟨S1x4096x7168, .f32⟩
  | 96 => ⟨S4096x7168, .f32⟩
  | 97 => ⟨S18432x7168, .f32⟩
  | 98 => ⟨S18432x7168, .f32⟩
  | 99 => ⟨S18432x7168, .f32⟩
  | 100 => ⟨S_, .f32⟩
  | 101 => ⟨S18432x7168, .f32⟩
  | 102 => ⟨S18432x7168, .f32⟩
  | 103 => ⟨S_, .f32⟩
  | 104 => ⟨S18432x7168, .f32⟩
  | 105 => ⟨S18432x7168, .f32⟩
  | 106 => ⟨S18432x7168, .f32⟩
  | 107 => ⟨S1x4096x7168, .f32⟩
  | 108 => ⟨S4096x7168, .f32⟩
  | 109 => ⟨S18432x7168, .f32⟩
  | 110 => ⟨S18432x7168, .f32⟩
  | 111 => ⟨S18432x7168, .f32⟩
  | 112 => ⟨S18432x7168, .f32⟩
  | 113 => ⟨S18432x7168, .f32⟩
  | 114 => ⟨S1, .i32⟩
  | 115 => ⟨S_, .i32⟩
  | 116 => ⟨S18432, .i32⟩
  | 117 => ⟨S18432, .i1⟩
  | 118 => ⟨S1, .i32⟩
  | 119 => ⟨S_, .i32⟩
  | 120 => ⟨S1, .i32⟩
  | 121 => ⟨S_, .i32⟩
  | 122 => ⟨S_, .i32⟩
  | 123 => ⟨S18432, .i32⟩
  | 124 => ⟨S18432, .i1⟩
  | 125 => ⟨S18432, .i1⟩
  | 126 => ⟨S18432, .f32⟩
  | 127 => ⟨S18432x1, .f32⟩
  | _ => ⟨S18432x2048, .i32⟩

abbrev hbmTy0_2 (i : Nat) : BufTy := match i % 128 with
  | 0 => ⟨S1x4096x7168, .f32⟩
  | 1 => ⟨S4096x7168, .f32⟩
  | 2 => ⟨S18432x7168, .f32⟩
  | 3 => ⟨S18432x7168, .f32⟩
  | 4 => ⟨S18432x7168, .f32⟩
  | 5 => ⟨S_, .f32⟩
  | 6 => ⟨S18432x7168, .f32⟩
  | 7 => ⟨S18432x7168, .f32⟩
  | 8 => ⟨S_, .f32⟩
  | 9 => ⟨S18432x7168, .f32⟩
  | 10 => ⟨S18432x7168, .f32⟩
  | 11 => ⟨S18432x7168, .f32⟩
  | 12 => ⟨S1x4096x7168, .f32⟩
  | 13 => ⟨S4096x7168, .f32⟩
  | 14 => ⟨S18432x7168, .f32⟩
  | 15 => ⟨S18432x7168, .f32⟩
  | 16 => ⟨S18432x7168, .f32⟩
  | 17 => ⟨S18432x7168, .f32⟩
  | 18 => ⟨S18432x7168, .f32⟩
  | 19 => ⟨S1, .i32⟩
  | 20 => ⟨S_, .i32⟩
  | 21 => ⟨S18432, .i32⟩
  | 22 => ⟨S18432, .i1⟩
  | 23 => ⟨S1, .i32⟩
  | 24 => ⟨S_, .i32⟩
  | 25 => ⟨S1, .i32⟩
  | 26 => ⟨S_, .i32⟩
  | 27 => ⟨S_, .i32⟩
  | 28 => ⟨S18432, .i32⟩
  | 29 => ⟨S18432, .i1⟩
  | 30 => ⟨S18432, .i1⟩
  | 31 => ⟨S18432, .f32⟩
  | 32 => ⟨S18432x1, .f32⟩
  | 33 => ⟨S1x4096x7168, .f32⟩
  | 34 => ⟨S4096x7168, .f32⟩
  | 35 => ⟨S18432x7168, .f32⟩
  | 36 => ⟨S18432x7168, .f32⟩
  | 37 => ⟨S18432x7168, .f32⟩
  | 38 => ⟨S_, .f32⟩
  | 39 => ⟨S18432x7168, .f32⟩
  | 40 => ⟨S18432x7168, .f32⟩
  | 41 => ⟨S_, .f32⟩
  | 42 => ⟨S18432x7168, .f32⟩
  | 43 => ⟨S18432x7168, .f32⟩
  | 44 => ⟨S18432x7168, .f32⟩
  | 45 => ⟨S1x4096x7168, .f32⟩
  | 46 => ⟨S4096x7168, .f32⟩
  | 47 => ⟨S18432x7168, .f32⟩
  | 48 => ⟨S18432x7168, .f32⟩
  | 49 => ⟨S18432x7168, .f32⟩
  | 50 => ⟨S18432x7168, .f32⟩
  | 51 => ⟨S18432x7168, .f32⟩
  | 52 => ⟨S18432x7168, .bf16⟩
  | _ => ⟨S18432x2048, .i32⟩

abbrev hbmTy (i : Nat) : BufTy := match i / 128 with
  | 0 => hbmTy0_0 i
  | 1 => hbmTy0_1 i
  | 2 => hbmTy0_2 i
  | _ => ⟨S18432x2048, .i32⟩

abbrev bufTy : (tb : Table) → Fin (tcTables nBuf tb) → BufTy
  | .hbm, ⟨i, _⟩ => hbmTy i
  | _, _ => ⟨S18432x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_c_3 : Ref sig .tc := ⟨.hbm, 34, rfl⟩
abbrev main_v10 : Ref sig .tc := ⟨.hbm, 35, rfl⟩
abbrev main_v11 : Ref sig .tc := ⟨.hbm, 36, rfl⟩
abbrev main_call1_call0_c : Ref sig .tc := ⟨.hbm, 37, rfl⟩
abbrev main_call1_call0_v0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_call6_v0 : Ref sig .tc := ⟨.hbm, 193, rfl⟩
abbrev main_call6_v1 : Ref sig .tc := ⟨.hbm, 194, rfl⟩
abbrev main_call6_cst : Ref sig .tc := ⟨.hbm, 195, rfl⟩
abbrev main_call6_v2 : Ref sig .tc := ⟨.hbm, 196, rfl⟩
abbrev main_call6_v3 : Ref sig .tc := ⟨.hbm, 197, rfl⟩
abbrev main_call6_cst_0 : Ref sig .tc := ⟨.hbm, 198, rfl⟩
abbrev main_call6_v4 : Ref sig .tc := ⟨.hbm, 199, rfl⟩
abbrev main_call6_v5 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_call7_v0 : Ref sig .tc := ⟨.hbm, 226, rfl⟩
abbrev main_call7_v1 : Ref sig .tc := ⟨.hbm, 227, rfl⟩
abbrev main_call7_cst : Ref sig .tc := ⟨.hbm, 228, rfl⟩
abbrev main_call7_v2 : Ref sig .tc := ⟨.hbm, 229, rfl⟩
abbrev main_call7_v3 : Ref sig .tc := ⟨.hbm, 230, rfl⟩
abbrev main_call7_cst_0 : Ref sig .tc := ⟨.hbm, 231, rfl⟩
abbrev main_call7_v4 : Ref sig .tc := ⟨.hbm, 232, rfl⟩
abbrev main_call7_v5 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_call8_v0 : Ref sig .tc := ⟨.hbm, 259, rfl⟩
abbrev main_call8_v1 : Ref sig .tc := ⟨.hbm, 260, rfl⟩
abbrev main_call8_cst : Ref sig .tc := ⟨.hbm, 261, rfl⟩
abbrev main_call8_v2 : Ref sig .tc := ⟨.hbm, 262, rfl⟩
abbrev main_call8_v3 : Ref sig .tc := ⟨.hbm, 263, rfl⟩
abbrev main_call8_cst_0 : Ref sig .tc := ⟨.hbm, 264, rfl⟩
abbrev main_call8_v4 : Ref sig .tc := ⟨.hbm, 265, rfl⟩
abbrev main_call8_v5 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_call9_v0 : Ref sig .tc := ⟨.hbm, 292, rfl⟩
abbrev main_call9_v1 : Ref sig .tc := ⟨.hbm, 293, rfl⟩
abbrev main_call9_cst : Ref sig .tc := ⟨.hbm, 294, rfl⟩
abbrev main_call9_v2 : Ref sig .tc := ⟨.hbm, 295, rfl⟩
abbrev main_call9_v3 : Ref sig .tc := ⟨.hbm, 296, rfl⟩
abbrev main_call9_cst_0 : Ref sig .tc := ⟨.hbm, 297, rfl⟩
abbrev main_call9_v4 : Ref sig .tc := ⟨.hbm, 298, rfl⟩
abbrev main_call9_v5 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩

abbrev nD : Nat := 1
abbrev τ : Topo := Topo.v7x

variable {F : FTy → Type} [FloatOps F]
-- ==== Kernel2.lean ====
abbrev S18432x7168 : Shape := ⟨2, ![18432, 7168]⟩
abbrev S8 : Shape := ⟨1, ![8]⟩
abbrev S8x7168x4096 : Shape := ⟨3, ![8, 7168, 4096]⟩
abbrev S_ : Shape := ⟨0, ![]⟩
abbrev S1 : Shape := ⟨1, ![1]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S71 : Shape := ⟨1, ![71]⟩
abbrev S18432x4096 : Shape := ⟨2, ![18432, 4096]⟩
abbrev S256x7168 : Shape := ⟨2, ![256, 7168]⟩
abbrev S1x7168x512 : Shape := ⟨3, ![1, 7168, 512]⟩
abbrev S256x512 : Shape := ⟨2, ![256, 512]⟩
abbrev S7168x512 : Shape := ⟨2, ![7168, 512]⟩

abbrev nBuf : Space → Nat
  | .hbm => 88
  | .vmem => 7
  | .smem => 3
  | _ => 0

abbrev bufTy : (tb : Table) → Fin (tcTables nBuf tb) → BufTy
  | .hbm, ⟨0, _⟩ => ⟨S18432x7168, .bf16⟩
  | .hbm, ⟨1, _⟩ => ⟨S8, .i32⟩
  | .hbm, ⟨2, _⟩ => ⟨S8x7168x4096, .f32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S1, .i32⟩
  | .hbm, ⟨32, _⟩ => ⟨S_, .i32⟩
  | .hbm, ⟨33, _⟩ => ⟨S72, .i32⟩
  | .hbm, ⟨34, _⟩ => ⟨S_, .i32⟩
  | .hbm, ⟨35, _⟩ => ⟨S_, .i32⟩
  | .hbm, ⟨36, _⟩ => ⟨S72, .i32⟩
  | .hbm, ⟨37, _⟩ => ⟨S72, .i32⟩
  | .hbm, ⟨38, _⟩ => ⟨S72x1, .i32⟩
  | .hbm, ⟨39, _⟩ => ⟨S1x8, .i32⟩
  | .hbm, ⟨40, _⟩ => ⟨S72x8, .i32⟩
  | .hbm, ⟨41, _⟩ => ⟨S72x8, .i32⟩
  | .hbm, ⟨42, _⟩ => ⟨S72x8, .i1⟩
  | .hbm, ⟨43, _⟩ => ⟨S72x8, .i32⟩
  | .hbm, ⟨44, _⟩ => ⟨S_, .i32⟩
  | .hbm, ⟨45, _⟩ => ⟨S72, .i32⟩
  | .hbm, ⟨46, _⟩ => ⟨S72, .i1⟩
  | .hbm, ⟨47, _⟩ => ⟨S_, .i32⟩
  | .hbm, ⟨48, _⟩ => ⟨S72, .i32⟩
  | .hbm, ⟨49, _⟩ => ⟨S72, .i1⟩
  | .hbm, ⟨50, _⟩ => ⟨S_, .i32⟩
  | .hbm, ⟨51, _⟩ => ⟨S72, .i32⟩
  | .hbm, ⟨52, _⟩ => ⟨S72, .i32⟩
  | .hbm, ⟨53, _⟩ => ⟨S72, .i32⟩
  | .hbm, ⟨54, _⟩ => ⟨S72x1, .i32⟩
  | .hbm, ⟨55, _⟩ => ⟨S72, .i32⟩
  | .hbm, ⟨56, _⟩ => ⟨S_, .i32⟩
  | .hbm, ⟨57, _⟩ => ⟨S72, .i32⟩
  | .hbm, ⟨58, _⟩ => ⟨S72, .i1⟩
  | .hbm, ⟨59, _⟩ => ⟨S_, .i32⟩
  | .hbm, ⟨60, _⟩ => ⟨S72, .i32⟩
  | .hbm, ⟨61, _⟩ => ⟨S72, .i32⟩
  | .hbm, ⟨62, _⟩ => ⟨S72, .i32⟩
  | .hbm, ⟨63, _⟩ => ⟨S72x1, .i32⟩
  | .hbm, ⟨64, _⟩ => ⟨S72, .i32⟩
  | .hbm, ⟨65, _⟩ => ⟨S72, .i32⟩
  | .hbm, ⟨66, _⟩ => ⟨S_, .i32⟩
  | .hbm, ⟨67, _⟩ => ⟨S72, .i32⟩
  | .hbm, ⟨68, _⟩ => ⟨S72, .i32⟩
  | .hbm, ⟨69, _⟩ => ⟨S72, .i32⟩
  | .hbm, ⟨70, _⟩ => ⟨S_, .i32⟩
  | .hbm, ⟨71, _⟩ => ⟨S72, .i32⟩
  | .hbm, ⟨72, _⟩ => ⟨S72, .i32⟩
  | .hbm, ⟨73, _⟩ => ⟨S_, .i32⟩
  | .hbm, ⟨74, _⟩ => ⟨S_, .i32⟩
  | .hbm, ⟨75, _⟩ => ⟨S72, .i32⟩
  | .hbm, ⟨76, _⟩ => ⟨S_, .i32⟩
  | .hbm, ⟨77, _⟩ => ⟨S1, .i32⟩
  | .hbm, ⟨78, _⟩ => ⟨S71, .i32⟩
  | .hbm, ⟨79, _⟩ => ⟨S72, .i32⟩
  | .hbm, ⟨80, _⟩ => ⟨S72, .i1⟩
  | .hbm, ⟨81, _⟩ => ⟨S72, .i32⟩
  | .hbm, ⟨82, _⟩ => ⟨S72, .i1⟩
  | .hbm, ⟨83, _⟩ => ⟨S72, .i1⟩
  | .hbm, ⟨84, _⟩ => ⟨S_, .i32⟩
  | .hbm, ⟨85, _⟩ => ⟨S8, .i32⟩
  | .hbm, ⟨86, _⟩ => ⟨S8, .i32⟩
  | .hbm, ⟨87, _⟩ => ⟨S18432x4096, .f32⟩
  | .local _ .vmem, ⟨0, _⟩ => ⟨S256x7168, .bf16⟩
  | .local _ .vmem, ⟨1, _⟩ => ⟨S256x7168, .bf16⟩
  | .local _ .vmem, ⟨2, _⟩ => ⟨S1x7168x512, .f32⟩
  | .local _ .vmem, ⟨3, _⟩ => ⟨S1x7168x512, .f32⟩
  | .local _ .vmem, ⟨4, _⟩ => ⟨S256x512, .f32⟩
  | .local _ .vmem, ⟨5, _⟩ => ⟨S256x512, .f32⟩
  | .local _ .vmem, ⟨6, _⟩ => ⟨S7168x512, .bf16⟩
  | .local _ .smem, ⟨0, _⟩ => ⟨S72, .i32⟩
  | .local _ .smem, ⟨1, _⟩ => ⟨S72, .i32⟩
  | .local _ .smem, ⟨2, _⟩ => ⟨S72, .i32⟩
  | _, _ => ⟨S18432x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_call1_call0_c : Ref sig .tc := ⟨.hbm, 27, rfl⟩
abbrev main_call1_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_call2_v0 : Ref sig .tc := ⟨.hbm, 74, rfl⟩
abbrev main_call2_v1 : Ref sig .tc := ⟨.hbm, 75, rfl⟩
abbrev main_c_11 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v19 : Ref sig .tc := ⟨.smem, 0, rfl⟩
abbrev main_v42 : Ref sig .tc := ⟨.smem, 1, rfl⟩
abbrev main_v50 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 72], ![false, false]⟩

abbrev pre0 : Pipeline.Prefetch sig := ⟨3, ![main_v19.idx, main_v42.idx, main_v50.idx], fun | 0 => main_v19.names | 1 => main_v42.names | 2 => main_v50.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v10 : Index := Scalar.indexCast arg1
  ![v10.toNat]
def k0_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def k0_cond3 (v11 : BitVec 32) : BitVec 1 :=
  let c0_i32_2 : BitVec 32 := 0#32
  let v12 : BitVec 1 := Scalar.cmpi .eq v11 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S18432x7168 : Shape := ⟨2, ![18432, 7168]⟩
abbrev S8 : Shape := ⟨1, ![8]⟩
abbrev S8x7168x4096 : Shape := ⟨3, ![8, 7168, 4096]⟩
abbrev S_ : Shape := ⟨0, ![]⟩
abbrev S18432 : Shape := ⟨1, ![18432]⟩
abbrev S18432x4096 : Shape := ⟨2, ![18432, 4096]⟩
abbrev S1 : Shape := ⟨1, ![1]⟩
abbrev S18432x1 : Shape := ⟨2, ![18432, 1]⟩
abbrev S1x7168x4096 : Shape := ⟨3, ![1, 7168, 4096]⟩
abbrev S7168x4096 : Shape := ⟨2, ![7168, 4096]⟩

abbrev nBuf : Space → Nat
  | .hbm => 194
  | .vmem => 0
  | .smem => 0
  | _ => 0

abbrev hbmTy0_0 (i : Nat) : BufTy := match i % 128 with
  | 0 => ⟨S18432x7168, .bf16⟩
  | 1 => ⟨S8, .i32⟩
  | 2 => ⟨S8x7168x4096, .f32⟩
  | 3 => ⟨S18432x7168, .f32⟩
  | 4 => ⟨S_, .i32⟩
  | 5 => ⟨S8, .i32⟩
  | 6 => ⟨S8, .i32⟩
  | 7 => ⟨S_, .i32⟩
  | 8 => ⟨S_, .i32⟩
  | 9 => ⟨S8, .i32⟩
  | 10 => ⟨S8, .i32⟩
  | 11 => ⟨S8, .i32⟩
  | 12 => ⟨S_, .i32⟩
  | 13 => ⟨S8, .i32⟩
  | 14 => ⟨S8, .i1⟩
  | 15 => ⟨S8, .i32⟩
  | 16 => ⟨S8, .i32⟩
  | 17 => ⟨S_, .i32⟩
  | 18 => ⟨S8, .i32⟩
  | 19 => ⟨S8, .i1⟩
  | 20 => ⟨S8, .i1⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S_, .i32⟩
  | 30 => ⟨S8, .i32⟩
  | 31 => ⟨S18432, .i32⟩
  | 32 => ⟨S_, .f32⟩
  | 33 => ⟨S18432x4096, .f32⟩
  | 34 => ⟨S1, .i32⟩
  | 35 => ⟨S_, .i32⟩
  | 36 => ⟨S1, .i32⟩
  | 37 => ⟨S_, .i32⟩
  | 38 => ⟨S_, .i32⟩
  | 39 => ⟨S18432, .i32⟩
  | 40 => ⟨S18432, .i1⟩
  | 41 => ⟨S1, .i32⟩
  | 42 => ⟨S_, .i32⟩
  | 43 => ⟨S18432, .i32⟩
  | 44 => ⟨S18432, .i1⟩
  | 45 => ⟨S18432, .i1⟩
  | 46 => ⟨S18432, .f32⟩
  | 47 => ⟨S18432x1, .f32⟩
  | 48 => ⟨S1x7168x4096, .f32⟩
  | 49 => ⟨S7168x4096, .f32⟩
  | 50 => ⟨S18432x4096, .f32⟩
  | 51 => ⟨S18432x4096, .f32⟩
  | 52 => ⟨S18432x4096, .f32⟩
  | 53 => ⟨S18432x4096, .f32⟩
  | 54 => ⟨S1, .i32⟩
  | 55 => ⟨S_, .i32⟩
  | 56 => ⟨S1, .i32⟩
  | 57 => ⟨S_, .i32⟩
  | 58 => ⟨S_, .i32⟩
  | 59 => ⟨S18432, .i32⟩
  | 60 => ⟨S18432, .i1⟩
  | 61 => ⟨S1, .i32⟩
  | 62 => ⟨S_, .i32⟩
  | 63 => ⟨S18432, .i32⟩
  | 64 => ⟨S18432, .i1⟩
  | 65 => ⟨S18432, .i1⟩
  | 66 => ⟨S18432, .f32⟩
  | 67 => ⟨S18432x1, .f32⟩
  | 68 => ⟨S1x7168x4096, .f32⟩
  | 69 => ⟨S7168x4096, .f32⟩
  | 70 => ⟨S18432x4096, .f32⟩
  | 71 => ⟨S18432x4096, .f32⟩
  | 72 => ⟨S18432x4096, .f32⟩
  | 73 => ⟨S18432x4096, .f32⟩
  | 74 => ⟨S1, .i32⟩
  | 75 => ⟨S_, .i32⟩
  | 76 => ⟨S1, .i32⟩
  | 77 => ⟨S_, .i32⟩
  | 78 => ⟨S_, .i32⟩
  | 79 => ⟨S18432, .i32⟩
  | 80 => ⟨S18432, .i1⟩
  | 81 => ⟨S1, .i32⟩
  | 82 => ⟨S_, .i32⟩
  | 83 => ⟨S18432, .i32⟩
  | 84 => ⟨S18432, .i1⟩
  | 85 => ⟨S18432, .i1⟩
  | 86 => ⟨S18432, .f32⟩
  | 87 => ⟨S18432x1, .f32⟩
  | 88 => ⟨S1x7168x4096, .f32⟩
  | 89 => ⟨S7168x4096, .f32⟩
  | 90 => ⟨S18432x4096, .f32⟩
  | 91 => ⟨S18432x4096, .f32⟩
  | 92 => ⟨S18432x4096, .f32⟩
  | 93 => ⟨S18432x4096, .f32⟩
  | 94 => ⟨S1, .i32⟩
  | 95 => ⟨S_, .i32⟩
  | 96 => ⟨S1, .i32⟩
  | 97 => ⟨S_, .i32⟩
  | 98 => ⟨S_, .i32⟩
  | 99 => ⟨S18432, .i32⟩
  | 100 => ⟨S18432, .i1⟩
  | 101 => ⟨S1, .i32⟩
  | 102 => ⟨S_, .i32⟩
  | 103 => ⟨S18432, .i32⟩
  | 104 => ⟨S18432, .i1⟩
  | 105 => ⟨S18432, .i1⟩
  | 106 => ⟨S18432, .f32⟩
  | 107 => ⟨S18432x1, .f32⟩
  | 108 => ⟨S1x7168x4096, .f32⟩
  | 109 => ⟨S7168x4096, .f32⟩
  | 110 => ⟨S18432x4096, .f32⟩
  | 111 => ⟨S18432x4096, .f32⟩
  | 112 => ⟨S18432x4096, .f32⟩
  | 113 => ⟨S18432x4096, .f32⟩
  | 114 => ⟨S1, .i32⟩
  | 115 => ⟨S_, .i32⟩
  | 116 => ⟨S1, .i32⟩
  | 117 => ⟨S_, .i32⟩
  | 118 => ⟨S_, .i32⟩
  | 119 => ⟨S18432, .i32⟩
  | 120 => ⟨S18432, .i1⟩
  | 121 => ⟨S1, .i32⟩
  | 122 => ⟨S_, .i32⟩
  | 123 => ⟨S18432, .i32⟩
  | 124 => ⟨S18432, .i1⟩
  | 125 => ⟨S18432, .i1⟩
  | 126 => ⟨S18432, .f32⟩
  | 127 => ⟨S18432x1, .f32⟩
  | _ => ⟨S18432x7168, .bf16⟩

abbrev hbmTy0_1 (i : Nat) : BufTy := match i % 128 with
  | 0 => ⟨S1x7168x4096, .f32⟩
  | 1 => ⟨S7168x4096, .f32⟩
  | 2 => ⟨S18432x4096, .f32⟩
  | 3 => ⟨S18432x4096, .f32⟩
  | 4 => ⟨S18432x4096, .f32⟩
  | 5 => ⟨S18432x4096, .f32⟩
  | 6 => ⟨S1, .i32⟩
  | 7 => ⟨S_, .i32⟩
  | 8 => ⟨S1, .i32⟩
  | 9 => ⟨S_, .i32⟩
  | 10 => ⟨S_, .i32⟩
  | 11 => ⟨S18432, .i32⟩
  | 12 => ⟨S18432, .i1⟩
  | 13 => ⟨S1, .i32⟩
  | 14 => ⟨S_, .i32⟩
  | 15 => ⟨S18432, .i32⟩
  | 16 => ⟨S18432, .i1⟩
  | 17 => ⟨S18432, .i1⟩
  | 18 => ⟨S18432, .f32⟩
  | 19 => ⟨S18432x1, .f32⟩
  | 20 => ⟨S1x7168x4096, .f32⟩
  | 21 => ⟨S7168x4096, .f32⟩
  | 22 => ⟨S18432x4096, .f32⟩
  | 23 => ⟨S18432x4096, .f32⟩
  | 24 => ⟨S18432x4096, .f32⟩
  | 25 => ⟨S18432x4096, .f32⟩
  | 26 => ⟨S1, .i32⟩
  | 27 => ⟨S_, .i32⟩
  | 28 => ⟨S1, .i32⟩
  | 29 => ⟨S_, .i32⟩
  | 30 => ⟨S_, .i32⟩
  | 31 => ⟨S18432, .i32⟩
  | 32 => ⟨S18432, .i1⟩
  | 33 => ⟨S1, .i32⟩
  | 34 => ⟨S_, .i32⟩
  | 35 => ⟨S18432, .i32⟩
  | 36 => ⟨S18432, .i1⟩
  | 37 => ⟨S18432, .i1⟩
  | 38 => ⟨S18432, .f32⟩
  | 39 => ⟨S18432x1, .f32⟩
  | 40 => ⟨S1x7168x4096, .f32⟩
  | 41 => ⟨S7168x4096, .f32⟩
  | 42 => ⟨S18432x4096, .f32⟩
  | 43 => ⟨S18432x4096, .f32⟩
  | 44 => ⟨S18432x4096, .f32⟩
  | 45 => ⟨S18432x4096, .f32⟩
  | 46 => ⟨S1, .i32⟩
  | 47 => ⟨S_, .i32⟩
  | 48 => ⟨S1, .i32⟩
  | 49 => ⟨S_, .i32⟩
  | 50 => ⟨S_, .i32⟩
  | 51 => ⟨S18432, .i32⟩
  | 52 => ⟨S18432, .i1⟩
  | 53 => ⟨S1, .i32⟩
  | 54 => ⟨S_, .i32⟩
  | 55 => ⟨S18432, .i32⟩
  | 56 => ⟨S18432, .i1⟩
  | 57 => ⟨S18432, .i1⟩
  | 58 => ⟨S18432, .f32⟩
  | 59 => ⟨S18432x1, .f32⟩
  | 60 => ⟨S1x7168x4096, .f32⟩
  | 61 => ⟨S7168x4096, .f32⟩
  | 62 => ⟨S18432x4096, .f32⟩
  | 63 => ⟨S18432x4096, .f32⟩
  | 64 => ⟨S18432x4096, .f32⟩
  | 65 => ⟨S18432x4096, .f32⟩
  | _ => ⟨S18432x7168, .bf16⟩

abbrev hbmTy (i : Nat) : BufTy := match i / 128 with
  | 0 => hbmTy0_0 i
  | 1 => hbmTy0_1 i
  | _ => ⟨S18432x7168, .bf16⟩

abbrev bufTy : (tb : Table) → Fin (tcTables nBuf tb) → BufTy
  | .hbm, ⟨i, _⟩ => hbmTy i
  | _, _ => ⟨S18432x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_call1_call0_c : Ref sig .tc := ⟨.hbm, 28, rfl⟩
abbrev main_call1_call0_v0 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word a table of one entry per tile holds for the point's tile. -/
def word (tab : Vec F S72 .i32) (i : grid0.Coords) : BitVec 32 := tab (fun a => ⟨(i 1).val, match a with | ⟨0, _⟩ => (i 1).isLt⟩)

/-- What the body leaves in a weight scratch: the weights of the point's expert where its run opens, the scratch as it was elsewhere. -/
def scr (fl : BitVec 32) (new old : Vec F S4096x512 .bf16) : Vec F S4096x512 .bf16 := if fl = 1#32 then new else old

/-- What the body leaves in the output block. -/
def outBlk (nr : BitVec 32) (x5 : Vec F S256x2048 .i32) (w1 w2 : Vec F S4096x512 .bf16) : Vec F S256x512 .bf16 :=
  if k0_cond2 nr = 1#1 then k0_pay3 x5 nr w1 w2 else k0_pay4

theorem open_cond (w : BitVec 32) : (Scalar.cmpi .ne (Scalar.extui (Scalar.cmpi .eq w 1#32) : BitVec 32) 0#32 = 1#1) ↔ w = 1#32 := by
  by_cases h : w = 1#32
  · subst h; simp only [iff_true]; decide
  · have e : Scalar.cmpi .eq w 1#32 = 0#1 := by rw [show Scalar.cmpi .eq w 1#32 = BitVec.ofBool (w == 1#32) from rfl, beq_eq_false_iff_ne.mpr h]; rfl
    rw [e]
    exact ⟨fun h' => absurd h' (by decide), fun h' => absurd h' h⟩

theorem off1_eq (i : grid0.Coords) : k0_off1 i = ![(i 1).val] := by
  have h : (i 1).val < 72 := (i 1).isLt
  unfold k0_off1
  simp only [Scalar.indexCast]
  congr 1
  simp
  omega

/-- A word load of a whole table reads the table's entry of the point's tile. -/
theorem readWord (i : grid0.Coords) (arg : Memref sig .tc .smem S72 .i32) (harg : arg.IsWhole) (tab : Vec F S72 .i32) (off : Fin 1 → Nat)
    (hoff : off = ![(i 1).val]) (inb) (h1) :
    View.readAt (Elt F) arg.view (Rect.unit (s := S72) off S1.size inb).toLoadRect (harg.unread tab) (Shape.Idx.first h1) = word tab i := by
  subst hoff
  rw [View.readAt_apply, harg.read_unread]
  unfold word
  congr 1
  funext a
  apply Fin.ext
  match a with
  | ⟨0, _⟩ => rfl

set_option maxHeartbeats 1000000 in
/-- The body at a point whose row count is not negative. -/
theorem run_body (c : Dev nD) (i : grid0.Coords)
    (arg2 : Memref sig .tc .smem S72 .i32) (harg2 : arg2.IsWhole) (arg3 : Memref sig .tc .smem S72 .i32) (harg3 : arg3.IsWhole)
    (arg4 : Memref sig .tc .smem S72 .i32) (harg4 : arg4.IsWhole) (arg5 : Memref sig .tc .vmem S256x2048 .i32) (harg5 : arg5.IsWhole)
    (arg6 : Memref sig .tc .vmem S1x4096x512 .f32) (harg6 : arg6.IsWhole) (arg7 : Memref sig .tc .vmem S1x4096x512 .f32) (harg7 : arg7.IsWhole)
    (arg8 : Memref sig .tc .vmem S256x512 .bf16) (harg8 : arg8.IsWhole) (arg9 : Memref sig .tc .vmem S4096x512 .bf16) (harg9 : arg9.IsWhole)
    (arg10 : Memref sig .tc .vmem S4096x512 .bf16) (harg10 : arg10.IsWhole) (q : PosShare TreeShare)
    (nr fl : Vec F S72 .i32) (x5 : Vec F S256x2048 .i32) (x6 x7 : Vec F S1x4096x512 .f32) (x9 x10 : Vec F S4096x512 .bf16)
    (hnr : k0_cond3 (word nr i) = 1#1 ↔ ¬ k0_cond2 (word nr i) = 1#1)
    (E : Set ℕ) (K : PUnit → sProp (MT nD τ sig Unit (Elt F) ℕ (UR sig nD τ) ℕ)) :
    iprop(owns (c : Thread nD τ) arg3 q nr ∗ owns (c : Thread nD τ) arg4 q fl ∗ owns (c : Thread nD τ) arg5 fullShare x5
        ∗ owns (c : Thread nD τ) arg6 fullShare x6 ∗ owns (c : Thread nD τ) arg7 fullShare x7 ∗ (∃ d, owns (c : Thread nD τ) arg8 fullShare d)
        ∗ owns (c : Thread nD τ) arg9 fullShare x9 ∗ owns (c : Thread nD τ) arg10 fullShare x10
        ∗ (iprop(owns (c : Thread nD τ) arg3 q nr ∗ owns (c : Thread nD τ) arg4 q fl ∗ owns (c : Thread nD τ) arg5 fullShare x5
            ∗ owns (c : Thread nD τ) arg6 fullShare x6 ∗ owns (c : Thread nD τ) arg7 fullShare x7
            ∗ owns (c : Thread nD τ) arg8 fullShare (outBlk (word nr i) x5 (scr (word fl i) (k0_pay1 x6) x9) (scr (word fl i) (k0_pay2 x7) x10))
            ∗ owns (c : Thread nD τ) arg9 fullShare (scr (word fl i) (k0_pay1 x6) x9)
            ∗ owns (c : Thread nD τ) arg10 fullShare (scr (word fl i) (k0_pay2 x7) x10)) -∗ K ⟨⟩))
      ⊢ wp frame (wpE (defs₀ (F := F)) Variants.none c none) E
          (cc0_expert_gate_up i arg2 harg2 arg3 harg3 arg4 harg4 arg5 harg5 arg6 harg6 arg7 harg7 arg8 harg8 arg9 harg9 arg10 harg10) K := by
  simp only [cc0_expert_gate_up_eq_skeleton]; unfold cc0_expert_gate_up_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg9.eq_unread hf9; obtain rfl := harg10.eq_unread hf10
  sl_exec
  sl_step
  have hopen : run_body.sl.v4 c i arg4 harg4 fl = 1#1 ↔ word fl i = 1#32 := by
    rw [← readWord i arg4 harg4 fl _ (off1_eq i)]
    exact open_cond _
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    unfold run_body.sl.r_1 run_body.sl.r_2 run_body.sl.r_3 run_body.sl.v34 run_body.sl.v36
    rw [readWord i arg3 harg3 nr (k0_off4 i) (off1_eq i), readWord i arg3 harg3 nr (k0_off2 i) (off1_eq i), readWord i arg3 harg3 nr (k0_off3 i) (off1_eq i)]
    unfold outBlk scr
    by_cases h2 : k0_cond2 (word nr i) = 1#1
    · rw [dif_neg (fun h => (hnr.mp h) h2), dif_pos h2, if_pos h2, View.read_writes_full]
      by_cases h1 : run_body.sl.v4 c i arg4 harg4 fl = 1#1
      · rw [dif_pos h1, dif_pos h1, if_pos (hopen.mp h1), if_pos (hopen.mp h1)]
        rw [View.readAt_full, View.readAt_full, View.read_writes_full, View.readAt_full, View.readAt_full, View.read_writes_full, View.readAt_full, harg5.read_unread, harg6.read_unread, harg7.read_unread]
      · rw [dif_neg h1, dif_neg h1, if_neg (fun h => h1 (hopen.mpr h)), if_neg (fun h => h1 (hopen.mpr h))]
        rw [View.readAt_full, View.readAt_full, View.readAt_full, harg5.read_unread, harg9.read_unread, harg10.read_unread]
    · rw [dif_pos (hnr.mpr h2), if_neg h2, View.read_writes_full]
  isplitl [H9]
  · iexists _; isplitr; swap; · iexact H9
    ipureintro
    unfold scr
    by_cases h1 : run_body.sl.v4 c i arg4 harg4 fl = 1#1
    · rw [dif_pos h1, if_pos (hopen.mp h1), View.read_writes_full, View.readAt_full, harg6.read_unread]
    · rw [dif_neg h1, if_neg (fun h => h1 (hopen.mpr h)), harg9.read_unread]
  iexists _; isplitr; swap; · iexact H10
  ipureintro
  unfold scr
  by_cases h1 : run_body.sl.v4 c i arg4 harg4 fl = 1#1
  · rw [dif_pos h1, if_pos (hopen.mp h1), View.read_writes_full, View.readAt_full, harg7.read_unread]
  · rw [dif_neg h1, if_neg (fun h => h1 (hopen.mpr h)), harg10.read_unread]

end Cert.KernelIdeal.Experts

end
-- ==== Proof.Run.lean ====
module

public import proofs.«01_k».proof.Proof.Body
public import Idealize.ShloMosaic.Lib.Pipeline.Frame
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three tables, each as its words. -/
abbrev exT (tb : pre0.Contents (Elt F)) : Vec F S72 .i32 := tb 0
abbrev nrT (tb : pre0.Contents (Elt F)) : Vec F S72 .i32 := tb 1
abbrev flT (tb : pre0.Contents (Elt F)) : Vec F S72 .i32 := tb 2

/-- What the run needs of the tables: every expert's block inside the weights, no negative row count, and a tile
    that has rows and does not open an expert's run follows one of the same expert that has rows. -/
structure Good (tb : pre0.Contents (Elt F)) : Prop where
  ok : ok0 tb
  nr : ∀ i : grid0.Coords, k0_cond3 (word (nrT tb) i) = 1#1 ↔ ¬ k0_cond2 (word (nrT tb) i) = 1#1
  carry : ∀ i : grid0.Coords, k0_cond2 (word (nrT tb) i) = 1#1 → word (flT tb) i ≠ 1#32 → ∃ h : 1 ≤ (i 1).val,
    ∀ i' : grid0.Coords, (i' 0).val = (i 0).val → (i' 1).val + 1 = (i 1).val →
      k0_cond2 (word (nrT tb) i') = 1#1 ∧ word (exT tb) i' = word (exT tb) i

variable (tb : pre0.Contents (Elt F)) (hg : Good tb)
variable (V : (c : Dev nD) → (b : Ref sig .tc) → Buf (Elt F) ((c.tc : Thread nD τ).loc b))

/-- The tables as the pipeline's admissible contents. -/
abbrev adm : (p : Fin 1) → (pcfgs (F := F) p).Adm := fun _ => ⟨tb, hg.ok⟩

/-- The pipeline at these tables. -/
abbrev cfgT : Cfg sig Λ₀ := cfg0 (F := F) ⟨tb, hg.ok⟩

/-- Window `w`'s block at point `t`, read off its array as the region finds it. -/
def iblk (c : Dev nD) (w : Fin (cfgT tb hg).W) (t : Fin (cfgT tb hg).N) :
    (((cfgT tb hg).win w).xblock ((cfgT tb hg).grid.coords t)).Idx → Elt F ((cfgT tb hg).win w).elt :=
  (((cfgT tb hg).win w).blk t).view.read (Elt F) (V c (Pipeline.arrRef spec0 w))

/-- The weights the point's expert multiplies by, as the scratches hold them. -/
def wg (c : Dev nD) (t : Fin (cfgT tb hg).N) : Vec F S4096x512 .bf16 := k0_pay1 (iblk tb hg V c 1 t)
def wu (c : Dev nD) (t : Fin (cfgT tb hg).N) : Vec F S4096x512 .bf16 := k0_pay2 (iblk tb hg V c 2 t)

/-- The output block the body leaves at point `t`. -/
def outAt (c : Dev nD) (t : Fin (cfgT tb hg).N) : Vec F S256x512 .bf16 :=
  outBlk (word (nrT tb) (grid0.coords t)) (iblk tb hg V c 0 t) (wg tb hg V c t) (wu tb hg V c t)

/-- What holds of the scratches before point `n`: the weights of the point before, where that had rows. -/
def held (c : Dev nD) (n : ℕ) (X0 X1 : Vec F S4096x512 .bf16) : Prop :=
  ∀ t : Fin (cfgT tb hg).N, t.val + 1 = n → k0_cond2 (word (nrT tb) (grid0.coords t)) = 1#1 → X0 = wg tb hg V c t ∧ X1 = wu tb hg V c t

/-- The invariant carried between points. -/
def Inv (c : Dev nD) (n : ℕ) : sProp (MT nD τ sig Unit (Elt F) ℕ (UR sig nD τ) ℕ) :=
  iprop(∃ X0 X1, ⌜held tb hg V c n X0 X1⌝ ∗ owns (c : Thread nD τ) (Memref.whole cc0_scratch0) fullShare X0 ∗ owns (c : Thread nD τ) (Memref.whole cc0_scratch1) fullShare X1
    ∗ (∃ r, prngReg c r) ∗ Pipeline.ΦT pre0 tb c)

/-- The proof data of the one pipeline on core `c`. -/
def dats (_ : Fin 1) (c : Dev nD) : Dat τ (Elt F) Unit ℕ (UR sig nD τ) ℕ (cfgT tb hg) c where
  A w := V c (Pipeline.arrRef spec0 w)
  after w t := match w with
    | ⟨0, _⟩ => iblk tb hg V c 0 t
    | ⟨1, _⟩ => iblk tb hg V c 1 t
    | ⟨2, _⟩ => iblk tb hg V c 2 t
    | ⟨3, _⟩ => outAt tb hg V c t
  Φ n := Inv tb hg V c n.val
  q _ := fullShare
  owed _ := 0

theorem A_eq (c : Dev nD) (w : Fin (cfgT tb hg).W) : (dats tb hg V 0 c).A w = V c (Pipeline.arrRef spec0 w) := by
  dsimp only [dats]

theorem after0_0 (c : Dev nD) (t : Fin (cfgT tb hg).N) : (dats tb hg V 0 c).after 0 t = iblk tb hg V c 0 t := rfl
theorem after0_1 (c : Dev nD) (t : Fin (cfgT tb hg).N) : (dats tb hg V 0 c).after 1 t = iblk tb hg V c 1 t := rfl
theorem after0_2 (c : Dev nD) (t : Fin (cfgT tb hg).N) : (dats tb hg V 0 c).after 2 t = iblk tb hg V c 2 t := rfl
theorem after0_3 (c : Dev nD) (t : Fin (cfgT tb hg).N) : (dats tb hg V 0 c).after 3 t = outAt tb hg V c t := rfl

theorem before0_0 (c : Dev nD) (t : Fin (cfgT tb hg).N) (d) : (dats tb hg V 0 c).before 0 t d = iblk tb hg V c 0 t :=
  ((dats tb hg V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgT tb hg).N) (d) : (dats tb hg V 0 c).before 1 t d = iblk tb hg V c 1 t :=
  ((dats tb hg V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgT tb hg).N) (d) : (dats tb hg V 0 c).before 2 t d = iblk tb hg V c 2 t :=
  ((dats tb hg V 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem coords_val (t : Fin grid0.N) : (grid0.coords t 0).val = t.val / 72 % 14 ∧ (grid0.coords t 1).val = t.val % 72 :=
  ⟨Pipeline.Grid.coords_val t 0 (by decide) rfl, by rw [Pipeline.Grid.coords_val t 1 (S := 1) (B := 72) (by decide) rfl, Nat.div_one]⟩

/-- The expert's word, the index map of the weights reads. -/
theorem at_word (i : grid0.Coords) : cc0_transform_1 k0_off1_inb numel1_S1 tb i = ![(word (exT tb) i).toNat, 0, (BitVec.ofNat 32 (i 0).val).toNat] ∧
    cc0_transform_2 k0_off1_inb numel1_S1 tb i = ![(word (exT tb) i).toNat, 0, (BitVec.ofNat 32 (i 0).val).toNat] := by
  have h : Pipeline.Prefetch.Contents.at tb 0 (Rect.unit (s := S72) (k0_off1 i) S1.size (k0_off1_inb i)) numel1_S1 = word (exT tb) i := by
    unfold word
    show tb 0 _ = tb 0 _
    congr 1
    funext a
    apply Fin.ext
    match a with
    | ⟨0, _⟩ =>
      show k0_off1 i 0 + 1 * 0 = (i 1).val
      rw [off1_eq]; rfl
  constructor
  · unfold cc0_transform_1
    show ![(Pipeline.Prefetch.Contents.at tb 0 (Rect.unit (s := S72) (k0_off1 i) S1.size (k0_off1_inb i)) numel1_S1 : BitVec 32).toNat, _, _] = _
    rw [h]; rfl
  · unfold cc0_transform_2
    show ![(Pipeline.Prefetch.Contents.at tb 0 (Rect.unit (s := S72) (k0_off1 i) S1.size (k0_off1_inb i)) numel1_S1 : BitVec 32).toNat, _, _] = _
    rw [h]; rfl

/-- The point before: the same output column, the tile before. -/
theorem prev_coords (t t' : Fin grid0.N) (h : t'.val + 1 = t.val) (h1 : 1 ≤ (grid0.coords t 1).val) :
    (grid0.coords t' 0).val = (grid0.coords t 0).val ∧ (grid0.coords t' 1).val + 1 = (grid0.coords t 1).val := by
  have ht := coords_val t
  have ht' := coords_val t'
  omega

theorem blk_congr (c : Dev nD) (t t' : Fin (cfgT tb hg).N) (h0 : (grid0.coords t' 0).val = (grid0.coords t 0).val)
    (he : word (exT tb) (grid0.coords t') = word (exT tb) (grid0.coords t)) :
    (iblk tb hg V c 1 t' : Vec F S1x4096x512 .f32) = iblk tb hg V c 1 t ∧ (iblk tb hg V c 2 t' : Vec F S1x4096x512 .f32) = iblk tb hg V c 2 t := by
  have h := (dats tb hg V 0 c).fetched_congr 1 (t := t') (t' := t) (by
    show cc0_transform_1 k0_off1_inb numel1_S1 tb (grid0.coords t') = cc0_transform_1 k0_off1_inb numel1_S1 tb (grid0.coords t)
    rw [(at_word tb _).1, (at_word tb _).1, h0, he]) rfl (fun _ => Classical.arbitrary _)
  have h' := (dats tb hg V 0 c).fetched_congr 2 (t := t') (t' := t) (by
    show cc0_transform_2 k0_off1_inb numel1_S1 tb (grid0.coords t') = cc0_transform_2 k0_off1_inb numel1_S1 tb (grid0.coords t)
    rw [(at_word tb _).2, (at_word tb _).2, h0, he]) rfl (fun _ => Classical.arbitrary _)
  exact ⟨h, h'⟩

/-- A point keeps the invariant: it leaves its own weights in the scratches where it has rows. -/
theorem held_succ (c : Dev nD) (t : Fin (cfgT tb hg).N) (X0 X1 : Vec F S4096x512 .bf16) (h : held tb hg V c t.val X0 X1) :
    held tb hg V c (t.val + 1) (scr (word (flT tb) (grid0.coords t)) (wg tb hg V c t) X0) (scr (word (flT tb) (grid0.coords t)) (wu tb hg V c t) X1) := by
  intro t₁ e hl
  obtain rfl : t₁ = t := Fin.ext (by omega)
  unfold scr
  by_cases hf : word (flT tb) (grid0.coords t₁) = 1#32
  · rw [if_pos hf, if_pos hf]; exact ⟨rfl, rfl⟩
  · rw [if_neg hf, if_neg hf]
    obtain ⟨h1, hp⟩ := hg.carry _ hl hf
    have h72 := (coords_val t₁).2
    have ht0 : 1 ≤ t₁.val := by omega
    have hc := prev_coords t₁ ⟨t₁.val - 1, lt_of_le_of_lt (Nat.sub_le _ _) t₁.isLt⟩ (by show t₁.val - 1 + 1 = t₁.val; omega) h1
    obtain ⟨hl', he⟩ := hp _ hc.1 hc.2
    obtain ⟨e0, e1⟩ := h ⟨t₁.val - 1, lt_of_le_of_lt (Nat.sub_le _ _) t₁.isLt⟩ (by show t₁.val - 1 + 1 = t₁.val; omega) hl'
    obtain ⟨b0, b1⟩ := blk_congr tb hg V c t₁ ⟨t₁.val - 1, lt_of_le_of_lt (Nat.sub_le _ _) t₁.isLt⟩ hc.1 he
    rw [e0, e1]
    exact ⟨congrArg k0_pay1 b0, congrArg k0_pay2 b1⟩

theorem out_eq (c : Dev nD) (t : Fin (cfgT tb hg).N) (X0 X1 : Vec F S4096x512 .bf16) (h : held tb hg V c t.val X0 X1) :
    outBlk (word (nrT tb) (grid0.coords t)) (iblk tb hg V c 0 t) (scr (word (flT tb) (grid0.coords t)) (wg tb hg V c t) X0)
      (scr (word (flT tb) (grid0.coords t)) (wu tb hg V c t) X1) = outAt tb hg V c t := by
  unfold outAt
  by_cases hl : k0_cond2 (word (nrT tb) (grid0.coords t)) = 1#1
  · obtain ⟨e0, e1⟩ := held_succ tb hg V c t X0 X1 h t rfl hl
    rw [e0, e1]
  · unfold outBlk; rw [if_neg hl, if_neg hl]

/-- The tables as the body finds them. -/
theorem tables_eq (c : Dev nD) : (Pipeline.ΦT pre0 tb c : sProp (MT nD τ sig Unit (Elt F) ℕ (UR sig nD τ) ℕ))
    = iprop((((c.tc : Thread nD τ).loc (pre0.ref 0)) ↦{fullShare.right} tb 0) ∗ owns (c : Thread nD τ) (Memref.whole main_v42) fullShare.right (nrT tb)
      ∗ owns (c : Thread nD τ) (Memref.whole main_v50) fullShare.right (flT tb)) := by
  show Pipeline.prefHeld pre0 c (fun _ => fullShare.right) tb = _
  rw [owns_whole, owns_whole]
  unfold Pipeline.prefHeld
  rw [show (Finset.univ : Finset (Fin 3)) = {0,1,2} from by decide, bigSep_insert (by decide), bigSep_insert (by decide), bigSep_singleton]
  rfl

/-- The body at point `t` on the pipeline's staging buffers. -/
abbrev bodyAt0 (t : Fin (cfgT tb hg).N) : Prog (TpuEff nD τ sig (Elt F) Λ₀ .tc) PUnit :=
  cc0_expert_gate_up (grid0.coords t) (Memref.whole main_v19) (Memref.isWhole_whole _) (Memref.whole main_v42) (Memref.isWhole_whole _) (Memref.whole main_v50) (Memref.isWhole_whole _)
    (spec0_0.stage ((cfgT tb hg).slots t 0)) (hstage0_0 (((cfgT tb hg).slots t 0).cast nbuf0_0)) (spec0_1.stage ((cfgT tb hg).slots t 1)) (hstage0_1 (((cfgT tb hg).slots t 1).cast nbuf0_1))
    (spec0_2.stage ((cfgT tb hg).slots t 2)) (hstage0_2 (((cfgT tb hg).slots t 2).cast nbuf0_2)) (spec0_3.stage ((cfgT tb hg).slots t 3)) (hstage0_3 (((cfgT tb hg).slots t 3).cast nbuf0_3))
    (Memref.whole cc0_scratch0) (Memref.isWhole_whole _) (Memref.whole cc0_scratch1) (Memref.isWhole_whole _)

def bodyPre (c : Dev nD) (t : Fin (cfgT tb hg).N) : sProp (MT nD τ sig Unit (Elt F) ℕ (UR sig nD τ) ℕ) :=
  iprop((dats tb hg V 0 c).Φ t.castSucc ∗ (dats tb hg V 0 c).owesAt () t.castSucc
    ∗ (∃ d, owns (c : Thread nD τ) (spec0_0.stage ((cfgT tb hg).slots t 0)) fullShare ((dats tb hg V 0 c).before 0 t d))
    ∗ (∃ d, owns (c : Thread nD τ) (spec0_1.stage ((cfgT tb hg).slots t 1)) fullShare ((dats tb hg V 0 c).before 1 t d))
    ∗ (∃ d, owns (c : Thread nD τ) (spec0_2.stage ((cfgT tb hg).slots t 2)) fullShare ((dats tb hg V 0 c).before 2 t d))
    ∗ (∃ d, owns (c : Thread nD τ) (spec0_3.stage ((cfgT tb hg).slots t 3)) fullShare ((dats tb hg V 0 c).before 3 t d)))

def bodyPost (c : Dev nD) (t : Fin (cfgT tb hg).N) : sProp (MT nD τ sig Unit (Elt F) ℕ (UR sig nD τ) ℕ) :=
  iprop((dats tb hg V 0 c).Φ t.succ ∗ (dats tb hg V 0 c).owesAt () t.succ
    ∗ owns (c : Thread nD τ) (spec0_0.stage ((cfgT tb hg).slots t 0)) fullShare ((dats tb hg V 0 c).after 0 t)
    ∗ owns (c : Thread nD τ) (spec0_1.stage ((cfgT tb hg).slots t 1)) fullShare ((dats tb hg V 0 c).after 1 t)
    ∗ owns (c : Thread nD τ) (spec0_2.stage ((cfgT tb hg).slots t 2)) fullShare ((dats tb hg V 0 c).after 2 t)
    ∗ owns (c : Thread nD τ) (spec0_3.stage ((cfgT tb hg).slots t 3)) fullShare ((dats tb hg V 0 c).after 3 t))

theorem defs₀_row (t : Fin (cfgT tb hg).N) :
    defs₀ (F := F) .tc (cfgT tb hg).body ((cfgT tb hg).bodyArgs t ((cfgT tb hg).slots t)) = bodyAt0 tb hg t := by
  unfold defs₀; rw [Defs.onTc_tc]

/-- The output's block is stored at every point. -/
theorem idle3 (t : Fin (cfgT tb hg).N) : (cfgT tb hg).idle 3 ((cfgT tb hg).grid.coords t) = false := by
  have h : ∀ (i : grid0.Coords), idle0 tb 3 i = false := fun i => by
    have e : ∀ off : Fin 1 → Nat, off = ![(i 1).val] → (Pipeline.Prefetch.Contents.atD tb 1 off : BitVec 32) = word (nrT tb) i := by
      intro off ho
      subst ho
      unfold Pipeline.Prefetch.Contents.atD
      rw [dif_pos (fun a => by match a with | ⟨0, _⟩ => exact (i 1).isLt)]
      unfold word
      show tb 1 _ = tb 1 _
      congr 1
      funext a
      apply Fin.ext
      match a with
      | ⟨0, _⟩ => rfl
    show (!(k0_cond2 (Pipeline.Prefetch.Contents.atD tb 1 (k0_off2 i)) == 1#1) && !(k0_cond3 (Pipeline.Prefetch.Contents.atD tb 1 (k0_off4 i)) == 1#1)) = false
    rw [e (k0_off2 i) (off1_eq i), e (k0_off4 i) (off1_eq i)]
    by_cases h2 : k0_cond2 (word (nrT tb) i) = 1#1
    · rw [h2]; rfl
    · rw [(hg.nr i).mpr h2]; simp
  exact h _

end Cert.KernelIdeal.Experts

end
-- ==== Proof.Oblig.lean ====
module

public import proofs.«01_k».proof.Proof.Run
public import Idealize.ShloMosaic.Lib.Pipeline.Frame
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (tb : pre0.Contents (Elt F)) (hg : Good tb)
variable (V : (c : Dev nD) → (b : Ref sig .tc) → Buf (Elt F) ((c.tc : Thread nD τ).loc b))

theorem Phi_eq (c : Dev nD) (n : Fin ((cfgT tb hg).N + 1)) : (dats tb hg V 0 c).Φ n = Inv tb hg V c n.val := by dsimp only [dats]

theorem bodyPre_eq (c : Dev nD) (t : Fin (cfgT tb hg).N) : bodyPre tb hg V c t = iprop(Inv tb hg V c t.val ∗ (dats tb hg V 0 c).owesAt () t.castSucc
    ∗ (∃ d : (((cfgT tb hg).win 0).block.Idx → Elt F ((cfgT tb hg).win 0).elt), owns (c : Thread nD τ) (spec0_0.stage ((cfgT tb hg).slots t 0)) fullShare (iblk tb hg V c 0 t))
    ∗ (∃ d : (((cfgT tb hg).win 1).block.Idx → Elt F ((cfgT tb hg).win 1).elt), owns (c : Thread nD τ) (spec0_1.stage ((cfgT tb hg).slots t 1)) fullShare (iblk tb hg V c 1 t))
    ∗ (∃ d : (((cfgT tb hg).win 2).block.Idx → Elt F ((cfgT tb hg).win 2).elt), owns (c : Thread nD τ) (spec0_2.stage ((cfgT tb hg).slots t 2)) fullShare (iblk tb hg V c 2 t))
    ∗ (∃ d, owns (c : Thread nD τ) (spec0_3.stage ((cfgT tb hg).slots t 3)) fullShare ((dats tb hg V 0 c).before 3 t d))) := by
  unfold bodyPre
  rw [Phi_eq, Fin.val_castSucc]
  simp only [before0_0, before0_1, before0_2]

theorem bodyPost_eq (c : Dev nD) (t : Fin (cfgT tb hg).N) : bodyPost tb hg V c t = iprop(Inv tb hg V c (t.val + 1) ∗ (dats tb hg V 0 c).owesAt () t.castSucc
    ∗ owns (c : Thread nD τ) (spec0_0.stage ((cfgT tb hg).slots t 0)) fullShare (iblk tb hg V c 0 t)
    ∗ owns (c : Thread nD τ) (spec0_1.stage ((cfgT tb hg).slots t 1)) fullShare (iblk tb hg V c 1 t)
    ∗ owns (c : Thread nD τ) (spec0_2.stage ((cfgT tb hg).slots t 2)) fullShare (iblk tb hg V c 2 t)
    ∗ owns (c : Thread nD τ) (spec0_3.stage ((cfgT tb hg).slots t 3)) fullShare (outAt tb hg V c t)) := by
  unfold bodyPost
  rw [Phi_eq, Fin.val_succ, show (dats tb hg V 0 c).owesAt () t.succ = (dats tb hg V 0 c).owesAt () t.castSucc from rfl,
    after0_0, after0_1, after0_2, after0_3]

set_option maxHeartbeats 800000 in
theorem sound_body (c : Dev nD) (t : Fin (cfgT tb hg).N) :
    bodyPre tb hg V c t ⊢ wp frame (wpE (defs₀ (F := F)) Variants.none c none) Set.univ (bodyAt0 tb hg t) (fun _ => bodyPost tb hg V c t) := by
  rw [bodyPre_eq, bodyPost_eq]
  unfold bodyAt0 Inv
  rw [tables_eq]
  iintro ⟨⟨%X0, %X1, %hX, S0, S1, Hr, T0, T1, T2⟩, Ho, ⟨%d0, H0⟩, ⟨%d1, H1⟩, ⟨%d2, H2⟩, ⟨%d3, H3⟩⟩
  have ho := out_eq tb hg V c t X0 X1 hX
  have hs := held_succ tb hg V c t X0 X1 hX
  iapply (run_body c (grid0.coords t) _ _ _ _ _ _ _ _ _ _ _ _ _ _ _ _ _ _ fullShare.right (nrT tb) (flT tb) (iblk tb hg V c 0 t) (iblk tb hg V c 1 t) (iblk tb hg V c 2 t) X0 X1 (hg.nr _) Set.univ _)
  isplitl [T1]; · iexact T1
  isplitl [T2]; · iexact T2
  isplitl [H0]; · iexact H0
  isplitl [H1]; · iexact H1
  isplitl [H2]; · iexact H2
  isplitl [H3]; · iexists _; iexact H3
  isplitl [S0]; · iexact S0
  isplitl [S1]; · iexact S1
  iintro ⟨T1, T2, H0, H1, H2, H3, S0, S1⟩
  isplitl [S0 S1 Hr T0 T1 T2]
  · iexists _; iexists _
    isplitr; · ipureintro; exact hs
    isplitl [S0]; · iexact S0
    isplitl [S1]; · iexact S1
    isplitl [Hr]; · iexact Hr
    isplitl [T0]; · iexact T0
    isplitl [T1]; · iexact T1
    iexact T2
  isplitl [Ho]; · iexact Ho
  isplitl [H0]; · iexact H0
  isplitl [H1]; · iexact H1
  isplitl [H2]; · iexact H2
  rw [← ho]
  iexact H3

theorem body_obligation (c : Dev nD) : BodyObligation (dats tb hg V 0 c) (defs₀ (F := F)) Variants.none () Set.univ := fun t => by
  rw [bigSep_W0, bigSep_W0, defs₀_row]
  have hi : idle0 tb 3 ((pcfg0.gridAt tb).coords t) = false := idle3 tb hg t
  simp only [hi]
  have h := sound_body tb hg V c t
  unfold bodyPre bodyPost at h
  exact h

/-! ## The run -/

variable (m : (ℓ : Loc nD τ sig) → Buf (Elt F) ℓ) (ρ : Dev nD → PrngReg)

/-- The host operations before the region, in order. -/
abbrev hostAll : List (List (HloOp τ sig (Elt F))) := [hostOps0, hostOps0_1, hostOps0_2, hostOps0_3, hostOps0_4, hostOps0_5]

/-- Core `c`'s buffers when the region is entered. -/
abbrev Vm (c : Dev nD) (b : Ref sig .tc) : Buf (Elt F) ((c.tc : Thread nD τ).loc b) := StableHlo.after (hostAll (F := F)).flatten (fun b => m (c, b)) b

theorem hostAll_fresh : (hostAll (F := F)).Forall fun ops => ops.Forall fun op => op.fresh = ∅ := by
  simp only [List.Forall]; repeat' constructor

theorem hostAll_sub : (hostAll (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub⟩

set_option maxHeartbeats 800000 in
theorem hmain : Pipeline.HMainP (Ix := Unit) (Name := ℕ) (U := UR sig nD τ) (Lvl := ℕ) (pcfgs (F := F)) 0 defs₀ Variants.none m (main (F := F)) (Vm m) :=
  Pipeline.hmainP_prefixes pcfgs 0 defs₀ Variants.none m main hostAll hostAll_sub hostAll_fresh main_chain

set_option backward.isDefEq.respectTransparency.types false in
theorem run_main (hpf : ∀ c k, Vm m c (pre0.ref k) = tb k) :
    θ_run defs (onTc (τ := τ) (main (F := F))) (s₀ m ρ)
      (fun r => Pipeline.FramePost (Pipeline.pin pcfgs (adm tb hg)) (dats tb hg (Vm m)) 0 (Vm m) r ∧ r.2.sem = fun _ => 0) :=
  Pipeline.θ_run_frameP_track (Q' := _) pcfgs (adm tb hg) (dats tb hg (Vm m)) (0 : Fin 1) launch0 defs₀ Variants.none m ρ main
    (hbody := fun c => (body_obligation tb hg (Vm m) c).loose) (hshare := fun _ _ => by unfold Dat.share; split <;> rfl)
    (howed := fun _ _ => rfl) (V := Vm m) (hmain := hmain m) (hA := A_eq tb hg (Vm m)) (hpf := hpf)
    (hin := fun c => by
      rw [Phi_eq]
      unfold Inv Pipeline.ΦA
      rw [scopedRest0_eq]
      iintro ⟨⟨⟨⟨%f0, S0⟩, ⟨%f1, S1⟩⟩, Hr⟩, HT⟩
      iexists f0; iexists f1
      isplitr
      · ipureintro
        intro t ht
        exact absurd ht (Nat.succ_ne_zero _)
      rw [owns_whole, owns_whole]
      isplitl [S0]; · iexact S0
      isplitl [S1]; · iexact S1
      isplitl [Hr]; · iexact Hr
      iexact HT)
    (hout := fun c => by
      rw [Phi_eq]
      unfold Inv Pipeline.ΦA
      rw [scopedRest0_eq]
      simp only [owns_whole]
      iintro ⟨%X0, %X1, -, S0, S1, Hr, HT⟩
      isplitr [Hr]
      · isplitl [S0]
        · iexists _; iexact S0
        iexists _; iexact S1
      iexact Hr)

end Cert.KernelIdeal.Experts

end
-- ==== Proof.Tiles.lean ====
module

public import Idealize.ShloMosaic.Lib.Routing.Count

@[expose] public section

/-! The arithmetic of the tile tables, over the naturals: expert `i` holds `n i` rows, laid out in whole tiles of 256 rows,
    one expert behind the other. -/

namespace Cert.Tiles

open Idealize.ShloMosaic.Routing

variable (n : ℕ → ℕ)

/-- How many tiles expert `i`'s rows fill. -/
def tiles (i : ℕ) : ℕ := (n i + 255) / 256

/-- The tiles of the experts up to and with `j`. -/
def ends (j : ℕ) : ℕ := ((List.range (j + 1)).map (tiles n)).sum

/-- Expert `j`'s first tile. -/
def starts (j : ℕ) : ℕ := ends n j - tiles n j

theorem ends_zero : ends n 0 = tiles n 0 := by simp [ends]

theorem ends_succ (j : ℕ) : ends n (j + 1) = ends n j + tiles n (j + 1) := by
  unfold ends
  rw [List.range_succ, List.map_append, List.sum_append]
  simp

theorem starts_zero : starts n 0 = 0 := by rw [starts, ends_zero, Nat.sub_self]

theorem starts_succ (j : ℕ) : starts n (j + 1) = ends n j := by rw [starts, ends_succ, Nat.add_sub_cancel]

theorem ends_eq (j : ℕ) : ends n j = starts n j + tiles n j := by
  cases j with
  | zero => rw [starts_zero, ends_zero, Nat.zero_add]
  | succ j => rw [starts_succ, ends_succ]

theorem ends_mono {a b : ℕ} (h : a ≤ b) : ends n a ≤ ends n b := by
  induction b, h using Nat.le_induction with
  | base => exact le_rfl
  | succ b _ ih => rw [ends_succ]; omega

theorem ends_le (hn : ∀ i, n i ≤ 16384) (j : ℕ) : ends n j ≤ (j + 1) * 64 := by
  induction j with
  | zero => rw [ends_zero]; have := hn 0; unfold tiles; omega
  | succ j ih => rw [ends_succ]; have := hn (j + 1); unfold tiles; omega

/-- Expert `q` ends at or before tile `t`, a tile behind the last one read as the last. -/
def Past (t q : ℕ) : Prop := 0 < ends n 7 ∧ ends n q ≤ min t (ends n 7 - 1)

instance (t : ℕ) : DecidablePred (Past n t) := fun q => inferInstanceAs (Decidable (0 < ends n 7 ∧ ends n q ≤ min t (ends n 7 - 1)))

/-- The expert of tile `t`. -/
def ex (t : ℕ) : ℕ := Nat.count (Past n t) 8

theorem past_iff {t q : ℕ} (hq : q < 8) : Past n t q ↔ q < ex n t :=
  lt_count_iff (fun a b hab _ h => ⟨h.1, (ends_mono n hab).trans h.2⟩) hq

theorem ex_le (t : ℕ) : ex n t ≤ 7 := by
  by_contra h
  have h7 := (past_iff n (t := t) (q := 7) (by omega)).2 (by omega)
  have := h7.2
  have := h7.1
  omega

theorem starts_le {t : ℕ} (ht : t < ends n 7) : starts n (ex n t) ≤ t := by
  rcases Nat.eq_zero_or_pos (ex n t) with h | h
  · rw [h, starts_zero]; omega
  · obtain ⟨k, hk⟩ := Nat.exists_eq_succ_of_ne_zero h.ne'
    have hle := ex_le n t
    have hp := (past_iff n (t := t) (q := k) (by omega)).2 (by omega)
    rw [hk, Nat.succ_eq_add_one, starts_succ]
    have := hp.2
    omega

theorem lt_ends {t : ℕ} (ht : t < ends n 7) : t < ends n (ex n t) := by
  by_contra h
  have hle := ex_le n t
  have := (past_iff n (t := t) (q := ex n t) (by omega)).1 ⟨by omega, by omega⟩
  omega

theorem ex_unique {t e : ℕ} (he : e < 8) (h1 : starts n e ≤ t) (h2 : t < ends n e) : e = ex n t := by
  have h7 : ends n e ≤ ends n 7 := ends_mono n (by omega)
  have hle := ex_le n t
  have hnp : ¬ e < ex n t := fun h => by
    have := ((past_iff n (t := t) he).2 h).2
    omega
  rcases Nat.eq_zero_or_pos e with h | h
  · omega
  · obtain ⟨k, hk⟩ := Nat.exists_eq_succ_of_ne_zero h.ne'
    subst hk
    rw [Nat.succ_eq_add_one, starts_succ] at h1
    have := (past_iff n (t := t) (q := k) (by omega)).1 ⟨by omega, by omega⟩
    omega

/-- The rows that tile `t` holds. -/
def nr (t : ℕ) : ℕ := if t < ends n 7 then min (n (ex n t) - (t - starts n (ex n t)) * 256) 256 else 0

theorem nr_le (t : ℕ) : nr n t ≤ 256 := by unfold nr; split <;> omega

theorem inside {t : ℕ} (ht : t < ends n 7) : (t - starts n (ex n t)) * 256 < n (ex n t) := by
  have h1 := starts_le n ht
  have h2 := lt_ends n ht
  rw [ends_eq] at h2
  unfold tiles at h2
  omega

theorem nr_pos_iff (t : ℕ) : 0 < nr n t ↔ t < ends n 7 := by
  unfold nr
  split
  · have := inside n ‹_›; omega
  · omega

/-- Expert `e` holds row `r` exactly where `e` is the expert of `r`'s tile and the row is among the tile's. -/
theorem held_iff {e r : ℕ} (he : e < 8) :
    (starts n e * 256 ≤ r ∧ r < starts n e * 256 + n e) ↔ (e = ex n (r / 256) ∧ r % 256 < nr n (r / 256)) := by
  constructor
  · rintro ⟨h1, h2⟩
    have hs : starts n e ≤ r / 256 := by omega
    have hl : r / 256 < ends n e := by rw [ends_eq]; unfold tiles; omega
    have hx := ex_unique n he hs hl
    have h7 : ends n e ≤ ends n 7 := ends_mono n (by omega)
    refine ⟨hx, ?_⟩
    unfold nr
    rw [if_pos (by omega), ← hx]
    omega
  · rintro ⟨hx, h⟩
    have ht := (nr_pos_iff n (r / 256)).1 (by omega)
    have hs := starts_le n ht
    unfold nr at h
    rw [if_pos ht] at h
    rw [← hx] at h hs
    omega

/-- Row `r` lies in expert `e`'s whole tiles exactly where `e` is the expert of `r`'s tile and the tile has rows. -/
theorem span_iff {e r : ℕ} (he : e < 8) :
    (starts n e * 256 ≤ r ∧ r < ends n e * 256) ↔ (e = ex n (r / 256) ∧ 0 < nr n (r / 256)) := by
  rw [nr_pos_iff]
  constructor
  · rintro ⟨h1, h2⟩
    have hs : starts n e ≤ r / 256 := by omega
    have hl : r / 256 < ends n e := by omega
    have h7 : ends n e ≤ ends n 7 := ends_mono n (by omega)
    exact ⟨ex_unique n he hs hl, by omega⟩
  · rintro ⟨hx, ht⟩
    have hs := starts_le n ht
    have hl := lt_ends n ht
    rw [← hx] at hs hl
    omega

/-- Where a live tile's expert is that of the tile before, the tile before is live too. -/
theorem nr_pred_pos {t : ℕ} (ht : 0 < nr n t) : 0 < nr n (t - 1) := by
  rw [nr_pos_iff] at ht ⊢
  omega

end Cert.Tiles
-- ==== Proof.Tables.lean ====
module

public import proofs.«01_k».proof.Proof.Oblig
public import proofs.«01_k».proof.Proof.Tiles
public import Idealize.ShloMosaic.Lib.StableHlo.ReadAt
public import Idealize.ShloMosaic.Lib.Tactic.WordOmega
public import Idealize.ShloMosaic.Lib.Routing.BitFacts
public import Idealize.ShloMosaic.Lib.Routing.Words
public import Idealize.ShloMosaic.Lib.Routing.OpsSet

@[expose] public section

set_option maxRecDepth 16384

noncomputable section

namespace Cert.KernelIdeal.Experts

open Cert.KernelIdeal Cert.KernelIdeal.Gen
open Idealize.ShloMosaic Idealize.ShloMosaic.TcCoe

variable {F : FTy → Type} [FloatOps F]

/-! The tile tables, read off the host's operations. -/

/-- The number of rows of expert `i`, as the word of `W` holds it. -/
def cnt (W : Valuation τ sig (Elt F)) (i : ℕ) : ℕ := if h : i < 8 then BitVec.toNat (w := 32) (W (Proc.devRef .tc main_arg1) (ix1 (⟨i, h⟩ : Fin 8))) else 0

variable (W : Valuation τ sig (Elt F))

/-- The contents before the tables proper: the tiles of each expert and their running sums. -/
def W2 : Valuation τ sig (Elt F) := StableHlo.after (hostOps0 ++ (hostOps0_1 ++ hostOps0_2)) W

theorem arg_word (e : Fin 8) : W (Proc.devRef .tc main_arg1) (ix1 e) = BitVec.ofNat 32 (cnt W e.val) := by
  unfold cnt
  rw [dif_pos e.isLt]
  exact (BitVec.ofNat_toNat 32 (W (Proc.devRef .tc main_arg1) (ix1 e) : BitVec 32)).trans (BitVec.setWidth_eq _) |>.symm

theorem tiles_of_word {w : BitVec 32} {n : ℕ} (hw : w = BitVec.ofNat 32 n) (hn : n ≤ 16384) :
    Scalar.select
      (IntOp.andi
        (IntOp.cmpi CmpIPredicate.ne
          (if IntOp.subi (IntOp.addi w 256#32) 1#32 = 0 then (0 : BitVec 32)
          else if (IntOp.subi (IntOp.addi w 256#32) 1#32).msb = true then -1 else 1)
          (if (256#32 : BitVec 32) = 0 then 0
          else if BitVec.msb (256#32 : BitVec 32) = true then -1 else 1))
        (IntOp.cmpi CmpIPredicate.ne
          (IntOp.remsi ArithUnit.host (IntOp.subi (IntOp.addi w 256#32) 1#32)
            256#32)
          0#32))
      (IntOp.subi
        (IntOp.divsi ArithUnit.host (IntOp.subi (IntOp.addi w 256#32) 1#32)
          256#32)
        1#32)
      (IntOp.divsi ArithUnit.host (IntOp.subi (IntOp.addi w 256#32) 1#32)
        256#32) = BitVec.ofNat 32 ((n + 255) / 256) := by
  have hx : IntOp.subi (IntOp.addi w 256#32) 1#32 = BitVec.ofNat 32 (n + 255) := by
    subst hw
    apply BitVec.eq_of_toNat_eq
    simp only [IntOp.subi, IntOp.addi, BitVec.toNat_sub, BitVec.toNat_add, BitVec.toNat_ofNat]
    omega
  rw [hx, Routing.divsi_word .host (a := n + 255) (b := 256) (by omega) (by omega) (by omega),
    Routing.remsi_word .host (a := n + 255) (b := 256) (by omega) (by omega) (by omega)]
  rw [if_neg (Routing.ofNat32_ne_zero (by omega) (by omega)), Routing.msb_ofNat32 (by omega)]
  have : IntOp.cmpi CmpIPredicate.ne (if (false : Bool) = true then (-1 : BitVec 32) else 1) (if (256#32 : BitVec 32) = 0 then 0
          else if BitVec.msb (256#32 : BitVec 32) = true then -1 else 1) = 0#1 := by decide
  rw [this]
  simp [IntOp.andi, Scalar.select]

theorem tiles_word (hW : ∀ i, cnt W i ≤ 16384) (e : Fin 8) : W2 W (Proc.devRef .tc main_v4) (ix1 e) = BitVec.ofNat 32 (Tiles.tiles (cnt W) e.val) := by
  unfold W2
  after_reads_at
  exact tiles_of_word (arg_word W e) (hW e.val)

theorem W2_ends : W2 W (Proc.devRef .tc main_v5) =
   (Host.reduceWindow IntOp.addi ![8] ![1] ![7] ![0] (W2 W (Proc.devRef .tc main_v4)) (constantI S_ 32 0#32) reduceWindows_S8_S8_w8s1p7_0 h_S_ : Vec F S8 .i32) := by
  unfold W2
  after_reads_simp
  simp -implicitDefEqProofs only [StableHlo.TRef.toBuf, StableHlo.TRef.ofBuf, cast_cast, cast_eq]
  rfl

theorem ends_word (hW : ∀ i, cnt W i ≤ 16384) (e : Fin 8) : W2 W (Proc.devRef .tc main_v5) (ix1 e) = BitVec.ofNat 32 (Tiles.ends (cnt W) e.val) := by
  rw [W2_ends]
  exact Routing.cumsum1 (N := 8) (Nm1 := 7) rfl _ (Tiles.tiles (cnt W)) (fun i => tiles_word W hW i) _ rfl _ _ e

theorem W2_arg : W2 W (Proc.devRef .tc main_arg1) = W (Proc.devRef .tc main_arg1) := by
  unfold W2
  after_reads_simp

/-- The contents behind the tables' main part. -/
def W3 : Valuation τ sig (Elt F) := StableHlo.after hostOps0_3 W

theorem W3_v8 : W3 W (Proc.devRef .tc main_v8) Idealize.ShloMosaic.ix0 = W (Proc.devRef .tc main_v5) (ix1 7) := by
  unfold W3
  after_reads_at

theorem W3_v9 (t : Fin 72) : W3 W (Proc.devRef .tc main_v9) (ix1 t) = BitVec.ofNat 32 t.val := by
  unfold W3
  after_reads_at

theorem W3_v12 (t : Fin 72) : W3 W (Proc.devRef .tc main_v12) (ix1 t) = IntOp.minsi (BitVec.ofNat 32 t.val) (IntOp.subi (W (Proc.devRef .tc main_v5) (ix1 7)) 1#32) := by
  unfold W3
  after_reads_at

theorem W3_v19 : W3 W (Proc.devRef .tc main_v19) =
   Host.reduce IntOp.addi (extui 32 (W3 W (Proc.devRef .tc main_v17) : IVec S72x8 1) natLt_1_32) (constantI S_ 32 0#32) reducesTo_S72x8_S72_d1 h_S_ := by
  unfold W3
  after_reads_simp

theorem W3_v17 (t : Fin 72) (e : Fin 8) : W3 W (Proc.devRef .tc main_v17) (ix2 t e) =
    IntOp.cmpi .sge (IntOp.minsi (BitVec.ofNat 32 t.val) (IntOp.subi (W (Proc.devRef .tc main_v5) (ix1 7)) 1#32)) (W (Proc.devRef .tc main_v5) (ix1 e)) := by
  unfold W3
  after_reads_at

theorem W3_v21 (t : Fin 72) : W3 W (Proc.devRef .tc main_v21) (ix1 t) =
    IntOp.cmpi .slt (BitVec.ofNat 32 t.val) (W (Proc.devRef .tc main_v5) (ix1 7)) := by
  unfold W3
  after_reads_at

theorem W3_v6 (e : Fin 8) : W3 W (Proc.devRef .tc main_v6) (ix1 e) =
    IntOp.subi (W (Proc.devRef .tc main_v5) (ix1 e)) (W (Proc.devRef .tc main_v4) (ix1 e)) := by
  unfold W3
  after_reads_at

/-- The experts of the tiles as a column of indices. -/
def wrap (x : IVec S72 32) : IVec S72x1 32 :=
  broadcastInDim S72x1 ![0] bcast_S72_S72x1_0 (select (cmpi .slt x (broadcastInDim S72 ![] bcast_S_S72 (constantI S_ 32 0#32)))
    (addi x (broadcastInDim S72 ![] bcast_S_S72 (constantI S_ 32 8#32))) x)

theorem wrap_word (x : IVec S72 32) (t : Fin 72) {k : ℕ} (hk : k < 2 ^ 31) (hx : x (ix1 t) = BitVec.ofNat 32 k) : wrap x (ix2 t (0 : Fin 1)) = BitVec.ofNat 32 k := by
  unfold wrap
  pointwise
  rw [hx]
  have : IntOp.cmpi .slt (BitVec.ofNat 32 k) 0#32 = 0#1 := by
    unfold IntOp.cmpi
    have := Routing.slt_ofNat32 (a := k) (b := 0) hk (by omega)
    simp [this]
  rw [this]
  rfl

theorem W3_v27 : W3 W (Proc.devRef .tc main_v27) = wrap (W3 W (Proc.devRef .tc main_v19)) := by
  unfold W3 wrap
  after_reads_simp

theorem W3_v34 : W3 W (Proc.devRef .tc main_v34) = wrap (W3 W (Proc.devRef .tc main_v19)) := by
  unfold W3 wrap
  after_reads_simp

theorem W3_v28 : W3 W (Proc.devRef .tc main_v28) =
   Host.gather gather_S8_S72x1_S72_n_0_n_n_0_1_1 (W (Proc.devRef .tc main_arg1)) (W3 W (Proc.devRef .tc main_v27)) := by
  unfold W3
  after_reads_simp

theorem W3_v35 : W3 W (Proc.devRef .tc main_v35) =
   Host.gather gather_S8_S72x1_S72_n_0_n_n_0_1_1 (W3 W (Proc.devRef .tc main_v6)) (W3 W (Proc.devRef .tc main_v34)) := by
  unfold W3
  after_reads_simp

/-- A tile's rows from the expert's rows `c`, the tile `a` and the expert's first tile `b`. -/
def rest (c a b : IVec S72 32) : IVec S72 32 :=
  minsi (subi c (muli (subi a b) (broadcastInDim S72 ![] bcast_S_S72 (constantI S_ 32 256#32)))) (broadcastInDim S72 ![] bcast_S_S72 (constantI S_ 32 256#32))

theorem W3_v41 : W3 W (Proc.devRef .tc main_v41) = rest (W3 W (Proc.devRef .tc main_v28)) (W3 W (Proc.devRef .tc main_v12)) (W3 W (Proc.devRef .tc main_v35)) := by
  unfold W3 rest
  after_reads_simp

theorem rest_at (c a b : IVec S72 32) (t : Fin 72) : rest c a b (ix1 t) = IntOp.minsi (IntOp.subi (c (ix1 t)) (IntOp.muli (IntOp.subi (a (ix1 t)) (b (ix1 t))) 256#32)) 256#32 := by
  unfold rest
  pointwise

/-- The contents when the call begins, from those behind the tables' main part. -/
def W5 : Valuation τ sig (Elt F) := StableHlo.after (hostOps0_4 ++ hostOps0_5) W

theorem W5_v19 : W5 W (Proc.devRef .tc main_v19) = W (Proc.devRef .tc main_v19) := by
  unfold W5
  after_reads_simp

theorem W5_v42 (t : Fin 72) : W5 W (Proc.devRef .tc main_v42) (ix1 t) = Scalar.select (W (Proc.devRef .tc main_v21) (ix1 t)) (W (Proc.devRef .tc main_v41) (ix1 t)) (W (Proc.devRef .tc main_c_10) Idealize.ShloMosaic.ix0) := by
  unfold W5
  after_reads_at
  rfl

theorem W3_c10 : W3 W (Proc.devRef .tc main_c_10) Idealize.ShloMosaic.ix0 = 0#32 := by
  unfold W3
  after_reads_at

theorem upto_v43 : StableHlo.upto (hostOps0_4 ++ hostOps0_5) W 6 (Proc.devRef .tc main_v43) = fun _ => 4294967295#32 := by
  unfold StableHlo.upto
  simp only [hostOps0_4, hostOps0_5, List.cons_append, List.nil_append, List.take_succ_cons, List.take_zero]
  after_reads_simp
  rfl

theorem upto_v44 (t : Fin 71) : StableHlo.upto (hostOps0_4 ++ hostOps0_5) W 6 (Proc.devRef .tc main_v44) (ix1 t) = W (Proc.devRef .tc main_v19) (ix1 (⟨t.val, by omega⟩ : Fin 72)) := by
  unfold StableHlo.upto
  simp only [hostOps0_4, hostOps0_5, List.cons_append, List.nil_append, List.take_succ_cons, List.take_zero]
  after_reads_at

theorem W5_v50 (t : Fin 72) : W5 W (Proc.devRef .tc main_v50) (ix1 t) =
    BitVec.setWidth 32 (IntOp.andi (IntOp.cmpi .ne (W (Proc.devRef .tc main_v19) (ix1 t))
        (if h : t.val < 1 then 4294967295#32 else W (Proc.devRef .tc main_v19) (ix1 (⟨t.val - 1, by omega⟩ : Fin 72))))
      (IntOp.cmpi .slt (W (Proc.devRef .tc main_v9) (ix1 t)) (W (Proc.devRef .tc main_v8) Idealize.ShloMosaic.ix0))) := by
  unfold W5
  after_reads_at
  by_cases h : t.val < 1
  · simp only [dif_pos h]
    rw [upto_v43]
  · simp only [dif_neg h]
    rw [upto_v44]

/-! The three tables, as naturals. -/

variable {W} (hW : ∀ i, cnt W i ≤ 16384)

include hW

theorem cnt_W2 : cnt (W2 W) = cnt W := by
  unfold cnt
  rw [W2_arg]

theorem ends_bound (j : ℕ) (hj : j < 8) : Tiles.ends (cnt W) j ≤ 512 := by
  have := Tiles.ends_le (cnt W) hW j
  omega

theorem ofNat_sub_word {a b : ℕ} (h : b ≤ a) : IntOp.subi (BitVec.ofNat 32 a) (BitVec.ofNat 32 b) = BitVec.ofNat 32 (a - b) := Routing.ofNat32_sub h

theorem last_tile (t : ℕ) (ht : t < 72) : IntOp.minsi (BitVec.ofNat 32 t) (IntOp.subi (BitVec.ofNat 32 (Tiles.ends (cnt W) 7)) 1#32) =
    if 0 < Tiles.ends (cnt W) 7 then BitVec.ofNat 32 (min t (Tiles.ends (cnt W) 7 - 1)) else -1#32 := by
  have hb := ends_bound hW 7 (by omega)
  generalize Tiles.ends (cnt W) 7 = E at hb ⊢
  split
  · rw [show (1#32 : BitVec 32) = BitVec.ofNat 32 1 from rfl, show IntOp.subi (BitVec.ofNat 32 E) (BitVec.ofNat 32 1) = BitVec.ofNat 32 (E - 1) from Routing.ofNat32_sub (by omega)]
    unfold IntOp.minsi
    rw [Routing.slt_ofNat32 (by omega) (by omega)]
    by_cases h : t < E - 1
    · rw [if_pos (decide_eq_true h), min_eq_left (by omega)]
    · rw [if_neg (by simpa using h), min_eq_right (by omega)]
  · have : E = 0 := by omega
    subst this
    have : IntOp.subi (BitVec.ofNat 32 0) 1#32 = -1#32 := by decide
    rw [this]
    unfold IntOp.minsi
    rw [if_neg]
    have h1 : ((-1#32 : BitVec 32)).toInt = -1 := by decide
    have h2 : (BitVec.ofNat 32 t).toInt = t := by rw [BitVec.toInt_eq_toNat_cond, BitVec.toNat_ofNat]; omega
    rw [BitVec.slt, h1, h2]
    simp

theorem ex_word (t : Fin 72) : W3 (W2 W) (Proc.devRef .tc main_v19) (ix1 t) = BitVec.ofNat 32 (Tiles.ex (cnt W) t.val) := by
  rw [W3_v19]
  refine Routing.reduce_count (n := 72) (m := 8) (by omega) _ _ _ _ t (Tiles.Past (cnt W) t.val) fun q => ?_
  have h17 := W3_v17 (W2 W) t q
  rw [show W2 W (Proc.devRef .tc main_v5) (ix1 7) = _ from ends_word W hW 7, ends_word W hW q] at h17
  rw [show W3 (W2 W) (Proc.devRef .tc main_v17) (ValueIdx.ix2 t q) = _ from h17]
  have hb := ends_bound hW 7 (by omega)
  have hq := ends_bound hW q.val q.isLt
  rw [show ((7 : Fin 8)).val = 7 from rfl, last_tile hW t.val t.isLt]
  unfold Tiles.Past
  by_cases h : 0 < Tiles.ends (cnt W) 7
  · rw [if_pos h]
    unfold IntOp.cmpi
    simp only [Routing.sle_ofNat32 (show Tiles.ends (cnt W) q.val < 2 ^ 31 by omega) (show min t.val (Tiles.ends (cnt W) 7 - 1) < 2 ^ 31 by omega)]
    simp only [h, true_and, Nat.le_min]
    by_cases h1 : Tiles.ends (cnt W) q.val ≤ t.val <;> by_cases h2 : Tiles.ends (cnt W) q.val ≤ Tiles.ends (cnt W) 7 - 1 <;> simp [h1, h2]
  · rw [if_neg h]
    unfold IntOp.cmpi
    have h1 : ((-1#32 : BitVec 32)).toInt = -1 := by decide
    have h2 : (BitVec.ofNat 32 (Tiles.ends (cnt W) q.val)).toInt = Tiles.ends (cnt W) q.val := by rw [BitVec.toInt_eq_toNat_cond, BitVec.toNat_ofNat]; omega
    have : (BitVec.ofNat 32 (Tiles.ends (cnt W) q.val)).sle (-1#32) = false := by
      rw [BitVec.sle, h1, h2]; simp; omega
    simp only [this]
    simp [h]

omit hW in
theorem rest_word {n t s : ℕ} (hn : n ≤ 16384) (hs : s ≤ t) (h : (t - s) * 256 < n) (ht : t < 72) :
    IntOp.minsi (IntOp.subi (BitVec.ofNat 32 n) (IntOp.muli (IntOp.subi (BitVec.ofNat 32 t) (BitVec.ofNat 32 s)) 256#32)) 256#32
      = BitVec.ofNat 32 (min (n - (t - s) * 256) 256) := by
  have h1 : IntOp.subi (BitVec.ofNat 32 t) (BitVec.ofNat 32 s) = BitVec.ofNat 32 (t - s) := Routing.ofNat32_sub hs
  have h2 : IntOp.muli (BitVec.ofNat 32 (t - s)) 256#32 = BitVec.ofNat 32 ((t - s) * 256) := by
    apply BitVec.eq_of_toNat_eq
    simp only [IntOp.muli, BitVec.toNat_mul, BitVec.toNat_ofNat]
    omega
  have h3 : IntOp.subi (BitVec.ofNat 32 n) (BitVec.ofNat 32 ((t - s) * 256)) = BitVec.ofNat 32 (n - (t - s) * 256) := Routing.ofNat32_sub h.le
  rw [h1, h2, h3]
  unfold IntOp.minsi
  have := Routing.slt_ofNat32 (a := n - (t - s) * 256) (b := 256) (by omega) (by omega)
  rw [this]
  by_cases h : n - (t - s) * 256 < 256
  · rw [if_pos (decide_eq_true h), min_eq_left (by omega)]
  · rw [if_neg (by simpa using h), min_eq_right (by omega)]

/-- The buffers' contents when the call begins. -/
theorem nr_word (t : Fin 72) : W5 (W3 (W2 W)) (Proc.devRef .tc main_v42) (ix1 t) = BitVec.ofNat 32 (Tiles.nr (cnt W) t.val) := by
  have hb := ends_bound hW 7 (by omega)
  have h7 : W2 W (Proc.devRef .tc main_v5) (ix1 7) = BitVec.ofNat 32 (Tiles.ends (cnt W) 7) := ends_word W hW 7
  have hc : IntOp.cmpi .slt (BitVec.ofNat 32 t.val) (BitVec.ofNat 32 (Tiles.ends (cnt W) 7)) = BitVec.ofBool (decide (t.val < Tiles.ends (cnt W) 7)) := by
    unfold IntOp.cmpi
    simp only [Routing.slt_ofNat32 (show t.val < 2 ^ 31 by omega) (show Tiles.ends (cnt W) 7 < 2 ^ 31 by omega)]
  rw [W5_v42, W3_v21, h7, W3_c10, hc]
  unfold Tiles.nr
  by_cases h : t.val < Tiles.ends (cnt W) 7
  · rw [if_pos h, decide_eq_true h]
    have hex := Tiles.ex_le (cnt W) t.val
    have hstart := Tiles.starts_le (cnt W) h
    have hin := Tiles.inside (cnt W) h
    have hx := ex_word hW t
    have hw27 : W3 (W2 W) (Proc.devRef .tc main_v27) (ix2 t (0 : Fin 1)) = BitVec.ofNat 32 (Tiles.ex (cnt W) t.val) := by
      rw [W3_v27]; exact wrap_word _ t (by omega) hx
    have hw34 : W3 (W2 W) (Proc.devRef .tc main_v34) (ix2 t (0 : Fin 1)) = BitVec.ofNat 32 (Tiles.ex (cnt W) t.val) := by
      rw [W3_v34]; exact wrap_word _ t (by omega) hx
    have h28 : W3 (W2 W) (Proc.devRef .tc main_v28) (ix1 t) = BitVec.ofNat 32 (cnt W (Tiles.ex (cnt W) t.val)) := by
      rw [W3_v28]
      refine (Routing.gather_take1 (N := 8) (n := 72) gather_S8_S72x1_S72_n_0_n_n_0_1_1 rfl rfl rfl rfl _ _ t ⟨Tiles.ex (cnt W) t.val, by omega⟩ hw27 (by omega)).trans ?_
      rw [W2_arg]
      exact arg_word W ⟨Tiles.ex (cnt W) t.val, by omega⟩
    have h35 : W3 (W2 W) (Proc.devRef .tc main_v35) (ix1 t) = BitVec.ofNat 32 (Tiles.starts (cnt W) (Tiles.ex (cnt W) t.val)) := by
      rw [W3_v35]
      refine (Routing.gather_take1 (N := 8) (n := 72) gather_S8_S72x1_S72_n_0_n_n_0_1_1 rfl rfl rfl rfl _ _ t ⟨Tiles.ex (cnt W) t.val, by omega⟩ hw34 (by omega)).trans ?_
      refine (W3_v6 (W2 W) ⟨Tiles.ex (cnt W) t.val, by omega⟩).trans ?_
      rw [ends_word W hW, tiles_word W hW]
      exact Routing.ofNat32_sub (by rw [Tiles.ends_eq]; exact Nat.le_add_left _ _)
    have h12 : W3 (W2 W) (Proc.devRef .tc main_v12) (ix1 t) = BitVec.ofNat 32 t.val := by
      rw [W3_v12, h7, last_tile hW t.val t.isLt, if_pos (by omega), min_eq_left (by omega)]
    have h41 : W3 (W2 W) (Proc.devRef .tc main_v41) (ix1 t) = BitVec.ofNat 32 (min (cnt W (Tiles.ex (cnt W) t.val) - (t.val - Tiles.starts (cnt W) (Tiles.ex (cnt W) t.val)) * 256) 256) := by
      rw [W3_v41]
      refine (rest_at _ _ _ t).trans ?_
      rw [show W3 (W2 W) (Proc.devRef .tc main_v28) (ix1 t) = _ from h28, show W3 (W2 W) (Proc.devRef .tc main_v12) (ix1 t) = _ from h12,
        show W3 (W2 W) (Proc.devRef .tc main_v35) (ix1 t) = _ from h35]
      exact rest_word (hW _) hstart hin t.isLt
    rw [h41]
    rfl
  · rw [if_neg h, decide_eq_false h]
    rfl

theorem fl_word (t : Fin 72) (hne : W5 (W3 (W2 W)) (Proc.devRef .tc main_v50) (ix1 t) ≠ 1#32) (hl : t.val < Tiles.ends (cnt W) 7) :
    0 < t.val ∧ Tiles.ex (cnt W) (t.val - 1) = Tiles.ex (cnt W) t.val := by
  have hb := ends_bound hW 7 (by omega)
  have h7 : W2 W (Proc.devRef .tc main_v5) (ix1 7) = BitVec.ofNat 32 (Tiles.ends (cnt W) 7) := ends_word W hW 7
  have hc : IntOp.cmpi .slt (BitVec.ofNat 32 t.val) (BitVec.ofNat 32 (Tiles.ends (cnt W) 7)) = 1#1 := by
    unfold IntOp.cmpi
    simp only [Routing.slt_ofNat32 (show t.val < 2 ^ 31 by omega) (show Tiles.ends (cnt W) 7 < 2 ^ 31 by omega)]
    rw [decide_eq_true hl]; rfl
  have hex := Tiles.ex_le (cnt W) t.val
  rw [W5_v50, W3_v9, W3_v8, h7, hc, ex_word hW t] at hne
  have key : ∀ p : BitVec 32, BitVec.setWidth 32 (IntOp.andi (IntOp.cmpi .ne (BitVec.ofNat 32 (Tiles.ex (cnt W) t.val)) p) 1#1) ≠ 1#32 → BitVec.ofNat 32 (Tiles.ex (cnt W) t.val) = p := by
    intro p hp
    by_contra hcon
    apply hp
    have : IntOp.cmpi .ne (BitVec.ofNat 32 (Tiles.ex (cnt W) t.val)) p = 1#1 := by
      unfold IntOp.cmpi
      show BitVec.ofBool _ = 1#1
      rw [bne_iff_ne.2 hcon]
      rfl
    rw [this]
    decide
  have h := key _ hne
  by_cases h0 : t.val < 1
  · rw [dif_pos h0] at h
    exfalso
    have := congrArg BitVec.toNat h
    simp only [BitVec.toNat_ofNat] at this
    omega
  · rw [dif_neg h0, ex_word hW] at h
    have hex' := Tiles.ex_le (cnt W) (t.val - 1)
    have := congrArg BitVec.toNat h
    simp only [BitVec.toNat_ofNat] at this
    exact ⟨by omega, by omega⟩

end Cert.KernelIdeal.Experts

end
-- ==== Proof.Good.lean ====
module

public import proofs.«01_k».proof.Proof.Tables

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds Idealize.SL.Sem

variable {F : FTy → Type} [FloatOps F]

/-- The tables hold the tiles' experts, rows and openings. -/
structure Holds (tb : pre0.Contents (Elt F)) (n : ℕ → ℕ) : Prop where
  bound : ∀ i, n i ≤ 16384
  ex : ∀ t : Fin 72, exT tb (ix1 t) = BitVec.ofNat 32 (Tiles.ex n t.val)
  nr : ∀ t : Fin 72, nrT tb (ix1 t) = BitVec.ofNat 32 (Tiles.nr n t.val)
  fl : ∀ t : Fin 72, flT tb (ix1 t) ≠ 1#32 → t.val < Tiles.ends n 7 → 0 < t.val ∧ Tiles.ex n (t.val - 1) = Tiles.ex n t.val

theorem word_at (tab : Vec F S72 .i32) (i : grid0.Coords) : word tab i = tab (ix1 (⟨(i 1).val, (i 1).isLt⟩ : Fin 72)) := by
  unfold word
  congr 1
  funext a
  match a with
  | ⟨0, _⟩ => rfl

theorem cond2_iff {k : ℕ} (hk : k ≤ 256) : k0_cond2 (BitVec.ofNat 32 k) = 1#1 ↔ 0 < k := by
  unfold k0_cond2
  interval_cases k <;> decide

theorem cond3_iff {k : ℕ} (hk : k ≤ 256) : k0_cond3 (BitVec.ofNat 32 k) = 1#1 ↔ ¬ 0 < k := by
  unfold k0_cond3
  interval_cases k <;> decide

variable {tb : pre0.Contents (Elt F)} {n : ℕ → ℕ} (h : Holds tb n)

include h

theorem Holds.word_ex (i : grid0.Coords) : word (exT tb) i = BitVec.ofNat 32 (Tiles.ex n (i 1).val) := by
  rw [word_at]
  exact h.ex ⟨(i 1).val, (i 1).isLt⟩

theorem Holds.word_nr (i : grid0.Coords) : word (nrT tb) i = BitVec.ofNat 32 (Tiles.nr n (i 1).val) := by
  rw [word_at]
  exact h.nr ⟨(i 1).val, (i 1).isLt⟩

theorem Holds.good : Good tb where
  ok := by
    have key : ∀ i : grid0.Coords, ∀ a : Fin 3, (![(word (exT tb) i).toNat, 0, (BitVec.ofNat 32 (i 0).val).toNat] a + 1) * S1x4096x512.size a ≤ S8x4096x7168.size a := by
      intro i a
      have he := Tiles.ex_le n (i 1).val
      have h0 : (i 0).val < 14 := (i 0).isLt
      rw [h.word_ex i]
      match a with
      | ⟨0, _⟩ => show ((BitVec.ofNat 32 (Tiles.ex n (i 1).val)).toNat + 1) * 1 ≤ 8; rw [BitVec.toNat_ofNat]; omega
      | ⟨1, _⟩ => show (0 + 1) * 4096 ≤ 4096; omega
      | ⟨2, _⟩ => show ((BitVec.ofNat 32 (i 0).val).toNat + 1) * 512 ≤ 7168; rw [BitVec.toNat_ofNat]; omega
    exact ⟨fun i => ⟨fun a => by rw [(at_word tb i).1]; exact key i a, .inl rfl⟩, fun i => ⟨fun a => by rw [(at_word tb i).2]; exact key i a, .inl rfl⟩⟩
  nr i := by
    rw [h.word_nr i, cond2_iff (Tiles.nr_le n _), cond3_iff (Tiles.nr_le n _)]
  carry i hl hf := by
    rw [h.word_nr i, cond2_iff (Tiles.nr_le n _), Tiles.nr_pos_iff] at hl
    rw [word_at] at hf
    obtain ⟨h0, he⟩ := h.fl ⟨(i 1).val, (i 1).isLt⟩ hf hl
    refine ⟨h0, fun i' _ h1 => ?_⟩
    have e : (i' 1).val = (i 1).val - 1 := by omega
    rw [h.word_nr i', cond2_iff (Tiles.nr_le n _), Tiles.nr_pos_iff, h.word_ex i', h.word_ex i, e]
    exact ⟨by omega, by rw [show Tiles.ex n ((i 1).val - 1) = _ from he]⟩

omit h

/-- The tables that the host's operations leave. -/
def tables (m : (ℓ : Loc nD τ sig) → Buf (Elt F) ℓ) (c : Dev nD) : pre0.Contents (Elt F) := fun k => Vm m c (pre0.ref k)

variable (m : (ℓ : Loc nD τ sig) → Buf (Elt F) ℓ) (c : Dev nD)

theorem Vm_eq (b : Ref sig .tc) : Vm m c b = W5 (W3 (W2 (fun b => m (c, b)))) (Proc.devRef .tc b) := by
  unfold Vm W5 W3 W2 hostAll
  rw [← StableHlo.after_append, ← StableHlo.after_append]
  rfl

theorem tables_ex (t : Fin 72) : exT (tables m c) (ix1 t) = W5 (W3 (W2 (fun b => m (c, b)))) (Proc.devRef .tc main_v19) (ix1 t) :=
  congrFun (Vm_eq m c main_v19) (ix1 t)

theorem tables_nr (t : Fin 72) : nrT (tables m c) (ix1 t) = W5 (W3 (W2 (fun b => m (c, b)))) (Proc.devRef .tc main_v42) (ix1 t) :=
  congrFun (Vm_eq m c main_v42) (ix1 t)

theorem tables_fl (t : Fin 72) : flT (tables m c) (ix1 t) = W5 (W3 (W2 (fun b => m (c, b)))) (Proc.devRef .tc main_v50) (ix1 t) :=
  congrFun (Vm_eq m c main_v50) (ix1 t)

theorem tables_hold (hm : ∀ i, cnt (fun b => m (c, b)) i ≤ 16384) : Holds (tables m c) (cnt fun b => m (c, b)) :=
  ⟨hm, fun t => (tables_ex m c t).trans ((congrFun (W5_v19 _) (ix1 t)).trans (ex_word hm t)), fun t => (tables_nr m c t).trans (nr_word hm t),
    fun t hne => fl_word hm t fun h => hne ((tables_fl m c t).trans h)⟩

theorem Vm_arg0 : Vm m c main_arg0 = m (c, Proc.devRef .tc main_arg0) := by
  unfold Vm hostAll
  simp only [List.flatten_cons, List.flatten_nil, List.append_nil]
  after_reads_simp

theorem Vm_arg1 : Vm m c main_arg1 = m (c, Proc.devRef .tc main_arg1) := by
  unfold Vm hostAll
  simp only [List.flatten_cons, List.flatten_nil, List.append_nil]
  after_reads_simp

theorem Vm_arg2 : Vm m c main_arg2 = m (c, Proc.devRef .tc main_arg2) := by
  unfold Vm hostAll
  simp only [List.flatten_cons, List.flatten_nil, List.append_nil]
  after_reads_simp

theorem Vm_arg3 : Vm m c main_arg3 = m (c, Proc.devRef .tc main_arg3) := by
  unfold Vm hostAll
  simp only [List.flatten_cons, List.flatten_nil, List.append_nil]
  after_reads_simp

end Cert.KernelIdeal.Experts

end
-- ==== Proof.Frame.lean ====
module

public import proofs.«01_k».proof.Defs
public import proofs.«01_k».proof.Proof.Good
public import proofs.«01_k».proof.Proof.Gen.Kernel.Launch
public import Idealize.ShloMosaic.Lib.Pipeline.Kit

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds Idealize.SL.Sem

variable {F : FTy → Type} [FloatOps F]
variable (m : (ℓ : Loc nD τ sig) → Buf (Elt F) ℓ) (ρ : Dev nD → PrngReg)

/-- The call's output array at the end. -/
def outArr (hm : ∀ c : Dev nD, ∀ i, cnt (fun b => m (c, b)) i ≤ 16384) (c : Dev nD) :=
  (dats (tables m 0) (tables_hold m 0 (hm 0)).good (Vm m) 0 c).arrAt 3 (cfgT (tables m 0) (tables_hold m 0 (hm 0)).good).N

theorem tables_any (c : Dev nD) : tables m c = tables m 0 := by
  rw [Subsingleton.elim c 0]

/-- Every run ends with the output array as stated, the arguments as they were and every counter at zero. -/
theorem run_args (hm : ∀ c : Dev nD, ∀ i, cnt (fun b => m (c, b)) i ≤ 16384) :
    θ_run defs (onTc (τ := τ) (main (F := F))) ⟨m, fun _ => 0, ρ⟩ (fun r => (∀ c : Dev nD,
      r.2.mem ((c.tc : Thread nD τ).loc main_v53) = outArr m hm c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hg := (tables_hold m 0 (hm 0)).good
  refine (θ_run defs _ _).mono (fun r h => ⟨fun c => ?_, h.2⟩) (run_main (tables m 0) hg m ρ (fun c k => congrFun (tables_any m c) k))
  have h1 := (h.1 c).1
  have h2 := (h.1 c).2
  refine ⟨h1 3, ?_, ?_, ?_, ?_⟩
  · exact (h1 0).trans (((dats (tables m 0) hg (Vm m) 0 c).arrAt_in 0 rfl _).trans ((A_eq (tables m 0) hg (Vm m) c 0).trans (Vm_arg0 m c)))
  · exact (h2 main_arg1 (show main_arg1 ∈ Pipeline.restRefs sig spec0 from by decide)).trans (Vm_arg1 m c)
  · exact (h1 1).trans (((dats (tables m 0) hg (Vm m) 0 c).arrAt_in 1 rfl _).trans ((A_eq (tables m 0) hg (Vm m) c 1).trans (Vm_arg2 m c)))
  · exact (h1 2).trans (((dats (tables m 0) hg (Vm m) 0 c).arrAt_in 2 rfl _).trans ((A_eq (tables m 0) hg (Vm m) c 2).trans (Vm_arg3 m c)))

/-- A count in the stated range is at most 16384. -/
theorem count_le {w : BitVec 32} (h : IntOp.andi (IntOp.cmpi .sge w 0#32) (IntOp.cmpi .sle w 16384#32) = 1#1) : w.toNat ≤ 16384 := by
  word_omega

theorem cnt_le [Cert.Pre_counts_in_range.Facts] (c : Dev nD) (h : Cert.Pre_counts_in_range.fn (F := F) (m ((c.tc : Thread nD τ).loc main_arg0)) (m ((c.tc : Thread nD τ).loc main_arg1)) (m ((c.tc : Thread nD τ).loc main_arg2)) (m ((c.tc : Thread nD τ).loc main_arg3)) = (fun _ => 1#1)) (i : ℕ) :
    cnt (fun b => m (c, b)) i ≤ 16384 := by
  unfold cnt
  split
  · rename_i hi
    have h0 := congrFun h (ix1 (⟨i, hi⟩ : Fin 8))
    exact count_le h0
  · omega

end Cert.KernelIdeal.Experts

end
-- ==== Proof.Spec.lean ====
module

public import proofs.«01_k».proof.Proof.Tiles
public import Idealize.ShloMosaic.Lib.Pointwise

@[expose] public section

noncomputable section

namespace Cert.Spec

open Idealize.ShloMosaic

/-- A row's value at `d`: its words' low halves as floats, then their high halves. -/
def half (w : Fin 2048 → BitVec 32) (d : Fin 4096) : EReal :=
  if h : d.val < 2048 then Ideal.ofBits .f32 (IntOp.shli .vector (w ⟨d.val, h⟩) 16#32)
  else Ideal.ofBits .f32 (IntOp.andi (w ⟨d.val - 2048, by omega⟩) 4294901760#32)

/-- One expert's gated product at one column: the gate through the sigmoid-weighted unit, times the up product. -/
def unit (x g u : Fin 4096 → EReal) : EReal :=
  (∑ d, x d * g d) * Ideal.logistic (∑ d, x d * g d) * ∑ d, x d * u d

/-- The result at one row and column: the row's expert's product, and zero in a row no expert holds. -/
def res (n : ℕ → ℕ) (xs : Fin 18432 → Fin 2048 → BitVec 32) (g u : Fin 8 → Fin 4096 → Fin 7168 → EReal) (r : Fin 18432) (q : Fin 7168) : EReal :=
  if r.val % 256 < Tiles.nr n (r.val / 256) then
    unit (half (xs r)) (fun d => g ⟨Tiles.ex n (r.val / 256), by have := Tiles.ex_le n (r.val / 256); omega⟩ d q)
      (fun d => u ⟨Tiles.ex n (r.val / 256), by have := Tiles.ex_le n (r.val / 256); omega⟩ d q)
  else 0

/-- One expert's down product at one column. -/
def dot (x w : Fin 7168 → EReal) : EReal := ∑ d, x d * w d

/-- The down call's result at one row and column: the product of the row's tile's expert, and zero in a tile without rows. -/
def down (n : ℕ → ℕ) (a : Fin 18432 → Fin 7168 → EReal) (w : Fin 8 → Fin 7168 → Fin 4096 → EReal) (r : Fin 18432) (q : Fin 4096) : EReal :=
  if 0 < Tiles.nr n (r.val / 256) then
    dot (a r) (fun d => w ⟨Tiles.ex n (r.val / 256), by have := Tiles.ex_le n (r.val / 256); omega⟩ d q)
  else 0

theorem half_zero (d : Fin 4096) : half (fun _ => 0#32) d = 0 := by
  have h0 : Ideal.ofBits .f32 0x00000000#32 = 0 := Ideal.ofBits_zero_f32
  unfold half
  split
  · rw [show IntOp.shli .vector 0#32 16#32 = 0#32 from by decide]; exact h0
  · rw [show IntOp.andi 0#32 4294901760#32 = 0#32 from by decide]; exact h0

theorem unit_zero (g u : Fin 4096 → EReal) : unit (fun d => half (fun _ => 0#32) d) g u = 0 := by
  unfold unit
  simp only [half_zero, zero_mul, Finset.sum_const_zero]

end Cert.Spec

end
-- ==== Proof.Pay.lean ====
module

public import proofs.«01_k».proof.Proof.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic

/-- The tile's rows: the two halves of each word side by side, a row past the tile's rows read as zero words. -/
def rows (v15 : Vec Ideal S256x2048 .i32) (v17 : BitVec 32) : FVec Ideal S256x4096 .bf16 :=
  have v24 : Vec Ideal S256x2048 .i32 := select (broadcastTo S256x2048 (shapeCast S256x1 (cmpi .slt (iota .tc S256x1 32 [0] iota_S256x1_d0_w32) (broadcast S256x1 v17)) shapeCasts_S256x1_S256x1) broadcasts_S256x1_S256x2048) v15 (broadcast S256x2048 0#32)
  concatenate S256x4096 1 [⟨S256x2048, truncf .bf16 (bitcastToFloat (F := Ideal) .f32 (shli v24 (broadcast S256x2048 16#32))) bitsLt_bf16_f32⟩,
    ⟨S256x2048, truncf .bf16 (bitcastToFloat (F := Ideal) .f32 (andi v24 (broadcast S256x2048 4294901760#32))) bitsLt_bf16_f32⟩] concatenates_S256x2048_S256x2048_S256x4096_d1

/-- The block's product, its gate passed through the sigmoid-weighted unit. -/
def prod (h : FVec Ideal S256x4096 .bf16) (w1 w2 : FVec Ideal S4096x512 .bf16) : FVec Ideal S256x512 .bf16 :=
  have g := matmul dot_S256x4096_S4096x512_S256x512_1_0_0_1_n_n none h w1 (constant S256x512 .f32 0x00000000#32)
  truncf .bf16 (mulf (mulf g (logistic g)) (matmul dot_S256x4096_S4096x512_S256x512_1_0_0_1_n_n none h w2 (constant S256x512 .f32 0x00000000#32))) bitsLt_bf16_f32

theorem pay3_eq (x : Vec Ideal S256x2048 .i32) (k : BitVec 32) (w1 w2 : Vec Ideal S4096x512 .bf16) :
    k0_pay3 (F := Ideal) x k w1 w2 = prod (rows x k) w1 w2 := rfl

theorem row_bit {r k : ℕ} (hr : r < 256) (hk : k ≤ 256) : IntOp.cmpi .slt (BitVec.ofNat 32 r) (BitVec.ofNat 32 k) = if r < k then 1#1 else 0#1 := by
  have hr' : (BitVec.ofNat 32 r).toNat = r := by rw [BitVec.toNat_ofNat]; omega
  have hk' : (BitVec.ofNat 32 k).toNat = k := by rw [BitVec.toNat_ofNat]; omega
  have h : (BitVec.ofNat 32 r).slt (BitVec.ofNat 32 k) = decide (r < k) := by
    rw [BitVec.slt_eq_decide, BitVec.toInt_eq_toNat_of_lt (by omega), BitVec.toInt_eq_toNat_of_lt (by omega), hr', hk']
    simp
  show BitVec.ofBool ((BitVec.ofNat 32 r).slt (BitVec.ofNat 32 k)) = _
  rw [h]
  by_cases hlt : r < k <;> simp [hlt]

theorem rows_at (x : Vec Ideal S256x2048 .i32) {k : ℕ} (hk : k ≤ 256) (r : Fin 256) (d : Fin 4096) :
    rows x (BitVec.ofNat 32 k) (ix2 r d) = Spec.half (fun b => if r.val < k then x (ix2 r b) else 0#32) d := by
  have hb : ∀ w : BitVec 32, Scalar.select (IntOp.cmpi .slt (BitVec.ofNat 32 r.val) (BitVec.ofNat 32 k)) w 0#32 = if r.val < k then w else 0#32 := by
    intro w
    rw [row_bit r.isLt hk]
    by_cases hlt : r.val < k
    · rw [if_pos hlt, if_pos hlt]; rfl
    · rw [if_neg hlt, if_neg hlt]; rfl
  unfold rows
  pointwise
  simp only [hb]
  rfl

theorem prod_at (h : FVec Ideal S256x4096 .bf16) (w1 w2 : FVec Ideal S4096x512 .bf16) (r : Fin 256) (q : Fin 512) :
    prod h w1 w2 (ix2 r q) = Spec.unit (fun d => h (ix2 r d)) (fun d => w1 (ix2 d q)) (fun d => w2 (ix2 d q)) := by
  unfold prod
  pointwise
  rfl

/-- The block's product: a row past the tile's rows reads zero words and gives zero. -/
theorem pay3_at (x : Vec Ideal S256x2048 .i32) {k : ℕ} (hk : k ≤ 256) (w1 w2 : Vec Ideal S4096x512 .bf16) (r : Fin 256) (q : Fin 512) :
    k0_pay3 (F := Ideal) x (BitVec.ofNat 32 k) w1 w2 (ix2 r q)
      = if r.val < k then Spec.unit (Spec.half fun b => x (ix2 r b)) (fun d => w1 (ix2 d q)) (fun d => w2 (ix2 d q)) else 0 := by
  rw [pay3_eq, prod_at]
  have e : (fun d => rows x (BitVec.ofNat 32 k) (ix2 r d)) = Spec.half (fun b => if r.val < k then x (ix2 r b) else 0#32) := by
    funext d; exact rows_at x hk r d
  rw [e]
  by_cases hlt : r.val < k
  · simp only [if_pos hlt]
  · simp only [if_neg hlt]
    exact Spec.unit_zero _ _

theorem pay1_at (x : Vec Ideal S1x4096x512 .f32) (d : Fin 4096) (q : Fin 512) :
    k0_pay1 (F := Ideal) x (ix2 d q) = x (ix3 (0 : Fin 1) d q) := by
  unfold k0_pay1
  pointwise

theorem pay2_at (x : Vec Ideal S1x4096x512 .f32) (d : Fin 4096) (q : Fin 512) :
    k0_pay2 (F := Ideal) x (ix2 d q) = x (ix3 (0 : Fin 1) d q) := by
  unfold k0_pay2
  pointwise

theorem pay4_at (r : Fin 256) (q : Fin 512) : k0_pay4 (F := Ideal) (ix2 r q) = 0 := by
  unfold k0_pay4
  pointwise

end Cert.KernelIdeal.Experts

end
-- ==== Proof.Val.lean ====
module

public import proofs.«01_k».proof.Proof.Pay
public import Idealize.ShloMosaic.Lib.Pipeline.ValueKit
public import Idealize.ShloMosaic.Lib.Pipeline.Covers

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds Idealize.SL.Sem

variable {tb : pre0.Contents (Elt Ideal)} {n : ℕ → ℕ} (h : Holds tb n)
variable (V : (c : Dev nD) → (b : Ref sig .tc) → Buf (Elt Ideal) ((c.tc : Thread nD τ).loc b))

theorem small {k : ℕ} (hk : k < 256) : (BitVec.ofNat 32 k).toNat = k := by
  rw [BitVec.toNat_ofNat]; omega

theorem idx0 (t : Fin (cfgT tb h.good).N) : ((cfgT tb h.good).win 0).index t = ![t.val % 72, 0] := by
  have hc := coords_val t
  show cc0_transform_0 (grid0.coords t) = _
  unfold cc0_transform_0
  show ![(BitVec.ofNat 32 (grid0.coords t 1).val).toNat, 0] = _
  rw [hc.2, small (k := t.val % 72) (by omega)]

theorem idx3 (t : Fin (cfgT tb h.good).N) : ((cfgT tb h.good).win 3).index t = ![t.val % 72, t.val / 72 % 14] := by
  have hc := coords_val t
  show cc0_transform_3 (grid0.coords t) = _
  unfold cc0_transform_3
  show ![(BitVec.ofNat 32 (grid0.coords t 1).val).toNat, (BitVec.ofNat 32 (grid0.coords t 0).val).toNat] = _
  rw [hc.1, hc.2, small (k := t.val % 72) (by omega), small (k := t.val / 72 % 14) (by omega)]

theorem idx1 (t : Fin (cfgT tb h.good).N) : ((cfgT tb h.good).win 1).index t = ![Tiles.ex n (t.val % 72), 0, t.val / 72 % 14]
    ∧ ((cfgT tb h.good).win 2).index t = ![Tiles.ex n (t.val % 72), 0, t.val / 72 % 14] := by
  have hc := coords_val t
  have he := Tiles.ex_le n (t.val % 72)
  constructor
  · show cc0_transform_1 k0_off1_inb numel1_S1 tb (grid0.coords t) = _
    rw [(at_word tb _).1, h.word_ex, hc.1, hc.2, small (k := Tiles.ex n (t.val % 72)) (by omega), small (k := t.val / 72 % 14) (by omega)]
  · show cc0_transform_2 k0_off1_inb numel1_S1 tb (grid0.coords t) = _
    rw [(at_word tb _).2, h.word_ex, hc.1, hc.2, small (k := Tiles.ex n (t.val % 72)) (by omega), small (k := t.val / 72 % 14) (by omega)]

theorem covers3 : ((cfgT tb h.good).win 3).Covers := by
  refine ((cfgT tb h.good).win 3).covers_of_indexMap_surj rfl (show ∀ a : Fin 2, 0 < S256x512.size a from by decide) fun β => ?_
  have l0 : (β (0 : Fin 2)).val < 72 := lt_of_lt_of_eq (β (0 : Fin 2)).isLt (show (S18432x7168.size (0 : Fin 2) + S256x512.size (0 : Fin 2) - 1) / S256x512.size (0 : Fin 2) = 72 from by decide)
  have l1 : (β (1 : Fin 2)).val < 14 := lt_of_lt_of_eq (β (1 : Fin 2)).isLt (show (S18432x7168.size (1 : Fin 2) + S256x512.size (1 : Fin 2) - 1) / S256x512.size (1 : Fin 2) = 14 from by decide)
  refine ⟨fun a => match a with | ⟨0, _⟩ => ⟨(β (1 : Fin 2)).val, l1⟩ | ⟨1, _⟩ => ⟨(β (0 : Fin 2)).val, l0⟩, fun a => ?_⟩
  match a with
  | ⟨0, _⟩ => exact small (k := (β (0 : Fin 2)).val) (by omega)
  | ⟨1, _⟩ => exact small (k := (β (1 : Fin 2)).val) (by omega)

theorem blk0 (c : Dev nD) (t : Fin (cfgT tb h.good).N) (i : Fin 256) (b : Fin 2048) :
    (iblk tb h.good V c 0 t : Vec Ideal S256x2048 .i32) (ix2 i b) = V c main_arg0 (ix2 (⟨t.val % 72 * 256 + i.val, by omega⟩ : Fin 18432) b : S18432x2048.Idx) := by
  blk_ext [iblk, idx0 h t]

theorem blk1 (c : Dev nD) (t : Fin (cfgT tb h.good).N) (d : Fin 4096) (q : Fin 512) :
    (iblk tb h.good V c 1 t : Vec Ideal S1x4096x512 .f32) (ix3 (0 : Fin 1) d q) = V c main_arg2 (ix3 (⟨Tiles.ex n (t.val % 72), by have := Tiles.ex_le n (t.val % 72); omega⟩ : Fin 8) d (⟨t.val / 72 % 14 * 512 + q.val, by omega⟩ : Fin 7168) : S8x4096x7168.Idx) := by
  blk_ext [iblk, (idx1 h t).1]

theorem blk2 (c : Dev nD) (t : Fin (cfgT tb h.good).N) (d : Fin 4096) (q : Fin 512) :
    (iblk tb h.good V c 2 t : Vec Ideal S1x4096x512 .f32) (ix3 (0 : Fin 1) d q) = V c main_arg3 (ix3 (⟨Tiles.ex n (t.val % 72), by have := Tiles.ex_le n (t.val % 72); omega⟩ : Fin 8) d (⟨t.val / 72 % 14 * 512 + q.val, by omega⟩ : Fin 7168) : S8x4096x7168.Idx) := by
  blk_ext [iblk, (idx1 h t).2]

/-- What point `t` leaves in the output block. -/
theorem outAt_at (c : Dev nD) (t : Fin (cfgT tb h.good).N) (i : Fin 256) (e : Fin 512) :
    outAt tb h.good V c t (ix2 i e : S256x512.Idx)
      = Spec.res n (fun r b => V c main_arg0 (ix2 r b : S18432x2048.Idx)) (fun e d q => V c main_arg2 (ix3 e d q : S8x4096x7168.Idx))
          (fun e d q => V c main_arg3 (ix3 e d q : S8x4096x7168.Idx)) ⟨t.val % 72 * 256 + i.val, by omega⟩ ⟨t.val / 72 % 14 * 512 + e.val, by omega⟩ := by
  have hc := coords_val t
  have hle := Tiles.nr_le n (t.val % 72)
  have e1 : (t.val % 72 * 256 + i.val) % 256 = i.val := by omega
  have e2 : (t.val % 72 * 256 + i.val) / 256 = t.val % 72 := by omega
  unfold outAt outBlk Spec.res
  rw [h.word_nr, hc.2]
  simp only [e1, e2]
  by_cases hp : 0 < Tiles.nr n (t.val % 72)
  · rw [if_pos ((cond2_iff hle).2 hp)]
    refine (pay3_at (iblk tb h.good V c 0 t) hle (wg tb h.good V c t) (wu tb h.good V c t) i e).trans ?_
    by_cases hi : i.val < Tiles.nr n (t.val % 72)
    · rw [if_pos hi, if_pos hi]
      have b0 : (fun b : Fin 2048 => (iblk tb h.good V c 0 t : Vec Ideal S256x2048 .i32) (ix2 i b)) = _ := funext fun b => blk0 h V c t i b
      have b1 : (fun d : Fin 4096 => wg tb h.good V c t (ix2 d e)) = _ := funext fun d => (pay1_at (iblk tb h.good V c 1 t) d e).trans (blk1 h V c t d e)
      have b2 : (fun d : Fin 4096 => wu tb h.good V c t (ix2 d e)) = _ := funext fun d => (pay2_at (iblk tb h.good V c 2 t) d e).trans (blk2 h V c t d e)
      exact congr (congr (congrArg (fun w => Spec.unit (Spec.half w)) b0) b1) b2
    · rw [if_neg hi, if_neg hi]
  · rw [if_neg (fun hh => hp ((cond2_iff hle).1 hh)), pay4_at, if_neg (by omega)]

/-- The call's output array, entry by entry. -/
theorem final (c : Dev nD) (G : FVec Ideal S18432x7168 .bf16)
    (hG : ∀ (r : Fin 18432) (q : Fin 7168), G (ix2 r q : S18432x7168.Idx) = Spec.res n (fun r b => V c main_arg0 (ix2 r b : S18432x2048.Idx))
          (fun e d q => V c main_arg2 (ix3 e d q : S8x4096x7168.Idx)) (fun e d q => V c main_arg3 (ix3 e d q : S8x4096x7168.Idx)) r q) :
    (dats tb h.good V 0 c).arrAt 3 (cfgT tb h.good).N = G := by
  refine (dats tb h.good V 0 c).arrAt_eq_of_covers 3 _ (covers3 h) fun t _ y => ?_
  blk_simp
  rw [after0_3]
  have ey : y = (ix2 (⟨(y (0 : Fin 2)).val, (y (0 : Fin 2)).isLt⟩ : Fin 256) (⟨(y (1 : Fin 2)).val, (y (1 : Fin 2)).isLt⟩ : Fin 512) : S256x512.Idx) := by
    funext a
    match a with
    | ⟨0, _⟩ => rfl
    | ⟨1, _⟩ => rfl
  refine (congrArg (outAt tb h.good V c t) ey).trans ((outAt_at h V c t _ _).trans ((hG _ _).symm.trans ?_))
  blk_ext [idx3 h t]

end Cert.KernelIdeal.Experts

end
-- ==== Proof.RefOps.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunHlo
public import Idealize.ShloMosaic.Lib.StableHlo.ReadAt

@[expose] public section

set_option maxRecDepth 16384

noncomputable section

namespace Cert.ReferenceIdeal.Experts

open Cert.ReferenceIdeal Cert.ReferenceIdeal.Gen
open Idealize.ShloMosaic Idealize.ShloMosaic.TcCoe Idealize.SL.Sem Idealize.ShloMosaic.StableHlo

variable {F : FTy → Type} [FloatOps F]

/-- The rows as floats, and where each expert's rows start. -/
abbrev headOps : List (HloOp τ sig (Elt F)) :=
  [ StableHlo.nullary main_c (constantI S_ 32 16#32),
    StableHlo.unary main_c main_v0 (broadcastInDim S18432x2048 ![] bcast_S_S18432x2048 : (⟨S_, .i32⟩ : BufTy).Contents (Elt F) → (⟨S18432x2048, .i32⟩ : BufTy).Contents (Elt F)),
    StableHlo.binary main_arg0 main_v0 main_v1 (Host.shli : (⟨S18432x2048, .i32⟩ : BufTy).Contents (Elt F) → (⟨S18432x2048, .i32⟩ : BufTy).Contents (Elt F) → (⟨S18432x2048, .i32⟩ : BufTy).Contents (Elt F)),
    StableHlo.unary main_v1 main_v2 (bitcastToFloat .f32 : (⟨S18432x2048, .i32⟩ : BufTy).Contents (Elt F) → (⟨S18432x2048, .f32⟩ : BufTy).Contents (Elt F)),
    StableHlo.nullary main_c_0 (constantI S_ 32 4294901760#32),
    StableHlo.unary main_c_0 main_v3 (broadcastInDim S18432x2048 ![] bcast_S_S18432x2048 : (⟨S_, .i32⟩ : BufTy).Contents (Elt F) → (⟨S18432x2048, .i32⟩ : BufTy).Contents (Elt F)),
    StableHlo.binary main_arg0 main_v3 main_v4 (andi : (⟨S18432x2048, .i32⟩ : BufTy).Contents (Elt F) → (⟨S18432x2048, .i32⟩ : BufTy).Contents (Elt F) → (⟨S18432x2048, .i32⟩ : BufTy).Contents (Elt F)),
    StableHlo.unary main_v4 main_v5 (bitcastToFloat .f32 : (⟨S18432x2048, .i32⟩ : BufTy).Contents (Elt F) → (⟨S18432x2048, .f32⟩ : BufTy).Contents (Elt F)),
    StableHlo.binary main_v2 main_v5 main_v6 ((fun a b => concatenate S18432x4096 1 [⟨S18432x2048, a⟩, ⟨S18432x2048, b⟩] concatenates_S18432x2048_S18432x2048_S18432x4096_d1) : (⟨S18432x2048, .f32⟩ : BufTy).Contents (Elt F) → (⟨S18432x2048, .f32⟩ : BufTy).Contents (Elt F) → (⟨S18432x4096, .f32⟩ : BufTy).Contents (Elt F)),
    StableHlo.nullary main_c_1 (constantI S_ 32 255#32),
    StableHlo.unary main_c_1 main_v7 (broadcastInDim S8 ![] bcast_S_S8 : (⟨S_, .i32⟩ : BufTy).Contents (Elt F) → (⟨S8, .i32⟩ : BufTy).Contents (Elt F)),
    StableHlo.binary main_arg1 main_v7 main_v8 (addi : (⟨S8, .i32⟩ : BufTy).Contents (Elt F) → (⟨S8, .i32⟩ : BufTy).Contents (Elt F) → (⟨S8, .i32⟩ : BufTy).Contents (Elt F)),
    StableHlo.nullary main_c_2 (constantI S_ 32 256#32),
    StableHlo.TRef.unary (.of main_c_2 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8, .i32⟩) (broadcastInDim S8 ![] bcast_S_S8),
    StableHlo.TRef.binary (.of main_v8 : StableHlo.TRef sig ⟨S8, .i32⟩) (.of main_call0_v1 : StableHlo.TRef sig ⟨S8, .i32⟩) (.of main_call0_v2 : StableHlo.TRef sig ⟨S8, .i32⟩) Host.divsi,
    StableHlo.TRef.unary (.of main_v8 : StableHlo.TRef sig ⟨S8, .i32⟩) (.of main_call0_v3 : StableHlo.TRef sig ⟨S8, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8, .i32⟩) (broadcastInDim S8 ![] bcast_S_S8),
    StableHlo.TRef.binary (.of main_call0_v3 : StableHlo.TRef sig ⟨S8, .i32⟩) (.of main_call0_v5 : StableHlo.TRef sig ⟨S8, .i32⟩) (.of main_call0_v6 : StableHlo.TRef sig ⟨S8, .i1⟩) (cmpi .ne),
    StableHlo.TRef.unary (.of main_call0_v0 : StableHlo.TRef sig ⟨S_, .i32⟩) (.of main_call0_v7 : StableHlo.TRef sig ⟨S8, .i32⟩) (broadcastInDim S8 ![] bcast_S_S8),
    StableHlo.TRef.binary (.of main_v8 : StableHlo.TRef sig ⟨S8, .i32⟩) (.of main_call0_v7 : StableHlo.TRef sig ⟨S8, .i32⟩) (.of main_call0_v8 : StableHlo.TRef sig ⟨S8, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8, .i32⟩) (broadcastInDim S8 ![] bcast_S_S8),
    StableHlo.TRef.binary (.of main_call0_v8 : StableHlo.TRef sig ⟨S8, .i32⟩) (.of main_call0_v9 : StableHlo.TRef sig ⟨S8, .i32⟩) (.of main_call0_v10 : StableHlo.TRef sig ⟨S8, .i1⟩) (cmpi .ne),
    StableHlo.TRef.binary (.of main_call0_v6 : StableHlo.TRef sig ⟨S8, .i1⟩) (.of main_call0_v10 : StableHlo.TRef sig ⟨S8, .i1⟩) (.of main_call0_v11 : StableHlo.TRef sig ⟨S8, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8, .i32⟩) (broadcastInDim S8 ![] bcast_S_S8),
    StableHlo.TRef.binary (.of main_call0_v2 : StableHlo.TRef sig ⟨S8, .i32⟩) (.of main_call0_v12 : StableHlo.TRef sig ⟨S8, .i32⟩) (.of main_call0_v13 : StableHlo.TRef sig ⟨S8, .i32⟩) subi,
    StableHlo.TRef.ternary (.of main_call0_v11 : StableHlo.TRef sig ⟨S8, .i1⟩) (.of main_call0_v13 : StableHlo.TRef sig ⟨S8, .i32⟩) (.of main_call0_v2 : StableHlo.TRef sig ⟨S8, .i32⟩) (.of main_v9 : StableHlo.TRef sig ⟨S8, .i32⟩) select,
    StableHlo.nullary main_c_3 (constantI S_ 32 256#32),
    StableHlo.unary main_c_3 main_v10 (broadcastInDim S8 ![] bcast_S_S8 : (⟨S_, .i32⟩ : BufTy).Contents (Elt F) → (⟨S8, .i32⟩ : BufTy).Contents (Elt F)),
    StableHlo.binary main_v9 main_v10 main_v11 (muli : (⟨S8, .i32⟩ : BufTy).Contents (Elt F) → (⟨S8, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v11 : StableHlo.TRef sig ⟨S8, .i32⟩) (.of main_call1_call0_v0 : StableHlo.TRef sig ⟨S_, .i32⟩) (.of main_v12 : StableHlo.TRef sig ⟨S8, .i32⟩) (fun x v => Host.reduceWindow IntOp.addi ![8] ![1] ![7] ![0] x v reduceWindows_S8_S8_w8s1p7_0 h_S_),
    StableHlo.binary main_v12 main_v11 main_v13 (subi : (⟨S8, .i32⟩ : BufTy).Contents (Elt F) → (⟨S8, .i32⟩ : BufTy).Contents (Elt F) → (⟨S8, .i32⟩ : BufTy).Contents (Elt F)),
    StableHlo.nullary main_v14 (iotaInDim S18432 32 0),
    StableHlo.nullary main_cst (constant S_ .f32 0x00000000#32),
    StableHlo.unary main_cst main_v15 (broadcastInDim S18432x7168 ![] bcast_S_S18432x7168 : (⟨S_, .f32⟩ : BufTy).Contents (Elt F) → (⟨S18432x7168, .f32⟩ : BufTy).Contents (Elt F)) ]

/-- Expert 0's gated product, added where the expert holds the row. -/
abbrev exp0 : List (HloOp τ sig (Elt F)) :=
  [ StableHlo.unary main_v13 main_v16 ((extractStridedSlice S1 ![0] · slices_S8_S1_0) : (⟨S8, .i32⟩ : BufTy).Contents (Elt F) → (⟨S1, .i32⟩ : BufTy).Contents (Elt F)),
    StableHlo.reshape main_v16 main_v17 (rfl : (.i32 : EltTy) = .i32) shapeCasts_S1_S_,
    StableHlo.unary main_v17 main_v18 (broadcastInDim S18432 ![] bcast_S_S18432 : (⟨S_, .i32⟩ : BufTy).Contents (Elt F) → (⟨S18432, .i32⟩ : BufTy).Contents (Elt F)),
    StableHlo.binary main_v18 main_v14 main_v19 (cmpi .sle : (⟨S18432, .i32⟩ : BufTy).Contents (Elt F) → (⟨S18432, .i32⟩ : BufTy).Contents (Elt F) → (⟨S18432, .i1⟩ : BufTy).Contents (Elt F)),
    StableHlo.unary main_v13 main_v20 ((extractStridedSlice S1 ![0] · slices_S8_S1_0) : (⟨S8, .i32⟩ : BufTy).Contents (Elt F) → (⟨S1, .i32⟩ : BufTy).Contents (Elt F)),
    StableHlo.reshape main_v20 main_v21 (rfl : (.i32 : EltTy) = .i32) shapeCasts_S1_S_,
    StableHlo.unary main_arg1 main_v22 ((extractStridedSlice S1 ![0] · slices_S8_S1_0) : (⟨S8, .i32⟩ : BufTy).Contents (Elt F) → (⟨S1, .i32⟩ : BufTy).Contents (Elt F)),
    StableHlo.reshape main_v22 main_v23 (rfl : (.i32 : EltTy) = .i32) shapeCasts_S1_S_,
    StableHlo.binary main_v21 main_v23 main_v24 (addi : (⟨S_, .i32⟩ : BufTy).Contents (Elt F) → (⟨S_, .i32⟩ : BufTy).Contents (Elt F) → (⟨S_, .i32⟩ : BufTy).Contents (Elt F)),
    StableHlo.unary main_v24 main_v25 (broadcastInDim S18432 ![] bcast_S_S18432 : (⟨S_, .i32⟩ : BufTy).Contents (Elt F) → (⟨S18432, .i32⟩ : BufTy).Contents (Elt F)),
    StableHlo.binary main_v14 main_v25 main_v26 (cmpi .slt : (⟨S18432, .i32⟩ : BufTy).Contents (Elt F) → (⟨S18432, .i32⟩ : BufTy).Contents (Elt F) → (⟨S18432, .i1⟩ : BufTy).Contents (Elt F)),
    StableHlo.binary main_v19 main_v26 main_v27 (andi : (⟨S18432, .i1⟩ : BufTy).Contents (Elt F) → (⟨S18432, .i1⟩ : BufTy).Contents (Elt F) → (⟨S18432, .i1⟩ : BufTy).Contents (Elt F)),
    StableHlo.unary main_v27 main_v28 (uitofp .f32 : (⟨S18432, .i1⟩ : BufTy).Contents (Elt F) → (⟨S18432, .f32⟩ : BufTy).Contents (Elt F)),
    StableHlo.unary main_v28 main_v29 (broadcastInDim S18432x1 ![0] bcast_S18432_S18432x1_0 : (⟨S18432, .f32⟩ : BufTy).Contents (Elt F) → (⟨S18432x1, .f32⟩ : BufTy).Contents (Elt F)),
    StableHlo.unary main_arg2 main_v30 ((extractStridedSlice S1x4096x7168 ![0, 0, 0] · slices_S8x4096x7168_S1x4096x7168_0_0_0) : (⟨S8x4096x7168, .f32⟩ : BufTy).Contents (Elt F) → (⟨S1x4096x7168, .f32⟩ : BufTy).Contents (Elt F)),
    StableHlo.reshape main_v30 main_v31 (rfl : (.f32 : EltTy) = .f32) shapeCasts_S1x4096x7168_S4096x7168,
    StableHlo.binary main_v6 main_v31 main_v32 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v32 : StableHlo.TRef sig ⟨S18432x7168, .f32⟩) (.of main_call2_v0 : StableHlo.TRef sig ⟨S18432x7168, .f32⟩) Host.negf,
    StableHlo.TRef.unary (.of main_call2_v0 : StableHlo.TRef sig ⟨S18432x7168, .f32⟩) (.of main_call2_v1 : StableHlo.TRef sig ⟨S18432x7168, .f32⟩) Host.exp,
    StableHlo.TRef.nullary (.of main_call2_cst : StableHlo.TRef sig ⟨S_, .f32⟩) (constant S_ .f32 0x3F800000#32),
    StableHlo.TRef.unary (.of main_call2_cst : StableHlo.TRef sig ⟨S_, .f32⟩) (.of main_call2_v2 : StableHlo.TRef sig ⟨S18432x7168, .f32⟩) (broadcastInDim S18432x7168 ![] bcast_S_S18432x7168),
    StableHlo.TRef.binary (.of main_call2_v2 : StableHlo.TRef sig ⟨S18432x7168, .f32⟩) (.of main_call2_v1 : StableHlo.TRef sig ⟨S18432x7168, .f32⟩) (.of main_call2_v3 : StableHlo.TRef sig ⟨S18432x7168, .f32⟩) addf,
    StableHlo.TRef.nullary (.of main_call2_cst_0 : StableHlo.TRef sig ⟨S_, .f32⟩) (constant S_ .f32 0x3F800000#32),
    StableHlo.TRef.unary (.of main_call2_cst_0 : StableHlo.TRef sig ⟨S_, .f32⟩) (.of main_call2_v4 : StableHlo.TRef sig ⟨S18432x7168, .f32⟩) (broadcastInDim S18432x7168 ![] bcast_S_S18432x7168),
    StableHlo.TRef.binary (.of main_call2_v4 : StableHlo.TRef sig ⟨S18432x7168, .f32⟩) (.of main_call2_v3 : StableHlo.TRef sig ⟨S18432x7168, .f32⟩) (.of main_call2_v5 : StableHlo.TRef sig ⟨S18432x7168, .f32⟩) Host.divf,
    StableHlo.TRef.binary (.of main_v32 : StableHlo.TRef sig ⟨S18432x7168, .f32⟩) (.of main_call2_v5 : StableHlo.TRef sig ⟨S18432x7168, .f32⟩) (.of main_v33 : StableHlo.TRef sig ⟨S18432x7168, .f32⟩) mulf,
    StableHlo.unary main_arg3 main_v34 ((extractStridedSlice S1x4096x7168 ![0, 0, 0] · slices_S8x4096x7168_S1x4096x7168_0_0_0) : (⟨S8x4096x7168, .f32⟩ : BufTy).Contents (Elt F) → (⟨S1x4096x7168, .f32⟩ : BufTy).Contents (Elt F)),
    StableHlo.reshape main_v34 main_v35 (rfl : (.f32 : EltTy) = .f32) shapeCasts_S1x4096x7168_S4096x7168,
    StableHlo.binary main_v6 main_v35 main_v36 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v33 main_v36 main_v37 (mulf : (⟨S18432x7168, .f32⟩ : BufTy).Contents (Elt F) → (⟨S18432x7168, .f32⟩ : BufTy).Contents (Elt F) → (⟨S18432x7168, .f32⟩ : BufTy).Contents (Elt F)),
    StableHlo.unary main_v29 main_v38 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v38 main_v37 main_v39 (mulf : (⟨S18432x7168, .f32⟩ : BufTy).Contents (Elt F) → (⟨S18432x7168, .f32⟩ : BufTy).Contents (Elt F) → (⟨S18432x7168, .f32⟩ : BufTy).Contents (Elt F)),
    StableHlo.binary main_v15 main_v39 main_v40 (addf : (⟨S18432x7168, .f32⟩ : BufTy).Contents (Elt F) → (⟨S18432x7168, .f32⟩ : BufTy).Contents (Elt F) → (⟨S18432x7168, .f32⟩ : BufTy).Contents (Elt F)) ]

/-- Expert 1's gated product, added where the expert holds the row. -/
abbrev exp1 : List (HloOp τ sig (Elt F)) :=
  [ StableHlo.unary main_v13 main_v41 ((extractStridedSlice S1 ![1] · slices_S8_S1_1) : (⟨S8, .i32⟩ : BufTy).Contents (Elt F) → (⟨S1, .i32⟩ : BufTy).Contents (Elt F)),
    StableHlo.reshape main_v41 main_v42 (rfl : (.i32 : EltTy) = .i32) shapeCasts_S1_S_,
    StableHlo.unary main_v42 main_v43 (broadcastInDim S18432 ![] bcast_S_S18432 : (⟨S_, .i32⟩ : BufTy).Contents (Elt F) → (⟨S18432, .i32⟩ : BufTy).Contents (Elt F)),
    StableHlo.binary main_v43 main_v14 main_v44 (cmpi .sle : (⟨S18432, .i32⟩ : BufTy).Contents (Elt F) → (⟨S18432, .i32⟩ : BufTy).Contents (Elt F) → (⟨S18432, .i1⟩ : BufTy).Contents (Elt F)),
    StableHlo.unary main_v13 main_v45 ((extractStridedSlice S1 ![1] · slices_S8_S1_1) : (⟨S8, .i32⟩ : BufTy).Contents (Elt F) → (⟨S1, .i32⟩ : BufTy).Contents (Elt F)),
    StableHlo.reshape main_v45 main_v46 (rfl : (.i32 : EltTy) = .i32) shapeCasts_S1_S_,
    StableHlo.unary main_arg1 main_v47 ((extractStridedSlice S1 ![1] · slices_S8_S1_1) : (⟨S8, .i32⟩ : BufTy).Contents (Elt F) → (⟨S1, .i32⟩ : BufTy).Contents (Elt F)),
    StableHlo.reshape main_v47 main_v48 (rfl : (.i32 : EltTy) = .i32) shapeCasts_S1_S_,
    StableHlo.binary main_v46 main_v48 main_v49 (addi : (⟨S_, .i32⟩ : BufTy).Contents (Elt F) → (⟨S_, .i32⟩ : BufTy).Contents (Elt F) → (⟨S_, .i32⟩ : BufTy).Contents (Elt F)),
    StableHlo.unary main_v49 main_v50 (broadcastInDim S18432 ![] bcast_S_S18432 : (⟨S_, .i32⟩ : BufTy).Contents (Elt F) → (⟨S18432, .i32⟩ : BufTy).Contents (Elt F)),
    StableHlo.binary main_v14 main_v50 main_v51 (cmpi .slt : (⟨S18432, .i32⟩ : BufTy).Contents (Elt F) → (⟨S18432, .i32⟩ : BufTy).Contents (Elt F) → (⟨S18432, .i1⟩ : BufTy).Contents (Elt F)),
    StableHlo.binary main_v44 main_v51 main_v52 (andi : (⟨S18432, .i1⟩ : BufTy).Contents (Elt F) → (⟨S18432, .i1⟩ : BufTy).Contents (Elt F) → (⟨S18432, .i1⟩ : BufTy).Contents (Elt F)),
    StableHlo.unary main_v52 main_v53 (uitofp .f32 : (⟨S18432, .i1⟩ : BufTy).Contents (Elt F) → (⟨S18432, .f32⟩ : BufTy).Contents (Elt F)),
    StableHlo.unary main_v53 main_v54 (broadcastInDim S18432x1 ![0] bcast_S18432_S18432x1_0 : (⟨S18432, .f32⟩ : BufTy).Contents (Elt F) → (⟨S18432x1, .f32⟩ : BufTy).Contents (Elt F)),
    StableHlo.unary main_arg2 main_v55 ((extractStridedSlice S1x4096x7168 ![1, 0, 0] · slices_S8x4096x7168_S1x4096x7168_1_0_0) : (⟨S8x4096x7168, .f32⟩ : BufTy).Contents (Elt F) → (⟨S1x4096x7168, .f32⟩ : BufTy).Contents (Elt F)),
    StableHlo.reshape main_v55 main_v56 (rfl : (.f32 : EltTy) = .f32) shapeCasts_S1x4096x7168_S4096x7168,
    StableHlo.binary main_v6 main_v56 main_v57 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v57 : StableHlo.TRef sig ⟨S18432x7168, .f32⟩) (.of main_call3_v0 : StableHlo.TRef sig ⟨S18432x7168, .f32⟩) Host.negf,
    StableHlo.TRef.unary (.of main_call3_v0 : StableHlo.TRef sig ⟨S18432x7168, .f32⟩) (.of main_call3_v1 : StableHlo.TRef sig ⟨S18432x7168, .f32⟩) Host.exp,
    StableHlo.TRef.nullary (.of main_call3_cst : StableHlo.TRef sig ⟨S_, .f32⟩) (constant S_ .f32 0x3F800000#32),
    StableHlo.TRef.unary (.of main_call3_cst : StableHlo.TRef sig ⟨S_, .f32⟩) (.of main_call3_v2 : StableHlo.TRef sig ⟨S18432x7168, .f32⟩) (broadcastInDim S18432x7168 ![] bcast_S_S18432x7168),
    StableHlo.TRef.binary (.of main_call3_v2 : StableHlo.TRef sig ⟨S18432x7168, .f32⟩) (.of main_call3_v1 : StableHlo.TRef sig ⟨S18432x7168, .f32⟩) (.of main_call3_v3 : StableHlo.TRef sig ⟨S18432x7168, .f32⟩) addf,
    StableHlo.TRef.nullary (.of main_call3_cst_0 : StableHlo.TRef sig ⟨S_, .f32⟩) (constant S_ .f32 0x3F800000#32),
    StableHlo.TRef.unary (.of main_call3_cst_0 : StableHlo.TRef sig ⟨S_, .f32⟩) (.of main_call3_v4 : StableHlo.TRef sig ⟨S18432x7168, .f32⟩) (broadcastInDim S18432x7168 ![] bcast_S_S18432x7168),
    StableHlo.TRef.binary (.of main_call3_v4 : StableHlo.TRef sig ⟨S18432x7168, .f32⟩) (.of main_call3_v3 : StableHlo.TRef sig ⟨S18432x7168, .f32⟩) (.of main_call3_v5 : StableHlo.TRef sig ⟨S18432x7168, .f32⟩) Host.divf,
    StableHlo.TRef.binary (.of main_v57 : StableHlo.TRef sig ⟨S18432x7168, .f32⟩) (.of main_call3_v5 : StableHlo.TRef sig ⟨S18432x7168, .f32⟩) (.of main_v58 : StableHlo.TRef sig ⟨S18432x7168, .f32⟩) mulf,
    StableHlo.unary main_arg3 main_v59 ((extractStridedSlice S1x4096x7168 ![1, 0, 0] · slices_S8x4096x7168_S1x4096x7168_1_0_0) : (⟨S8x4096x7168, .f32⟩ : BufTy).Contents (Elt F) → (⟨S1x4096x7168, .f32⟩ : BufTy).Contents (Elt F)),
    StableHlo.reshape main_v59 main_v60 (rfl : (.f32 : EltTy) = .f32) shapeCasts_S1x4096x7168_S4096x7168,
    StableHlo.binary main_v6 main_v60 main_v61 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v58 main_v61 main_v62 (mulf : (⟨S18432x7168, .f32⟩ : BufTy).Contents (Elt F) → (⟨S18432x7168, .f32⟩ : BufTy).Contents (Elt F) → (⟨S18432x7168, .f32⟩ : BufTy).Contents (Elt F)),
    StableHlo.unary main_v54 main_v63 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v63 main_v62 main_v64 (mulf : (⟨S18432x7168, .f32⟩ : BufTy).Contents (Elt F) → (⟨S18432x7168, .f32⟩ : BufTy).Contents (Elt F) → (⟨S18432x7168, .f32⟩ : BufTy).Contents (Elt F)),
    StableHlo.binary main_v40 main_v64 main_v65 (addf : (⟨S18432x7168, .f32⟩ : BufTy).Contents (Elt F) → (⟨S18432x7168, .f32⟩ : BufTy).Contents (Elt F) → (⟨S18432x7168, .f32⟩ : BufTy).Contents (Elt F)) ]

/-- Expert 2's gated product, added where the expert holds the row. -/
abbrev exp2 : List (HloOp τ sig (Elt F)) :=
  [ StableHlo.unary main_v13 main_v66 ((extractStridedSlice S1 ![2] · slices_S8_S1_2) : (⟨S8, .i32⟩ : BufTy).Contents (Elt F) → (⟨S1, .i32⟩ : BufTy).Contents (Elt F)),
    StableHlo.reshape main_v66 main_v67 (rfl : (.i32 : EltTy) = .i32) shapeCasts_S1_S_,
    StableHlo.unary main_v67 main_v68 (broadcastInDim S18432 ![] bcast_S_S18432 : (⟨S_, .i32⟩ : BufTy).Contents (Elt F) → (⟨S18432, .i32⟩ : BufTy).Contents (Elt F)),
    StableHlo.binary main_v68 main_v14 main_v69 (cmpi .sle : (⟨S18432, .i32⟩ : BufTy).Contents (Elt F) → (⟨S18432, .i32⟩ : BufTy).Contents (Elt F) → (⟨S18432, .i1⟩ : BufTy).Contents (Elt F)),
    StableHlo.unary main_v13 main_v70 ((extractStridedSlice S1 ![2] · slices_S8_S1_2) : (⟨S8, .i32⟩ : BufTy).Contents (Elt F) → (⟨S1, .i32⟩ : BufTy).Contents (Elt F)),
    StableHlo.reshape main_v70 main_v71 (rfl : (.i32 : EltTy) = .i32) shapeCasts_S1_S_,
    StableHlo.unary main_arg1 main_v72 ((extractStridedSlice S1 ![2] · slices_S8_S1_2) : (⟨S8, .i32⟩ : BufTy).Contents (Elt F) → (⟨S1, .i32⟩ : BufTy).Contents (Elt F)),
    StableHlo.reshape main_v72 main_v73 (rfl : (.i32 : EltTy) = .i32) shapeCasts_S1_S_,
    StableHlo.binary main_v71 main_v73 main_v74 (addi : (⟨S_, .i32⟩ : BufTy).Contents (Elt F) → (⟨S_, .i32⟩ : BufTy).Contents (Elt F) → (⟨S_, .i32⟩ : BufTy).Contents (Elt F)),
    StableHlo.unary main_v74 main_v75 (broadcastInDim S18432 ![] bcast_S_S18432 : (⟨S_, .i32⟩ : BufTy).Contents (Elt F) → (⟨S18432, .i32⟩ : BufTy).Contents (Elt F)),
    StableHlo.binary main_v14 main_v75 main_v76 (cmpi .slt : (⟨S18432, .i32⟩ : BufTy).Contents (Elt F) → (⟨S18432, .i32⟩ : BufTy).Contents (Elt F) → (⟨S18432, .i1⟩ : BufTy).Contents (Elt F)),
    StableHlo.binary main_v69 main_v76 main_v77 (andi : (⟨S18432, .i1⟩ : BufTy).Contents (Elt F) → (⟨S18432, .i1⟩ : BufTy).Contents (Elt F) → (⟨S18432, .i1⟩ : BufTy).Contents (Elt F)),
    StableHlo.unary main_v77 main_v78 (uitofp .f32 : (⟨S18432, .i1⟩ : BufTy).Contents (Elt F) → (⟨S18432, .f32⟩ : BufTy).Contents (Elt F)),
    StableHlo.unary main_v78 main_v79 (broadcastInDim S18432x1 ![0] bcast_S18432_S18432x1_0 : (⟨S18432, .f32⟩ : BufTy).Contents (Elt F) → (⟨S18432x1, .f32⟩ : BufTy).Contents (Elt F)),
    StableHlo.unary main_arg2 main_v80 ((extractStridedSlice S1x4096x7168 ![2, 0, 0] · slices_S8x4096x7168_S1x4096x7168_2_0_0) : (⟨S8x4096x7168, .f32⟩ : BufTy).Contents (Elt F) → (⟨S1x4096x7168, .f32⟩ : BufTy).Contents (Elt F)),
    StableHlo.reshape main_v80 main_v81 (rfl : (.f32 : EltTy) = .f32) shapeCasts_S1x4096x7168_S4096x7168,
    StableHlo.binary main_v6 main_v81 main_v82 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v82 : StableHlo.TRef sig ⟨S18432x7168, .f32⟩) (.of main_call4_v0 : StableHlo.TRef sig ⟨S18432x7168, .f32⟩) Host.negf,
    StableHlo.TRef.unary (.of main_call4_v0 : StableHlo.TRef sig ⟨S18432x7168, .f32⟩) (.of main_call4_v1 : StableHlo.TRef sig ⟨S18432x7168, .f32⟩) Host.exp,
    StableHlo.TRef.nullary (.of main_call4_cst : StableHlo.TRef sig ⟨S_, .f32⟩) (constant S_ .f32 0x3F800000#32),
    StableHlo.TRef.unary (.of main_call4_cst : StableHlo.TRef sig ⟨S_, .f32⟩) (.of main_call4_v2 : StableHlo.TRef sig ⟨S18432x7168, .f32⟩) (broadcastInDim S18432x7168 ![] bcast_S_S18432x7168),
    StableHlo.TRef.binary (.of main_call4_v2 : StableHlo.TRef sig ⟨S18432x7168, .f32⟩) (.of main_call4_v1 : StableHlo.TRef sig ⟨S18432x7168, .f32⟩) (.of main_call4_v3 : StableHlo.TRef sig ⟨S18432x7168, .f32⟩) addf,
    StableHlo.TRef.nullary (.of main_call4_cst_0 : StableHlo.TRef sig ⟨S_, .f32⟩) (constant S_ .f32 0x3F800000#32),
    StableHlo.TRef.unary (.of main_call4_cst_0 : StableHlo.TRef sig ⟨S_, .f32⟩) (.of main_call4_v4 : StableHlo.TRef sig ⟨S18432x7168, .f32⟩) (broadcastInDim S18432x7168 ![] bcast_S_S18432x7168),
    StableHlo.TRef.binary (.of main_call4_v4 : StableHlo.TRef sig ⟨S18432x7168, .f32⟩) (.of main_call4_v3 : StableHlo.TRef sig ⟨S18432x7168, .f32⟩) (.of main_call4_v5 : StableHlo.TRef sig ⟨S18432x7168, .f32⟩) Host.divf,
    StableHlo.TRef.binary (.of main_v82 : StableHlo.TRef sig ⟨S18432x7168, .f32⟩) (.of main_call4_v5 : StableHlo.TRef sig ⟨S18432x7168, .f32⟩) (.of main_v83 : StableHlo.TRef sig ⟨S18432x7168, .f32⟩) mulf,
    StableHlo.unary main_arg3 main_v84 ((extractStridedSlice S1x4096x7168 ![2, 0, 0] · slices_S8x4096x7168_S1x4096x7168_2_0_0) : (⟨S8x4096x7168, .f32⟩ : BufTy).Contents (Elt F) → (⟨S1x4096x7168, .f32⟩ : BufTy).Contents (Elt F)),
    StableHlo.reshape main_v84 main_v85 (rfl : (.f32 : EltTy) = .f32) shapeCasts_S1x4096x7168_S4096x7168,
    StableHlo.binary main_v6 main_v85 main_v86 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v83 main_v86 main_v87 (mulf : (⟨S18432x7168, .f32⟩ : BufTy).Contents (Elt F) → (⟨S18432x7168, .f32⟩ : BufTy).Contents (Elt F) → (⟨S18432x7168, .f32⟩ : BufTy).Contents (Elt F)),
    StableHlo.unary main_v79 main_v88 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v88 main_v87 main_v89 (mulf : (⟨S18432x7168, .f32⟩ : BufTy).Contents (Elt F) → (⟨S18432x7168, .f32⟩ : BufTy).Contents (Elt F) → (⟨S18432x7168, .f32⟩ : BufTy).Contents (Elt F)),
    StableHlo.binary main_v65 main_v89 main_v90 (addf : (⟨S18432x7168, .f32⟩ : BufTy).Contents (Elt F) → (⟨S18432x7168, .f32⟩ : BufTy).Contents (Elt F) → (⟨S18432x7168, .f32⟩ : BufTy).Contents (Elt F)) ]

/-- Expert 3's gated product, added where the expert holds the row. -/
abbrev exp3 : List (HloOp τ sig (Elt F)) :=
  [ StableHlo.unary main_v13 main_v91 ((extractStridedSlice S1 ![3] · slices_S8_S1_3) : (⟨S8, .i32⟩ : BufTy).Contents (Elt F) → (⟨S1, .i32⟩ : BufTy).Contents (Elt F)),
    StableHlo.reshape main_v91 main_v92 (rfl : (.i32 : EltTy) = .i32) shapeCasts_S1_S_,
    StableHlo.unary main_v92 main_v93 (broadcastInDim S18432 ![] bcast_S_S18432 : (⟨S_, .i32⟩ : BufTy).Contents (Elt F) → (⟨S18432, .i32⟩ : BufTy).Contents (Elt F)),
    StableHlo.binary main_v93 main_v14 main_v94 (cmpi .sle : (⟨S18432, .i32⟩ : BufTy).Contents (Elt F) → (⟨S18432, .i32⟩ : BufTy).Contents (Elt F) → (⟨S18432, .i1⟩ : BufTy).Contents (Elt F)),
    StableHlo.unary main_v13 main_v95 ((extractStridedSlice S1 ![3] · slices_S8_S1_3) : (⟨S8, .i32⟩ : BufTy).Contents (Elt F) → (⟨S1, .i32⟩ : BufTy).Contents (Elt F)),
    StableHlo.reshape main_v95 main_v96 (rfl : (.i32 : EltTy) = .i32) shapeCasts_S1_S_,
    StableHlo.unary main_arg1 main_v97 ((extractStridedSlice S1 ![3] · slices_S8_S1_3) : (⟨S8, .i32⟩ : BufTy).Contents (Elt F) → (⟨S1, .i32⟩ : BufTy).Contents (Elt F)),
    StableHlo.reshape main_v97 main_v98 (rfl : (.i32 : EltTy) = .i32) shapeCasts_S1_S_,
    StableHlo.binary main_v96 main_v98 main_v99 (addi : (⟨S_, .i32⟩ : BufTy).Contents (Elt F) → (⟨S_, .i32⟩ : BufTy).Contents (Elt F) → (⟨S_, .i32⟩ : BufTy).Contents (Elt F)),
    StableHlo.unary main_v99 main_v100 (broadcastInDim S18432 ![] bcast_S_S18432 : (⟨S_, .i32⟩ : BufTy).Contents (Elt F) → (⟨S18432, .i32⟩ : BufTy).Contents (Elt F)),
    StableHlo.binary main_v14 main_v100 main_v101 (cmpi .slt : (⟨S18432, .i32⟩ : BufTy).Contents (Elt F) → (⟨S18432, .i32⟩ : BufTy).Contents (Elt F) → (⟨S18432, .i1⟩ : BufTy).Contents (Elt F)),
    StableHlo.binary main_v94 main_v101 main_v102 (andi : (⟨S18432, .i1⟩ : BufTy).Contents (Elt F) → (⟨S18432, .i1⟩ : BufTy).Contents (Elt F) → (⟨S18432, .i1⟩ : BufTy).Contents (Elt F)),
    StableHlo.unary main_v102 main_v103 (uitofp .f32 : (⟨S18432, .i1⟩ : BufTy).Contents (Elt F) → (⟨S18432, .f32⟩ : BufTy).Contents (Elt F)),
    StableHlo.unary main_v103 main_v104 (broadcastInDim S18432x1 ![0] bcast_S18432_S18432x1_0 : (⟨S18432, .f32⟩ : BufTy).Contents (Elt F) → (⟨S18432x1, .f32⟩ : BufTy).Contents (Elt F)),
    StableHlo.unary main_arg2 main_v105 ((extractStridedSlice S1x4096x7168 ![3, 0, 0] · slices_S8x4096x7168_S1x4096x7168_3_0_0) : (⟨S8x4096x7168, .f32⟩ : BufTy).Contents (Elt F) → (⟨S1x4096x7168, .f32⟩ : BufTy).Contents (Elt F)),
    StableHlo.reshape main_v105 main_v106 (rfl : (.f32 : EltTy) = .f32) shapeCasts_S1x4096x7168_S4096x7168,
    StableHlo.binary main_v6 main_v106 main_v107 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v107 : StableHlo.TRef sig ⟨S18432x7168, .f32⟩) (.of main_call5_v0 : StableHlo.TRef sig ⟨S18432x7168, .f32⟩) Host.negf,
    StableHlo.TRef.unary (.of main_call5_v0 : StableHlo.TRef sig ⟨S18432x7168, .f32⟩) (.of main_call5_v1 : StableHlo.TRef sig ⟨S18432x7168, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S18432x7168, .f32⟩) (broadcastInDim S18432x7168 ![] bcast_S_S18432x7168),
    StableHlo.TRef.binary (.of main_call5_v2 : StableHlo.TRef sig ⟨S18432x7168, .f32⟩) (.of main_call5_v1 : StableHlo.TRef sig ⟨S18432x7168, .f32⟩) (.of main_call5_v3 : StableHlo.TRef sig ⟨S18432x7168, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S18432x7168, .f32⟩) (broadcastInDim S18432x7168 ![] bcast_S_S18432x7168),
    StableHlo.TRef.binary (.of main_call5_v4 : StableHlo.TRef sig ⟨S18432x7168, .f32⟩) (.of main_call5_v3 : StableHlo.TRef sig ⟨S18432x7168, .f32⟩) (.of main_call5_v5 : StableHlo.TRef sig ⟨S18432x7168, .f32⟩) Host.divf,
    StableHlo.TRef.binary (.of main_v107 : StableHlo.TRef sig ⟨S18432x7168, .f32⟩) (.of main_call5_v5 : StableHlo.TRef sig ⟨S18432x7168, .f32⟩) (.of main_v108 : StableHlo.TRef sig ⟨S18432x7168, .f32⟩) mulf,
    StableHlo.unary main_arg3 main_v109 ((extractStridedSlice S1x4096x7168 ![3, 0, 0] · slices_S8x4096x7168_S1x4096x7168_3_0_0) : (⟨S8x4096x7168, .f32⟩ : BufTy).Contents (Elt F) → (⟨S1x4096x7168, .f32⟩ : BufTy).Contents (Elt F)),
    StableHlo.reshape main_v109 main_v110 (rfl : (.f32 : EltTy) = .f32) shapeCasts_S1x4096x7168_S4096x7168,
    StableHlo.binary main_v6 main_v110 main_v111 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v108 main_v111 main_v112 (mulf : (⟨S18432x7168, .f32⟩ : BufTy).Contents (Elt F) → (⟨S18432x7168, .f32⟩ : BufTy).Contents (Elt F) → (⟨S18432x7168, .f32⟩ : BufTy).Contents (Elt F)),
    StableHlo.unary main_v104 main_v113 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v113 main_v112 main_v114 (mulf : (⟨S18432x7168, .f32⟩ : BufTy).Contents (Elt F) → (⟨S18432x7168, .f32⟩ : BufTy).Contents (Elt F) → (⟨S18432x7168, .f32⟩ : BufTy).Contents (Elt F)),
    StableHlo.binary main_v90 main_v114 main_v115 (addf : (⟨S18432x7168, .f32⟩ : BufTy).Contents (Elt F) → (⟨S18432x7168, .f32⟩ : BufTy).Contents (Elt F) → (⟨S18432x7168, .f32⟩ : BufTy).Contents (Elt F)) ]

/-- Expert 4's gated product, added where the expert holds the row. -/
abbrev exp4 : List (HloOp τ sig (Elt F)) :=
  [ StableHlo.unary main_v13 main_v116 ((extractStridedSlice S1 ![4] · slices_S8_S1_4) : (⟨S8, .i32⟩ : BufTy).Contents (Elt F) → (⟨S1, .i32⟩ : BufTy).Contents (Elt F)),
    StableHlo.reshape main_v116 main_v117 (rfl : (.i32 : EltTy) = .i32) shapeCasts_S1_S_,
    StableHlo.unary main_v117 main_v118 (broadcastInDim S18432 ![] bcast_S_S18432 : (⟨S_, .i32⟩ : BufTy).Contents (Elt F) → (⟨S18432, .i32⟩ : BufTy).Contents (Elt F)),
    StableHlo.binary main_v118 main_v14 main_v119 (cmpi .sle : (⟨S18432, .i32⟩ : BufTy).Contents (Elt F) → (⟨S18432, .i32⟩ : BufTy).Contents (Elt F) → (⟨S18432, .i1⟩ : BufTy).Contents (Elt F)),
    StableHlo.unary main_v13 main_v120 ((extractStridedSlice S1 ![4] · slices_S8_S1_4) : (⟨S8, .i32⟩ : BufTy).Contents (Elt F) → (⟨S1, .i32⟩ : BufTy).Contents (Elt F)),
    StableHlo.reshape main_v120 main_v121 (rfl : (.i32 : EltTy) = .i32) shapeCasts_S1_S_,
    StableHlo.unary main_arg1 main_v122 ((extractStridedSlice S1 ![4] · slices_S8_S1_4) : (⟨S8, .i32⟩ : BufTy).Contents (Elt F) → (⟨S1, .i32⟩ : BufTy).Contents (Elt F)),
    StableHlo.reshape main_v122 main_v123 (rfl : (.i32 : EltTy) = .i32) shapeCasts_S1_S_,
    StableHlo.binary main_v121 main_v123 main_v124 (addi : (⟨S_, .i32⟩ : BufTy).Contents (Elt F) → (⟨S_, .i32⟩ : BufTy).Contents (Elt F) → (⟨S_, .i32⟩ : BufTy).Contents (Elt F)),
    StableHlo.unary main_v124 main_v125 (broadcastInDim S18432 ![] bcast_S_S18432 : (⟨S_, .i32⟩ : BufTy).Contents (Elt F) → (⟨S18432, .i32⟩ : BufTy).Contents (Elt F)),
    StableHlo.binary main_v14 main_v125 main_v126 (cmpi .slt : (⟨S18432, .i32⟩ : BufTy).Contents (Elt F) → (⟨S18432, .i32⟩ : BufTy).Contents (Elt F) → (⟨S18432, .i1⟩ : BufTy).Contents (Elt F)),
    StableHlo.binary main_v119 main_v126 main_v127 (andi : (⟨S18432, .i1⟩ : BufTy).Contents (Elt F) → (⟨S18432, .i1⟩ : BufTy).Contents (Elt F) → (⟨S18432, .i1⟩ : BufTy).Contents (Elt F)),
    StableHlo.unary main_v127 main_v128 (uitofp .f32 : (⟨S18432, .i1⟩ : BufTy).Contents (Elt F) → (⟨S18432, .f32⟩ : BufTy).Contents (Elt F)),
    StableHlo.unary main_v128 main_v129 (broadcastInDim S18432x1 ![0] bcast_S18432_S18432x1_0 : (⟨S18432, .f32⟩ : BufTy).Contents (Elt F) → (⟨S18432x1, .f32⟩ : BufTy).Contents (Elt F)),
    StableHlo.unary main_arg2 main_v130 ((extractStridedSlice S1x4096x7168 ![4, 0, 0] · slices_S8x4096x7168_S1x4096x7168_4_0_0) : (⟨S8x4096x7168, .f32⟩ : BufTy).Contents (Elt F) → (⟨S1x4096x7168, .f32⟩ : BufTy).Contents (Elt F)),
    StableHlo.reshape main_v130 main_v131 (rfl : (.f32 : EltTy) = .f32) shapeCasts_S1x4096x7168_S4096x7168,
    StableHlo.binary main_v6 main_v131 main_v132 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v132 : StableHlo.TRef sig ⟨S18432x7168, .f32⟩) (.of main_call6_v0 : StableHlo.TRef sig ⟨S18432x7168, .f32⟩) Host.negf,
    StableHlo.TRef.unary (.of main_call6_v0 : StableHlo.TRef sig ⟨S18432x7168, .f32⟩) (.of main_call6_v1 : StableHlo.TRef sig ⟨S18432x7168, .f32⟩) Host.exp,
    StableHlo.TRef.nullary (.of main_call6_cst : StableHlo.TRef sig ⟨S_, .f32⟩) (constant S_ .f32 0x3F800000#32),
    StableHlo.TRef.unary (.of main_call6_cst : StableHlo.TRef sig ⟨S_, .f32⟩) (.of main_call6_v2 : StableHlo.TRef sig ⟨S18432x7168, .f32⟩) (broadcastInDim S18432x7168 ![] bcast_S_S18432x7168),
    StableHlo.TRef.binary (.of main_call6_v2 : StableHlo.TRef sig ⟨S18432x7168, .f32⟩) (.of main_call6_v1 : StableHlo.TRef sig ⟨S18432x7168, .f32⟩) (.of main_call6_v3 : StableHlo.TRef sig ⟨S18432x7168, .f32⟩) addf,
    StableHlo.TRef.nullary (.of main_call6_cst_0 : StableHlo.TRef sig ⟨S_, .f32⟩) (constant S_ .f32 0x3F800000#32),
    StableHlo.TRef.unary (.of main_call6_cst_0 : StableHlo.TRef sig ⟨S_, .f32⟩) (.of main_call6_v4 : StableHlo.TRef sig ⟨S18432x7168, .f32⟩) (broadcastInDim S18432x7168 ![] bcast_S_S18432x7168),
    StableHlo.TRef.binary (.of main_call6_v4 : StableHlo.TRef sig ⟨S18432x7168, .f32⟩) (.of main_call6_v3 : StableHlo.TRef sig ⟨S18432x7168, .f32⟩) (.of main_call6_v5 : StableHlo.TRef sig ⟨S18432x7168, .f32⟩) Host.divf,
    StableHlo.TRef.binary (.of main_v132 : StableHlo.TRef sig ⟨S18432x7168, .f32⟩) (.of main_call6_v5 : StableHlo.TRef sig ⟨S18432x7168, .f32⟩) (.of main_v133 : StableHlo.TRef sig ⟨S18432x7168, .f32⟩) mulf,
    StableHlo.unary main_arg3 main_v134 ((extractStridedSlice S1x4096x7168 ![4, 0, 0] · slices_S8x4096x7168_S1x4096x7168_4_0_0) : (⟨S8x4096x7168, .f32⟩ : BufTy).Contents (Elt F) → (⟨S1x4096x7168, .f32⟩ : BufTy).Contents (Elt F)),
    StableHlo.reshape main_v134 main_v135 (rfl : (.f32 : EltTy) = .f32) shapeCasts_S1x4096x7168_S4096x7168,
    StableHlo.binary main_v6 main_v135 main_v136 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v133 main_v136 main_v137 (mulf : (⟨S18432x7168, .f32⟩ : BufTy).Contents (Elt F) → (⟨S18432x7168, .f32⟩ : BufTy).Contents (Elt F) → (⟨S18432x7168, .f32⟩ : BufTy).Contents (Elt F)),
    StableHlo.unary main_v129 main_v138 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v138 main_v137 main_v139 (mulf : (⟨S18432x7168, .f32⟩ : BufTy).Contents (Elt F) → (⟨S18432x7168, .f32⟩ : BufTy).Contents (Elt F) → (⟨S18432x7168, .f32⟩ : BufTy).Contents (Elt F)),
    StableHlo.binary main_v115 main_v139 main_v140 (addf : (⟨S18432x7168, .f32⟩ : BufTy).Contents (Elt F) → (⟨S18432x7168, .f32⟩ : BufTy).Contents (Elt F) → (⟨S18432x7168, .f32⟩ : BufTy).Contents (Elt F)) ]

/-- Expert 5's gated product, added where the expert holds the row. -/
abbrev exp5 : List (HloOp τ sig (Elt F)) :=
  [ StableHlo.unary main_v13 main_v141 ((extractStridedSlice S1 ![5] · slices_S8_S1_5) : (⟨S8, .i32⟩ : BufTy).Contents (Elt F) → (⟨S1, .i32⟩ : BufTy).Contents (Elt F)),
    StableHlo.reshape main_v141 main_v142 (rfl : (.i32 : EltTy) = .i32) shapeCasts_S1_S_,
    StableHlo.unary main_v142 main_v143 (broadcastInDim S18432 ![] bcast_S_S18432 : (⟨S_, .i32⟩ : BufTy).Contents (Elt F) → (⟨S18432, .i32⟩ : BufTy).Contents (Elt F)),
    StableHlo.binary main_v143 main_v14 main_v144 (cmpi .sle : (⟨S18432, .i32⟩ : BufTy).Contents (Elt F) → (⟨S18432, .i32⟩ : BufTy).Contents (Elt F) → (⟨S18432, .i1⟩ : BufTy).Contents (Elt F)),
    StableHlo.unary main_v13 main_v145 ((extractStridedSlice S1 ![5] · slices_S8_S1_5) : (⟨S8, .i32⟩ : BufTy).Contents (Elt F) → (⟨S1, .i32⟩ : BufTy).Contents (Elt F)),
    StableHlo.reshape main_v145 main_v146 (rfl : (.i32 : EltTy) = .i32) shapeCasts_S1_S_,
    StableHlo.unary main_arg1 main_v147 ((extractStridedSlice S1 ![5] · slices_S8_S1_5) : (⟨S8, .i32⟩ : BufTy).Contents (Elt F) → (⟨S1, .i32⟩ : BufTy).Contents (Elt F)),
    StableHlo.reshape main_v147 main_v148 (rfl : (.i32 : EltTy) = .i32) shapeCasts_S1_S_,
    StableHlo.binary main_v146 main_v148 main_v149 (addi : (⟨S_, .i32⟩ : BufTy).Contents (Elt F) → (⟨S_, .i32⟩ : BufTy).Contents (Elt F) → (⟨S_, .i32⟩ : BufTy).Contents (Elt F)),
    StableHlo.unary main_v149 main_v150 (broadcastInDim S18432 ![] bcast_S_S18432 : (⟨S_, .i32⟩ : BufTy).Contents (Elt F) → (⟨S18432, .i32⟩ : BufTy).Contents (Elt F)),
    StableHlo.binary main_v14 main_v150 main_v151 (cmpi .slt : (⟨S18432, .i32⟩ : BufTy).Contents (Elt F) → (⟨S18432, .i32⟩ : BufTy).Contents (Elt F) → (⟨S18432, .i1⟩ : BufTy).Contents (Elt F)),
    StableHlo.binary main_v144 main_v151 main_v152 (andi : (⟨S18432, .i1⟩ : BufTy).Contents (Elt F) → (⟨S18432, .i1⟩ : BufTy).Contents (Elt F) → (⟨S18432, .i1⟩ : BufTy).Contents (Elt F)),
    StableHlo.unary main_v152 main_v153 (uitofp .f32 : (⟨S18432, .i1⟩ : BufTy).Contents (Elt F) → (⟨S18432, .f32⟩ : BufTy).Contents (Elt F)),
    StableHlo.unary main_v153 main_v154 (broadcastInDim S18432x1 ![0] bcast_S18432_S18432x1_0 : (⟨S18432, .f32⟩ : BufTy).Contents (Elt F) → (⟨S18432x1, .f32⟩ : BufTy).Contents (Elt F)),
    StableHlo.unary main_arg2 main_v155 ((extractStridedSlice S1x4096x7168 ![5, 0, 0] · slices_S8x4096x7168_S1x4096x7168_5_0_0) : (⟨S8x4096x7168, .f32⟩ : BufTy).Contents (Elt F) → (⟨S1x4096x7168, .f32⟩ : BufTy).Contents (Elt F)),
    StableHlo.reshape main_v155 main_v156 (rfl : (.f32 : EltTy) = .f32) shapeCasts_S1x4096x7168_S4096x7168,
    StableHlo.binary main_v6 main_v156 main_v157 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v157 : StableHlo.TRef sig ⟨S18432x7168, .f32⟩) (.of main_call7_v0 : StableHlo.TRef sig ⟨S18432x7168, .f32⟩) Host.negf,
    StableHlo.TRef.unary (.of main_call7_v0 : StableHlo.TRef sig ⟨S18432x7168, .f32⟩) (.of main_call7_v1 : StableHlo.TRef sig ⟨S18432x7168, .f32⟩) Host.exp,
    StableHlo.TRef.nullary (.of main_call7_cst : StableHlo.TRef sig ⟨S_, .f32⟩) (constant S_ .f32 0x3F800000#32),
    StableHlo.TRef.unary (.of main_call7_cst : StableHlo.TRef sig ⟨S_, .f32⟩) (.of main_call7_v2 : StableHlo.TRef sig ⟨S18432x7168, .f32⟩) (broadcastInDim S18432x7168 ![] bcast_S_S18432x7168),
    StableHlo.TRef.binary (.of main_call7_v2 : StableHlo.TRef sig ⟨S18432x7168, .f32⟩) (.of main_call7_v1 : StableHlo.TRef sig ⟨S18432x7168, .f32⟩) (.of main_call7_v3 : StableHlo.TRef sig ⟨S18432x7168, .f32⟩) addf,
    StableHlo.TRef.nullary (.of main_call7_cst_0 : StableHlo.TRef sig ⟨S_, .f32⟩) (constant S_ .f32 0x3F800000#32),
    StableHlo.TRef.unary (.of main_call7_cst_0 : StableHlo.TRef sig ⟨S_, .f32⟩) (.of main_call7_v4 : StableHlo.TRef sig ⟨S18432x7168, .f32⟩) (broadcastInDim S18432x7168 ![] bcast_S_S18432x7168),
    StableHlo.TRef.binary (.of main_call7_v4 : StableHlo.TRef sig ⟨S18432x7168, .f32⟩) (.of main_call7_v3 : StableHlo.TRef sig ⟨S18432x7168, .f32⟩) (.of main_call7_v5 : StableHlo.TRef sig ⟨S18432x7168, .f32⟩) Host.divf,
    StableHlo.TRef.binary (.of main_v157 : StableHlo.TRef sig ⟨S18432x7168, .f32⟩) (.of main_call7_v5 : StableHlo.TRef sig ⟨S18432x7168, .f32⟩) (.of main_v158 : StableHlo.TRef sig ⟨S18432x7168, .f32⟩) mulf,
    StableHlo.unary main_arg3 main_v159 ((extractStridedSlice S1x4096x7168 ![5, 0, 0] · slices_S8x4096x7168_S1x4096x7168_5_0_0) : (⟨S8x4096x7168, .f32⟩ : BufTy).Contents (Elt F) → (⟨S1x4096x7168, .f32⟩ : BufTy).Contents (Elt F)),
    StableHlo.reshape main_v159 main_v160 (rfl : (.f32 : EltTy) = .f32) shapeCasts_S1x4096x7168_S4096x7168,
    StableHlo.binary main_v6 main_v160 main_v161 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v158 main_v161 main_v162 (mulf : (⟨S18432x7168, .f32⟩ : BufTy).Contents (Elt F) → (⟨S18432x7168, .f32⟩ : BufTy).Contents (Elt F) → (⟨S18432x7168, .f32⟩ : BufTy).Contents (Elt F)),
    StableHlo.unary main_v154 main_v163 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v163 main_v162 main_v164 (mulf : (⟨S18432x7168, .f32⟩ : BufTy).Contents (Elt F) → (⟨S18432x7168, .f32⟩ : BufTy).Contents (Elt F) → (⟨S18432x7168, .f32⟩ : BufTy).Contents (Elt F)),
    StableHlo.binary main_v140 main_v164 main_v165 (addf : (⟨S18432x7168, .f32⟩ : BufTy).Contents (Elt F) → (⟨S18432x7168, .f32⟩ : BufTy).Contents (Elt F) → (⟨S18432x7168, .f32⟩ : BufTy).Contents (Elt F)) ]

/-- Expert 6's gated product, added where the expert holds the row. -/
abbrev exp6 : List (HloOp τ sig (Elt F)) :=
  [ StableHlo.unary main_v13 main_v166 ((extractStridedSlice S1 ![6] · slices_S8_S1_6) : (⟨S8, .i32⟩ : BufTy).Contents (Elt F) → (⟨S1, .i32⟩ : BufTy).Contents (Elt F)),
    StableHlo.reshape main_v166 main_v167 (rfl : (.i32 : EltTy) = .i32) shapeCasts_S1_S_,
    StableHlo.unary main_v167 main_v168 (broadcastInDim S18432 ![] bcast_S_S18432 : (⟨S_, .i32⟩ : BufTy).Contents (Elt F) → (⟨S18432, .i32⟩ : BufTy).Contents (Elt F)),
    StableHlo.binary main_v168 main_v14 main_v169 (cmpi .sle : (⟨S18432, .i32⟩ : BufTy).Contents (Elt F) → (⟨S18432, .i32⟩ : BufTy).Contents (Elt F) → (⟨S18432, .i1⟩ : BufTy).Contents (Elt F)),
    StableHlo.unary main_v13 main_v170 ((extractStridedSlice S1 ![6] · slices_S8_S1_6) : (⟨S8, .i32⟩ : BufTy).Contents (Elt F) → (⟨S1, .i32⟩ : BufTy).Contents (Elt F)),
    StableHlo.reshape main_v170 main_v171 (rfl : (.i32 : EltTy) = .i32) shapeCasts_S1_S_,
    StableHlo.unary main_arg1 main_v172 ((extractStridedSlice S1 ![6] · slices_S8_S1_6) : (⟨S8, .i32⟩ : BufTy).Contents (Elt F) → (⟨S1, .i32⟩ : BufTy).Contents (Elt F)),
    StableHlo.reshape main_v172 main_v173 (rfl : (.i32 : EltTy) = .i32) shapeCasts_S1_S_,
    StableHlo.binary main_v171 main_v173 main_v174 (addi : (⟨S_, .i32⟩ : BufTy).Contents (Elt F) → (⟨S_, .i32⟩ : BufTy).Contents (Elt F) → (⟨S_, .i32⟩ : BufTy).Contents (Elt F)),
    StableHlo.unary main_v174 main_v175 (broadcastInDim S18432 ![] bcast_S_S18432 : (⟨S_, .i32⟩ : BufTy).Contents (Elt F) → (⟨S18432, .i32⟩ : BufTy).Contents (Elt F)),
    StableHlo.binary main_v14 main_v175 main_v176 (cmpi .slt : (⟨S18432, .i32⟩ : BufTy).Contents (Elt F) → (⟨S18432, .i32⟩ : BufTy).Contents (Elt F) → (⟨S18432, .i1⟩ : BufTy).Contents (Elt F)),
    StableHlo.binary main_v169 main_v176 main_v177 (andi : (⟨S18432, .i1⟩ : BufTy).Contents (Elt F) → (⟨S18432, .i1⟩ : BufTy).Contents (Elt F) → (⟨S18432, .i1⟩ : BufTy).Contents (Elt F)),
    StableHlo.unary main_v177 main_v178 (uitofp .f32 : (⟨S18432, .i1⟩ : BufTy).Contents (Elt F) → (⟨S18432, .f32⟩ : BufTy).Contents (Elt F)),
    StableHlo.unary main_v178 main_v179 (broadcastInDim S18432x1 ![0] bcast_S18432_S18432x1_0 : (⟨S18432, .f32⟩ : BufTy).Contents (Elt F) → (⟨S18432x1, .f32⟩ : BufTy).Contents (Elt F)),
    StableHlo.unary main_arg2 main_v180 ((extractStridedSlice S1x4096x7168 ![6, 0, 0] · slices_S8x4096x7168_S1x4096x7168_6_0_0) : (⟨S8x4096x7168, .f32⟩ : BufTy).Contents (Elt F) → (⟨S1x4096x7168, .f32⟩ : BufTy).Contents (Elt F)),
    StableHlo.reshape main_v180 main_v181 (rfl : (.f32 : EltTy) = .f32) shapeCasts_S1x4096x7168_S4096x7168,
    StableHlo.binary main_v6 main_v181 main_v182 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v182 : StableHlo.TRef sig ⟨S18432x7168, .f32⟩) (.of main_call8_v0 : StableHlo.TRef sig ⟨S18432x7168, .f32⟩) Host.negf,
    StableHlo.TRef.unary (.of main_call8_v0 : StableHlo.TRef sig ⟨S18432x7168, .f32⟩) (.of main_call8_v1 : StableHlo.TRef sig ⟨S18432x7168, .f32⟩) Host.exp,
    StableHlo.TRef.nullary (.of main_call8_cst : StableHlo.TRef sig ⟨S_, .f32⟩) (constant S_ .f32 0x3F800000#32),
    StableHlo.TRef.unary (.of main_call8_cst : StableHlo.TRef sig ⟨S_, .f32⟩) (.of main_call8_v2 : StableHlo.TRef sig ⟨S18432x7168, .f32⟩) (broadcastInDim S18432x7168 ![] bcast_S_S18432x7168),
    StableHlo.TRef.binary (.of main_call8_v2 : StableHlo.TRef sig ⟨S18432x7168, .f32⟩) (.of main_call8_v1 : StableHlo.TRef sig ⟨S18432x7168, .f32⟩) (.of main_call8_v3 : StableHlo.TRef sig ⟨S18432x7168, .f32⟩) addf,
    StableHlo.TRef.nullary (.of main_call8_cst_0 : StableHlo.TRef sig ⟨S_, .f32⟩) (constant S_ .f32 0x3F800000#32),
    StableHlo.TRef.unary (.of main_call8_cst_0 : StableHlo.TRef sig ⟨S_, .f32⟩) (.of main_call8_v4 : StableHlo.TRef sig ⟨S18432x7168, .f32⟩) (broadcastInDim S18432x7168 ![] bcast_S_S18432x7168),
    StableHlo.TRef.binary (.of main_call8_v4 : StableHlo.TRef sig ⟨S18432x7168, .f32⟩) (.of main_call8_v3 : StableHlo.TRef sig ⟨S18432x7168, .f32⟩) (.of main_call8_v5 : StableHlo.TRef sig ⟨S18432x7168, .f32⟩) Host.divf,
    StableHlo.TRef.binary (.of main_v182 : StableHlo.TRef sig ⟨S18432x7168, .f32⟩) (.of main_call8_v5 : StableHlo.TRef sig ⟨S18432x7168, .f32⟩) (.of main_v183 : StableHlo.TRef sig ⟨S18432x7168, .f32⟩) mulf,
    StableHlo.unary main_arg3 main_v184 ((extractStridedSlice S1x4096x7168 ![6, 0, 0] · slices_S8x4096x7168_S1x4096x7168_6_0_0) : (⟨S8x4096x7168, .f32⟩ : BufTy).Contents (Elt F) → (⟨S1x4096x7168, .f32⟩ : BufTy).Contents (Elt F)),
    StableHlo.reshape main_v184 main_v185 (rfl : (.f32 : EltTy) = .f32) shapeCasts_S1x4096x7168_S4096x7168,
    StableHlo.binary main_v6 main_v185 main_v186 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v183 main_v186 main_v187 (mulf : (⟨S18432x7168, .f32⟩ : BufTy).Contents (Elt F) → (⟨S18432x7168, .f32⟩ : BufTy).Contents (Elt F) → (⟨S18432x7168, .f32⟩ : BufTy).Contents (Elt F)),
    StableHlo.unary main_v179 main_v188 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v188 main_v187 main_v189 (mulf : (⟨S18432x7168, .f32⟩ : BufTy).Contents (Elt F) → (⟨S18432x7168, .f32⟩ : BufTy).Contents (Elt F) → (⟨S18432x7168, .f32⟩ : BufTy).Contents (Elt F)),
    StableHlo.binary main_v165 main_v189 main_v190 (addf : (⟨S18432x7168, .f32⟩ : BufTy).Contents (Elt F) → (⟨S18432x7168, .f32⟩ : BufTy).Contents (Elt F) → (⟨S18432x7168, .f32⟩ : BufTy).Contents (Elt F)) ]

/-- Expert 7's gated product, added where the expert holds the row. -/
abbrev exp7 : List (HloOp τ sig (Elt F)) :=
  [ StableHlo.unary main_v13 main_v191 ((extractStridedSlice S1 ![7] · slices_S8_S1_7) : (⟨S8, .i32⟩ : BufTy).Contents (Elt F) → (⟨S1, .i32⟩ : BufTy).Contents (Elt F)),
    StableHlo.reshape main_v191 main_v192 (rfl : (.i32 : EltTy) = .i32) shapeCasts_S1_S_,
    StableHlo.unary main_v192 main_v193 (broadcastInDim S18432 ![] bcast_S_S18432 : (⟨S_, .i32⟩ : BufTy).Contents (Elt F) → (⟨S18432, .i32⟩ : BufTy).Contents (Elt F)),
    StableHlo.binary main_v193 main_v14 main_v194 (cmpi .sle : (⟨S18432, .i32⟩ : BufTy).Contents (Elt F) → (⟨S18432, .i32⟩ : BufTy).Contents (Elt F) → (⟨S18432, .i1⟩ : BufTy).Contents (Elt F)),
    StableHlo.unary main_v13 main_v195 ((extractStridedSlice S1 ![7] · slices_S8_S1_7) : (⟨S8, .i32⟩ : BufTy).Contents (Elt F) → (⟨S1, .i32⟩ : BufTy).Contents (Elt F)),
    StableHlo.reshape main_v195 main_v196 (rfl : (.i32 : EltTy) = .i32) shapeCasts_S1_S_,
    StableHlo.unary main_arg1 main_v197 ((extractStridedSlice S1 ![7] · slices_S8_S1_7) : (⟨S8, .i32⟩ : BufTy).Contents (Elt F) → (⟨S1, .i32⟩ : BufTy).Contents (Elt F)),
    StableHlo.reshape main_v197 main_v198 (rfl : (.i32 : EltTy) = .i32) shapeCasts_S1_S_,
    StableHlo.binary main_v196 main_v198 main_v199 (addi : (⟨S_, .i32⟩ : BufTy).Contents (Elt F) → (⟨S_, .i32⟩ : BufTy).Contents (Elt F) → (⟨S_, .i32⟩ : BufTy).Contents (Elt F)),
    StableHlo.unary main_v199 main_v200 (broadcastInDim S18432 ![] bcast_S_S18432 : (⟨S_, .i32⟩ : BufTy).Contents (Elt F) → (⟨S18432, .i32⟩ : BufTy).Contents (Elt F)),
    StableHlo.binary main_v14 main_v200 main_v201 (cmpi .slt : (⟨S18432, .i32⟩ : BufTy).Contents (Elt F) → (⟨S18432, .i32⟩ : BufTy).Contents (Elt F) → (⟨S18432, .i1⟩ : BufTy).Contents (Elt F)),
    StableHlo.binary main_v194 main_v201 main_v202 (andi : (⟨S18432, .i1⟩ : BufTy).Contents (Elt F) → (⟨S18432, .i1⟩ : BufTy).Contents (Elt F) → (⟨S18432, .i1⟩ : BufTy).Contents (Elt F)),
    StableHlo.unary main_v202 main_v203 (uitofp .f32 : (⟨S18432, .i1⟩ : BufTy).Contents (Elt F) → (⟨S18432, .f32⟩ : BufTy).Contents (Elt F)),
    StableHlo.unary main_v203 main_v204 (broadcastInDim S18432x1 ![0] bcast_S18432_S18432x1_0 : (⟨S18432, .f32⟩ : BufTy).Contents (Elt F) → (⟨S18432x1, .f32⟩ : BufTy).Contents (Elt F)),
    StableHlo.unary main_arg2 main_v205 ((extractStridedSlice S1x4096x7168 ![7, 0, 0] · slices_S8x4096x7168_S1x4096x7168_7_0_0) : (⟨S8x4096x7168, .f32⟩ : BufTy).Contents (Elt F) → (⟨S1x4096x7168, .f32⟩ : BufTy).Contents (Elt F)),
    StableHlo.reshape main_v205 main_v206 (rfl : (.f32 : EltTy) = .f32) shapeCasts_S1x4096x7168_S4096x7168,
    StableHlo.binary main_v6 main_v206 main_v207 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.TRef.unary (.of main_v207 : StableHlo.TRef sig ⟨S18432x7168, .f32⟩) (.of main_call9_v0 : StableHlo.TRef sig ⟨S18432x7168, .f32⟩) Host.negf,
    StableHlo.TRef.unary (.of main_call9_v0 : StableHlo.TRef sig ⟨S18432x7168, .f32⟩) (.of main_call9_v1 : StableHlo.TRef sig ⟨S18432x7168, .f32⟩) Host.exp,
    StableHlo.TRef.nullary (.of main_call9_cst : StableHlo.TRef sig ⟨S_, .f32⟩) (constant S_ .f32 0x3F800000#32),
    StableHlo.TRef.unary (.of main_call9_cst : StableHlo.TRef sig ⟨S_, .f32⟩) (.of main_call9_v2 : StableHlo.TRef sig ⟨S18432x7168, .f32⟩) (broadcastInDim S18432x7168 ![] bcast_S_S18432x7168),
    StableHlo.TRef.binary (.of main_call9_v2 : StableHlo.TRef sig ⟨S18432x7168, .f32⟩) (.of main_call9_v1 : StableHlo.TRef sig ⟨S18432x7168, .f32⟩) (.of main_call9_v3 : StableHlo.TRef sig ⟨S18432x7168, .f32⟩) addf,
    StableHlo.TRef.nullary (.of main_call9_cst_0 : StableHlo.TRef sig ⟨S_, .f32⟩) (constant S_ .f32 0x3F800000#32),
    StableHlo.TRef.unary (.of main_call9_cst_0 : StableHlo.TRef sig ⟨S_, .f32⟩) (.of main_call9_v4 : StableHlo.TRef sig ⟨S18432x7168, .f32⟩) (broadcastInDim S18432x7168 ![] bcast_S_S18432x7168),
    StableHlo.TRef.binary (.of main_call9_v4 : StableHlo.TRef sig ⟨S18432x7168, .f32⟩) (.of main_call9_v3 : StableHlo.TRef sig ⟨S18432x7168, .f32⟩) (.of main_call9_v5 : StableHlo.TRef sig ⟨S18432x7168, .f32⟩) Host.divf,
    StableHlo.TRef.binary (.of main_v207 : StableHlo.TRef sig ⟨S18432x7168, .f32⟩) (.of main_call9_v5 : StableHlo.TRef sig ⟨S18432x7168, .f32⟩) (.of main_v208 : StableHlo.TRef sig ⟨S18432x7168, .f32⟩) mulf,
    StableHlo.unary main_arg3 main_v209 ((extractStridedSlice S1x4096x7168 ![7, 0, 0] · slices_S8x4096x7168_S1x4096x7168_7_0_0) : (⟨S8x4096x7168, .f32⟩ : BufTy).Contents (Elt F) → (⟨S1x4096x7168, .f32⟩ : BufTy).Contents (Elt F)),
    StableHlo.reshape main_v209 main_v210 (rfl : (.f32 : EltTy) = .f32) shapeCasts_S1x4096x7168_S4096x7168,
    StableHlo.binary main_v6 main_v210 main_v211 ((fun l r => Host.dotGeneral dot_S18432x4096_S4096x7168_S18432x7168_1_0_0_1_n_n none l r) : (⟨S18432x4096, .f32⟩ : BufTy).Contents (Elt F) → (⟨S4096x7168, .f32⟩ : BufTy).Contents (Elt F) → (⟨S18432x7168, .f32⟩ : BufTy).Contents (Elt F)),
    StableHlo.binary main_v208 main_v211 main_v212 (mulf : (⟨S18432x7168, .f32⟩ : BufTy).Contents (Elt F) → (⟨S18432x7168, .f32⟩ : BufTy).Contents (Elt F) → (⟨S18432x7168, .f32⟩ : BufTy).Contents (Elt F)),
    StableHlo.unary main_v204 main_v213 (broadcastInDim S18432x7168 ![0, 1] bcast_S18432x1_S18432x7168_0_1 : (⟨S18432x1, .f32⟩ : BufTy).Contents (Elt F) → (⟨S18432x7168, .f32⟩ : BufTy).Contents (Elt F)),
    StableHlo.binary main_v213 main_v212 main_v214 (mulf : (⟨S18432x7168, .f32⟩ : BufTy).Contents (Elt F) → (⟨S18432x7168, .f32⟩ : BufTy).Contents (Elt F) → (⟨S18432x7168, .f32⟩ : BufTy).Contents (Elt F)),
    StableHlo.binary main_v190 main_v214 main_v215 (addf : (⟨S18432x7168, .f32⟩ : BufTy).Contents (Elt F) → (⟨S18432x7168, .f32⟩ : BufTy).Contents (Elt F) → (⟨S18432x7168, .f32⟩ : BufTy).Contents (Elt F)) ]

/-- The sum, rounded. -/
abbrev lastOps : List (HloOp τ sig (Elt F)) :=
  [ StableHlo.unary main_v215 main_v216 ((truncf .bf16 · bitsLt_bf16_f32) : (⟨S18432x7168, .f32⟩ : BufTy).Contents (Elt F) → (⟨S18432x7168, .bf16⟩ : BufTy).Contents (Elt F)) ]

/-- The program's operations in order. -/
abbrev allOps : List (HloOp τ sig (Elt F)) := headOps ++ (exp0 ++ (exp1 ++ (exp2 ++ (exp3 ++ (exp4 ++ (exp5 ++ (exp6 ++ (exp7 ++ lastOps))))))))

theorem main_seq (d : Dev nD) : IsSeq (main (F := F) d) (allOps (F := F)) := by
  have h : ∃ ops : List (HloOp τ sig (Elt F)), IsSeq (main (F := F) d) ops ∧ ops = allOps (F := F) := ⟨_, by hlo_seq, rfl⟩
  obtain ⟨ops, h1, rfl⟩ := h
  exact h1

end Cert.ReferenceIdeal.Experts

end
-- ==== Proof.RefVal.lean ====
module

public import proofs.«01_k».proof.Proof.RefOps
public import proofs.«01_k».proof.Proof.Spec
public import Idealize.ShloMosaic.Lib.Tactic.WordOmega
public import Idealize.ShloMosaic.Lib.Routing.BitFacts
public import Idealize.ShloMosaic.Lib.Routing.Words
public import Idealize.ShloMosaic.Lib.Routing.OpsSet

@[expose] public section

set_option maxRecDepth 16384

noncomputable section

namespace Cert.ReferenceIdeal.Experts

open Cert.ReferenceIdeal Cert.ReferenceIdeal.Gen
open Idealize.ShloMosaic Idealize.ShloMosaic.TcCoe Idealize.ShloMosaic.StableHlo

variable (W : Valuation τ sig (Elt Ideal))

/-- The one or zero of a row being one of an expert's. -/
def mask (start count row : BitVec 32) : EReal :=
  (uitofp (F := Ideal) .f32 (fun _ : S_.Idx => IntOp.andi (IntOp.cmpi .sle start row) (IntOp.cmpi .slt row (IntOp.addi start count)))) Idealize.ShloMosaic.ix0

abbrev plus (a b : EReal) : EReal := a + b

/-- What expert `e` adds at row `r` and column `q`. -/
def term (e : Fin 8) (r : Fin 18432) (q : Fin 7168) : EReal :=
  mask (W main_v13 (ix1 e)) (W main_arg1 (ix1 e)) (W main_v14 (ix1 r))
    * Spec.unit (fun d => W main_v6 (ix2 r d)) (fun d => W main_arg2 (ix3 e d q)) (fun d => W main_arg3 (ix3 e d q))

theorem keep0 : (after exp0 W main_v6 = W main_v6 ∧ after exp0 W main_v13 = W main_v13 ∧ after exp0 W main_v14 = W main_v14)
    ∧ after exp0 W main_arg1 = W main_arg1 ∧ after exp0 W main_arg2 = W main_arg2 ∧ after exp0 W main_arg3 = W main_arg3 := by
  refine ⟨⟨?_, ?_, ?_⟩, ?_, ?_, ?_⟩ <;> after_reads_simp

theorem add0 (r : Fin 18432) (q : Fin 7168) : after exp0 W main_v40 (ix2 r q) = plus (W main_v15 (ix2 r q)) (term W 0 r q) := by
  unfold term plus mask Spec.unit
  after_reads_at
  rfl

theorem keep1 : (after exp1 W main_v6 = W main_v6 ∧ after exp1 W main_v13 = W main_v13 ∧ after exp1 W main_v14 = W main_v14)
    ∧ after exp1 W main_arg1 = W main_arg1 ∧ after exp1 W main_arg2 = W main_arg2 ∧ after exp1 W main_arg3 = W main_arg3 := by
  refine ⟨⟨?_, ?_, ?_⟩, ?_, ?_, ?_⟩ <;> after_reads_simp

theorem add1 (r : Fin 18432) (q : Fin 7168) : after exp1 W main_v65 (ix2 r q) = plus (W main_v40 (ix2 r q)) (term W 1 r q) := by
  unfold term plus mask Spec.unit
  after_reads_at
  rfl

theorem keep2 : (after exp2 W main_v6 = W main_v6 ∧ after exp2 W main_v13 = W main_v13 ∧ after exp2 W main_v14 = W main_v14)
    ∧ after exp2 W main_arg1 = W main_arg1 ∧ after exp2 W main_arg2 = W main_arg2 ∧ after exp2 W main_arg3 = W main_arg3 := by
  refine ⟨⟨?_, ?_, ?_⟩, ?_, ?_, ?_⟩ <;> after_reads_simp

theorem add2 (r : Fin 18432) (q : Fin 7168) : after exp2 W main_v90 (ix2 r q) = plus (W main_v65 (ix2 r q)) (term W 2 r q) := by
  unfold term plus mask Spec.unit
  after_reads_at
  rfl

theorem keep3 : (after exp3 W main_v6 = W main_v6 ∧ after exp3 W main_v13 = W main_v13 ∧ after exp3 W main_v14 = W main_v14)
    ∧ after exp3 W main_arg1 = W main_arg1 ∧ after exp3 W main_arg2 = W main_arg2 ∧ after exp3 W main_arg3 = W main_arg3 := by
  refine ⟨⟨?_, ?_, ?_⟩, ?_, ?_, ?_⟩ <;> after_reads_simp

theorem add3 (r : Fin 18432) (q : Fin 7168) : after exp3 W main_v115 (ix2 r q) = plus (W main_v90 (ix2 r q)) (term W 3 r q) := by
  unfold term plus mask Spec.unit
  after_reads_at
  rfl

theorem keep4 : (after exp4 W main_v6 = W main_v6 ∧ after exp4 W main_v13 = W main_v13 ∧ after exp4 W main_v14 = W main_v14)
    ∧ after exp4 W main_arg1 = W main_arg1 ∧ after exp4 W main_arg2 = W main_arg2 ∧ after exp4 W main_arg3 = W main_arg3 := by
  refine ⟨⟨?_, ?_, ?_⟩, ?_, ?_, ?_⟩ <;> after_reads_simp

theorem add4 (r : Fin 18432) (q : Fin 7168) : after exp4 W main_v140 (ix2 r q) = plus (W main_v115 (ix2 r q)) (term W 4 r q) := by
  unfold term plus mask Spec.unit
  after_reads_at
  rfl

theorem keep5 : (after exp5 W main_v6 = W main_v6 ∧ after exp5 W main_v13 = W main_v13 ∧ after exp5 W main_v14 = W main_v14)
    ∧ after exp5 W main_arg1 = W main_arg1 ∧ after exp5 W main_arg2 = W main_arg2 ∧ after exp5 W main_arg3 = W main_arg3 := by
  refine ⟨⟨?_, ?_, ?_⟩, ?_, ?_, ?_⟩ <;> after_reads_simp

theorem add5 (r : Fin 18432) (q : Fin 7168) : after exp5 W main_v165 (ix2 r q) = plus (W main_v140 (ix2 r q)) (term W 5 r q) := by
  unfold term plus mask Spec.unit
  after_reads_at
  rfl

theorem keep6 : (after exp6 W main_v6 = W main_v6 ∧ after exp6 W main_v13 = W main_v13 ∧ after exp6 W main_v14 = W main_v14)
    ∧ after exp6 W main_arg1 = W main_arg1 ∧ after exp6 W main_arg2 = W main_arg2 ∧ after exp6 W main_arg3 = W main_arg3 := by
  refine ⟨⟨?_, ?_, ?_⟩, ?_, ?_, ?_⟩ <;> after_reads_simp

theorem add6 (r : Fin 18432) (q : Fin 7168) : after exp6 W main_v190 (ix2 r q) = plus (W main_v165 (ix2 r q)) (term W 6 r q) := by
  unfold term plus mask Spec.unit
  after_reads_at
  rfl

theorem keep7 : (after exp7 W main_v6 = W main_v6 ∧ after exp7 W main_v13 = W main_v13 ∧ after exp7 W main_v14 = W main_v14)
    ∧ after exp7 W main_arg1 = W main_arg1 ∧ after exp7 W main_arg2 = W main_arg2 ∧ after exp7 W main_arg3 = W main_arg3 := by
  refine ⟨⟨?_, ?_, ?_⟩, ?_, ?_, ?_⟩ <;> after_reads_simp

theorem add7 (r : Fin 18432) (q : Fin 7168) : after exp7 W main_v215 (ix2 r q) = plus (W main_v190 (ix2 r q)) (term W 7 r q) := by
  unfold term plus mask Spec.unit
  after_reads_at
  rfl

theorem last (r : Fin 18432) (q : Fin 7168) : after lastOps W main_v216 (ix2 r q) = W main_v215 (ix2 r q) := by
  after_reads_at

theorem head_keep : after headOps W main_arg1 = W main_arg1 ∧ after headOps W main_arg2 = W main_arg2 ∧ after headOps W main_arg3 = W main_arg3 := by
  refine ⟨?_, ?_, ?_⟩ <;> after_reads_simp

theorem head_v14 (r : Fin 18432) : after headOps W main_v14 (ix1 r) = BitVec.ofNat 32 r.val := by
  after_reads_at

theorem head_v15 (r : Fin 18432) (q : Fin 7168) : after headOps W main_v15 (ix2 r q) = (0 : EReal) := by
  after_reads_at

theorem head_v6 (r : Fin 18432) (d : Fin 4096) : after headOps W main_v6 (ix2 r d) = Spec.half (fun b => W main_arg0 (ix2 r b)) d := by
  unfold Spec.half
  after_reads_at
  rfl

/-- The number of rows of expert `i`, as the word of `W` holds it. -/
def cnt (i : ℕ) : ℕ := if h : i < 8 then BitVec.toNat (w := 32) (W (Proc.devRef .tc main_arg1) (ix1 (⟨i, h⟩ : Fin 8))) else 0

theorem arg_word (e : Fin 8) : W (Proc.devRef .tc main_arg1) (ix1 e) = BitVec.ofNat 32 (cnt W e.val) := by
  unfold cnt
  rw [dif_pos e.isLt]
  exact (BitVec.ofNat_toNat 32 (W (Proc.devRef .tc main_arg1) (ix1 e) : BitVec 32)).trans (BitVec.setWidth_eq _) |>.symm

theorem room_of_word {w : BitVec 32} {n : ℕ} (hw : w = BitVec.ofNat 32 n) (hn : n ≤ 16384) :
    IntOp.muli (Scalar.select
      (IntOp.andi
        (IntOp.cmpi CmpIPredicate.ne
          (if IntOp.addi w 255#32 = 0 then (0 : BitVec 32)
          else if (IntOp.addi w 255#32).msb = true then -1 else 1)
          (if (256#32 : BitVec 32) = 0 then 0
          else if BitVec.msb (256#32 : BitVec 32) = true then -1 else 1))
        (IntOp.cmpi CmpIPredicate.ne
          (IntOp.remsi ArithUnit.host (IntOp.addi w 255#32) 256#32)
          0#32))
      (IntOp.subi
        (IntOp.divsi ArithUnit.host (IntOp.addi w 255#32) 256#32)
        1#32)
      (IntOp.divsi ArithUnit.host (IntOp.addi w 255#32) 256#32)) 256#32 = BitVec.ofNat 32 ((n + 255) / 256 * 256) := by
  have hx : IntOp.addi w 255#32 = BitVec.ofNat 32 (n + 255) := by
    subst hw
    apply BitVec.eq_of_toNat_eq
    simp only [IntOp.addi, BitVec.toNat_add, BitVec.toNat_ofNat]
    omega
  rw [hx, Routing.divsi_word .host (a := n + 255) (b := 256) (by omega) (by omega) (by omega),
    Routing.remsi_word .host (a := n + 255) (b := 256) (by omega) (by omega) (by omega)]
  rw [if_neg (Routing.ofNat32_ne_zero (by omega) (by omega)), Routing.msb_ofNat32 (by omega)]
  have : IntOp.cmpi CmpIPredicate.ne (if (false : Bool) = true then (-1 : BitVec 32) else 1) (if (256#32 : BitVec 32) = 0 then 0
          else if BitVec.msb (256#32 : BitVec 32) = true then -1 else 1) = 0#1 := by decide
  rw [this]
  have h2 : ∀ a b : BitVec 32, ∀ c : BitVec 1, Scalar.select (IntOp.andi 0#1 c) a b = b := by
    intro a b c
    simp [IntOp.andi, Scalar.select]
  rw [h2]
  apply BitVec.eq_of_toNat_eq
  simp only [IntOp.muli, BitVec.toNat_mul, BitVec.toNat_ofNat]
  omega

theorem head_v11 (hW : ∀ i, cnt W i ≤ 16384) (e : Fin 8) : after headOps W main_v11 (ix1 e) = BitVec.ofNat 32 (Tiles.tiles (cnt W) e.val * 256) := by
  after_reads_at
  exact room_of_word (arg_word W e) (hW e.val)

theorem head_v13 (e : Fin 8) : after headOps W main_v13 (ix1 e) = IntOp.subi (after headOps W main_v12 (ix1 e)) (after headOps W main_v11 (ix1 e)) := by
  have h : after headOps W main_v13 = (subi (after headOps W main_v12 : Vec Ideal S8 .i32) (after headOps W main_v11) : Vec Ideal S8 .i32) := by
    after_reads_simp
  rw [h]
  pointwise

theorem head_v12 : after headOps W main_v12 =
   (Host.reduceWindow IntOp.addi ![8] ![1] ![7] ![0] (after headOps W main_v11) (constantI S_ 32 0#32) reduceWindows_S8_S8_w8s1p7_0 h_S_ : Vec Ideal S8 .i32) := by
  after_reads_simp
  simp -implicitDefEqProofs only [StableHlo.TRef.toBuf, StableHlo.TRef.ofBuf, cast_cast, cast_eq]
  rfl

theorem ends_word (hW : ∀ i, cnt W i ≤ 16384) (e : Fin 8) : after headOps W main_v12 (ix1 e) = BitVec.ofNat 32 (Tiles.ends (cnt W) e.val * 256) := by
  rw [head_v12]
  refine (Routing.cumsum1 (N := 8) (Nm1 := 7) rfl _ (fun i => Tiles.tiles (cnt W) i * 256) (fun i => head_v11 W hW i) _ rfl _ _ e).trans ?_
  unfold Tiles.ends
  rw [List.sum_map_mul_right]

theorem start_word (hW : ∀ i, cnt W i ≤ 16384) (e : Fin 8) : after headOps W main_v13 (ix1 e) = BitVec.ofNat 32 (Tiles.starts (cnt W) e.val * 256) := by
  rw [head_v13, ends_word W hW e, head_v11 W hW e]
  have h := Tiles.ends_eq (cnt W) e.val
  refine (Routing.ofNat32_sub (by omega)).trans ?_
  congr 1
  omega

theorem mask_at {s c r : ℕ} (hs : s < 1000000) (hc : c < 1000000) (hr : r < 1000000) :
    mask (BitVec.ofNat 32 s) (BitVec.ofNat 32 c) (BitVec.ofNat 32 r) = if s ≤ r ∧ r < s + c then 1 else 0 := by
  have ha : IntOp.addi (BitVec.ofNat 32 s) (BitVec.ofNat 32 c) = BitVec.ofNat 32 (s + c) := by
    apply BitVec.eq_of_toNat_eq
    simp only [IntOp.addi, BitVec.toNat_add, BitVec.toNat_ofNat]
    omega
  have h1 : IntOp.cmpi .sle (BitVec.ofNat 32 s) (BitVec.ofNat 32 r) = if s ≤ r then 1#1 else 0#1 := by
    show BitVec.ofBool ((BitVec.ofNat 32 s).sle (BitVec.ofNat 32 r)) = _
    rw [Routing.sle_ofNat32 (by omega) (by omega)]
    by_cases h : s ≤ r <;> simp [h]
  have h2 : IntOp.cmpi .slt (BitVec.ofNat 32 r) (BitVec.ofNat 32 (s + c)) = if r < s + c then 1#1 else 0#1 := by
    show BitVec.ofBool ((BitVec.ofNat 32 r).slt (BitVec.ofNat 32 (s + c))) = _
    rw [Routing.slt_ofNat32 (by omega) (by omega)]
    by_cases h : r < s + c <;> simp [h]
  have e1 : (uitofp (F := Ideal) .f32 (fun _ : S_.Idx => 1#1)) Idealize.ShloMosaic.ix0 = (1 : EReal) := by
    pointwise
    show ((((1#1 : BitVec 1).toNat : ℝ)) : EReal) = 1
    simp
  have e0 : (uitofp (F := Ideal) .f32 (fun _ : S_.Idx => 0#1)) Idealize.ShloMosaic.ix0 = (0 : EReal) := by
    pointwise
    show ((((0#1 : BitVec 1).toNat : ℝ)) : EReal) = 0
    simp
  unfold mask
  rw [ha, h1, h2]
  by_cases ha : s ≤ r
  · by_cases hb : r < s + c
    · rw [if_pos ha, if_pos hb, if_pos ⟨ha, hb⟩]; exact e1
    · rw [if_pos ha, if_neg hb, if_neg (fun h : s ≤ r ∧ r < s + c => hb h.2)]; exact e0
  · rw [if_neg ha, if_neg (fun h : s ≤ r ∧ r < s + c => ha h.1)]
    by_cases hb : r < s + c
    · rw [if_pos hb]; exact e0
    · rw [if_neg hb]; exact e0

/-- What expert `e` adds, off the contents before the program. -/
theorem term_at (hW : ∀ i, cnt W i ≤ 16384) (e : Fin 8) (r : Fin 18432) (q : Fin 7168) :
    term (after headOps W) e r q = if e.val = Tiles.ex (cnt W) (r.val / 256) ∧ r.val % 256 < Tiles.nr (cnt W) (r.val / 256) then
      Spec.unit (Spec.half fun b => W main_arg0 (ix2 r b)) (fun d => W main_arg2 (ix3 e d q)) (fun d => W main_arg3 (ix3 e d q)) else 0 := by
  have hk := head_keep W
  have hs : Tiles.starts (cnt W) e.val * 256 < 1000000 := by
    have h1 := Tiles.ends_eq (cnt W) e.val
    have h2 := Tiles.ends_le (cnt W) hW e.val
    have h3 := e.isLt
    omega
  have hc := hW e.val
  have hr := r.isLt
  unfold term
  rw [start_word W hW e, hk.1, arg_word W e, head_v14, mask_at hs (by omega) (by omega), hk.2.1, hk.2.2]
  have hx : (fun d => after headOps W main_v6 (ix2 r d)) = Spec.half (fun b => W main_arg0 (ix2 r b)) := funext fun d => head_v6 W r d
  rw [hx]
  have hh := Tiles.held_iff (cnt W) (e := e.val) (r := r.val) e.isLt
  by_cases h : e.val = Tiles.ex (cnt W) (r.val / 256) ∧ r.val % 256 < Tiles.nr (cnt W) (r.val / 256)
  · rw [if_pos (hh.2 h), if_pos h, one_mul]
  · rw [if_neg (fun h' => h (hh.1 h')), if_neg h, zero_mul]

/-- Two contents that agree on what the experts read. -/
def Same (A B : Valuation τ sig (Elt Ideal)) : Prop :=
  (A main_v6 = B main_v6 ∧ A main_v13 = B main_v13 ∧ A main_v14 = B main_v14) ∧ A main_arg1 = B main_arg1 ∧ A main_arg2 = B main_arg2 ∧ A main_arg3 = B main_arg3

theorem Same.trans {A B C : Valuation τ sig (Elt Ideal)} (h : Same A B) (k : Same B C) : Same A C :=
  ⟨⟨h.1.1.trans k.1.1, h.1.2.1.trans k.1.2.1, h.1.2.2.trans k.1.2.2⟩, h.2.1.trans k.2.1, h.2.2.1.trans k.2.2.1, h.2.2.2.trans k.2.2.2⟩

theorem Same.term {A B : Valuation τ sig (Elt Ideal)} (h : Same A B) (e : Fin 8) (r : Fin 18432) (q : Fin 7168) : term A e r q = term B e r q := by
  unfold Experts.term
  rw [h.1.1, h.1.2.1, h.1.2.2, h.2.1, h.2.2.1, h.2.2.2]

theorem sum_at (hW : ∀ i, cnt W i ≤ 16384) (r : Fin 18432) (q : Fin 7168) :
    (∑ e : Fin 8, term (after headOps W) e r q) = Spec.res (cnt W) (fun r b => W main_arg0 (ix2 r b)) (fun e d q => W main_arg2 (ix3 e d q)) (fun e d q => W main_arg3 (ix3 e d q)) r q := by
  simp only [term_at W hW]
  unfold Spec.res
  have hex := Tiles.ex_le (cnt W) (r.val / 256)
  by_cases h : r.val % 256 < Tiles.nr (cnt W) (r.val / 256)
  · rw [if_pos h, Finset.sum_eq_single (⟨Tiles.ex (cnt W) (r.val / 256), by omega⟩ : Fin 8)]
    · rw [if_pos ⟨rfl, h⟩]
    · intro b _ hb
      rw [if_neg (fun hh => hb (Fin.ext hh.1))]
    · intro hh
      exact absurd (Finset.mem_univ _) hh
  · rw [if_neg h]
    refine Finset.sum_eq_zero fun e _ => ?_
    rw [if_neg (fun hh => h hh.2)]

/-- The reference's result, entry by entry. -/
theorem value (hW : ∀ i, cnt W i ≤ 16384) (r : Fin 18432) (q : Fin 7168) :
    after allOps W main_v216 (ix2 r q) = Spec.res (cnt W) (fun r b => W main_arg0 (ix2 r b)) (fun e d q => W main_arg2 (ix3 e d q)) (fun e d q => W main_arg3 (ix3 e d q)) r q := by
  have s0 : Same (after exp0 (after headOps W)) (after headOps W) := keep0 _
  have s1 : Same (after exp1 (after exp0 (after headOps W))) (after headOps W) := Same.trans (keep1 _) s0
  have s2 : Same (after exp2 (after exp1 (after exp0 (after headOps W)))) (after headOps W) := Same.trans (keep2 _) s1
  have s3 : Same (after exp3 (after exp2 (after exp1 (after exp0 (after headOps W))))) (after headOps W) := Same.trans (keep3 _) s2
  have s4 : Same (after exp4 (after exp3 (after exp2 (after exp1 (after exp0 (after headOps W)))))) (after headOps W) := Same.trans (keep4 _) s3
  have s5 : Same (after exp5 (after exp4 (after exp3 (after exp2 (after exp1 (after exp0 (after headOps W))))))) (after headOps W) := Same.trans (keep5 _) s4
  have s6 : Same (after exp6 (after exp5 (after exp4 (after exp3 (after exp2 (after exp1 (after exp0 (after headOps W)))))))) (after headOps W) := Same.trans (keep6 _) s5
  have s7 : Same (after exp7 (after exp6 (after exp5 (after exp4 (after exp3 (after exp2 (after exp1 (after exp0 (after headOps W))))))))) (after headOps W) := Same.trans (keep7 _) s6
  simp only [after_append]
  rw [last, add7, add6, add5, add4, add3, add2, add1, add0, head_v15, s6.term, s5.term, s4.term, s3.term, s2.term, s1.term, s0.term]
  have hsum : plus (plus (plus (plus (plus (plus (plus (plus 0 (term (after headOps W) 0 r q)) (term (after headOps W) 1 r q)) (term (after headOps W) 2 r q)) (term (after headOps W) 3 r q))
      (term (after headOps W) 4 r q)) (term (after headOps W) 5 r q)) (term (after headOps W) 6 r q)) (term (after headOps W) 7 r q) = ∑ e : Fin 8, term (after headOps W) e r q := by
    rw [Fin.sum_univ_eight]
    unfold plus
    rw [zero_add]
  exact Eq.trans hsum (sum_at W hW r q)

end Cert.ReferenceIdeal.Experts

end
-- ==== Proof.RefRun.lean ====
module

public import proofs.«01_k».proof.Proof.RefVal

@[expose] public section

set_option maxRecDepth 16384

noncomputable section

namespace Cert.ReferenceIdeal.Experts

open Cert.ReferenceIdeal Cert.ReferenceIdeal.Gen
open Idealize.ShloMosaic Idealize.ShloMosaic.TcCoe Idealize.SL.Sem Idealize.ShloMosaic.StableHlo

variable (W : Valuation τ sig (Elt Ideal))

theorem headOps_sub : (headOps (F := Ideal)).Forall fun op => op.bufs ⊆ tcRefs τ sig := by
  simp

theorem headOps_fresh : ∀ op ∈ (headOps (F := Ideal)), op.fresh = ∅ := by
  intro _ h; (repeat (cases h with | head => rfl | tail _ h => ?_)); exact nomatch h

theorem headOps_args : (after headOps W main_arg0 = W main_arg0 ∧ after headOps W main_arg1 = W main_arg1) ∧ after headOps W main_arg2 = W main_arg2 ∧ after headOps W main_arg3 = W main_arg3 := by
  refine ⟨⟨?_, ?_⟩, ?_, ?_⟩ <;> after_reads_simp

theorem exp0_sub : (exp0 (F := Ideal)).Forall fun op => op.bufs ⊆ tcRefs τ sig := by
  simp

theorem exp0_fresh : ∀ op ∈ (exp0 (F := Ideal)), op.fresh = ∅ := by
  intro _ h; (repeat (cases h with | head => rfl | tail _ h => ?_)); exact nomatch h

theorem exp0_args : (after exp0 W main_arg0 = W main_arg0 ∧ after exp0 W main_arg1 = W main_arg1) ∧ after exp0 W main_arg2 = W main_arg2 ∧ after exp0 W main_arg3 = W main_arg3 := by
  refine ⟨⟨?_, ?_⟩, ?_, ?_⟩ <;> after_reads_simp

theorem exp1_sub : (exp1 (F := Ideal)).Forall fun op => op.bufs ⊆ tcRefs τ sig := by
  simp

theorem exp1_fresh : ∀ op ∈ (exp1 (F := Ideal)), op.fresh = ∅ := by
  intro _ h; (repeat (cases h with | head => rfl | tail _ h => ?_)); exact nomatch h

theorem exp1_args : (after exp1 W main_arg0 = W main_arg0 ∧ after exp1 W main_arg1 = W main_arg1) ∧ after exp1 W main_arg2 = W main_arg2 ∧ after exp1 W main_arg3 = W main_arg3 := by
  refine ⟨⟨?_, ?_⟩, ?_, ?_⟩ <;> after_reads_simp

theorem exp2_sub : (exp2 (F := Ideal)).Forall fun op => op.bufs ⊆ tcRefs τ sig := by
  simp

theorem exp2_fresh : ∀ op ∈ (exp2 (F := Ideal)), op.fresh = ∅ := by
  intro _ h; (repeat (cases h with | head => rfl | tail _ h => ?_)); exact nomatch h

theorem exp2_args : (after exp2 W main_arg0 = W main_arg0 ∧ after exp2 W main_arg1 = W main_arg1) ∧ after exp2 W main_arg2 = W main_arg2 ∧ after exp2 W main_arg3 = W main_arg3 := by
  refine ⟨⟨?_, ?_⟩, ?_, ?_⟩ <;> after_reads_simp

theorem exp3_sub : (exp3 (F := Ideal)).Forall fun op => op.bufs ⊆ tcRefs τ sig := by
  simp

theorem exp3_fresh : ∀ op ∈ (exp3 (F := Ideal)), op.fresh = ∅ := by
  intro _ h; (repeat (cases h with | head => rfl | tail _ h => ?_)); exact nomatch h

theorem exp3_args : (after exp3 W main_arg0 = W main_arg0 ∧ after exp3 W main_arg1 = W main_arg1) ∧ after exp3 W main_arg2 = W main_arg2 ∧ after exp3 W main_arg3 = W main_arg3 := by
  refine ⟨⟨?_, ?_⟩, ?_, ?_⟩ <;> after_reads_simp

theorem exp4_sub : (exp4 (F := Ideal)).Forall fun op => op.bufs ⊆ tcRefs τ sig := by
  simp

theorem exp4_fresh : ∀ op ∈ (exp4 (F := Ideal)), op.fresh = ∅ := by
  intro _ h; (repeat (cases h with | head => rfl | tail _ h => ?_)); exact nomatch h

theorem exp4_args : (after exp4 W main_arg0 = W main_arg0 ∧ after exp4 W main_arg1 = W main_arg1) ∧ after exp4 W main_arg2 = W main_arg2 ∧ after exp4 W main_arg3 = W main_arg3 := by
  refine ⟨⟨?_, ?_⟩, ?_, ?_⟩ <;> after_reads_simp

theorem exp5_sub : (exp5 (F := Ideal)).Forall fun op => op.bufs ⊆ tcRefs τ sig := by
  simp

theorem exp5_fresh : ∀ op ∈ (exp5 (F := Ideal)), op.fresh = ∅ := by
  intro _ h; (repeat (cases h with | head => rfl | tail _ h => ?_)); exact nomatch h

theorem exp5_args : (after exp5 W main_arg0 = W main_arg0 ∧ after exp5 W main_arg1 = W main_arg1) ∧ after exp5 W main_arg2 = W main_arg2 ∧ after exp5 W main_arg3 = W main_arg3 := by
  refine ⟨⟨?_, ?_⟩, ?_, ?_⟩ <;> after_reads_simp

theorem exp6_sub : (exp6 (F := Ideal)).Forall fun op => op.bufs ⊆ tcRefs τ sig := by
  simp

theorem exp6_fresh : ∀ op ∈ (exp6 (F := Ideal)), op.fresh = ∅ := by
  intro _ h; (repeat (cases h with | head => rfl | tail _ h => ?_)); exact nomatch h

theorem exp6_args : (after exp6 W main_arg0 = W main_arg0 ∧ after exp6 W main_arg1 = W main_arg1) ∧ after exp6 W main_arg2 = W main_arg2 ∧ after exp6 W main_arg3 = W main_arg3 := by
  refine ⟨⟨?_, ?_⟩, ?_, ?_⟩ <;> after_reads_simp

theorem exp7_sub : (exp7 (F := Ideal)).Forall fun op => op.bufs ⊆ tcRefs τ sig := by
  simp

theorem exp7_fresh : ∀ op ∈ (exp7 (F := Ideal)), op.fresh = ∅ := by
  intro _ h; (repeat (cases h with | head => rfl | tail _ h => ?_)); exact nomatch h

theorem exp7_args : (after exp7 W main_arg0 = W main_arg0 ∧ after exp7 W main_arg1 = W main_arg1) ∧ after exp7 W main_arg2 = W main_arg2 ∧ after exp7 W main_arg3 = W main_arg3 := by
  refine ⟨⟨?_, ?_⟩, ?_, ?_⟩ <;> after_reads_simp

theorem lastOps_sub : (lastOps (F := Ideal)).Forall fun op => op.bufs ⊆ tcRefs τ sig := by
  simp

theorem lastOps_fresh : ∀ op ∈ (lastOps (F := Ideal)), op.fresh = ∅ := by
  intro _ h; (repeat (cases h with | head => rfl | tail _ h => ?_)); exact nomatch h

theorem lastOps_args : (after lastOps W main_arg0 = W main_arg0 ∧ after lastOps W main_arg1 = W main_arg1) ∧ after lastOps W main_arg2 = W main_arg2 ∧ after lastOps W main_arg3 = W main_arg3 := by
  refine ⟨⟨?_, ?_⟩, ?_, ?_⟩ <;> after_reads_simp

theorem all_sub : (allOps (F := Ideal)).Forall fun op => op.bufs ⊆ tcRefs τ sig := by
  have both : ∀ {a b : List (HloOp τ sig (Elt Ideal))}, (a.Forall fun op => op.bufs ⊆ tcRefs τ sig) → (b.Forall fun op => op.bufs ⊆ tcRefs τ sig) →
      ((a ++ b).Forall fun op => op.bufs ⊆ tcRefs τ sig) := fun ha hb => List.forall_append.2 ⟨ha, hb⟩
  exact both headOps_sub (both exp0_sub (both exp1_sub (both exp2_sub (both exp3_sub (both exp4_sub (both exp5_sub (both exp6_sub (both exp7_sub (lastOps_sub)))))))))

theorem all_fresh : ∀ op ∈ (allOps (F := Ideal)), op.fresh = ∅ := by
  have both : ∀ {a b : List (HloOp τ sig (Elt Ideal))}, (∀ op ∈ a, op.fresh = ∅) → (∀ op ∈ b, op.fresh = ∅) → ∀ op ∈ a ++ b, op.fresh = ∅ :=
    fun ha hb op h => (List.mem_append.1 h).elim (ha op) (hb op)
  exact both headOps_fresh (both exp0_fresh (both exp1_fresh (both exp2_fresh (both exp3_fresh (both exp4_fresh (both exp5_fresh (both exp6_fresh (both exp7_fresh (lastOps_fresh)))))))))

theorem all_args : (after allOps W main_arg0 = W main_arg0 ∧ after allOps W main_arg1 = W main_arg1) ∧ after allOps W main_arg2 = W main_arg2 ∧ after allOps W main_arg3 = W main_arg3 := by
  have both : ∀ {a b : List (HloOp τ sig (Elt Ideal))},
      (∀ V, (after a V main_arg0 = V main_arg0 ∧ after a V main_arg1 = V main_arg1) ∧ after a V main_arg2 = V main_arg2 ∧ after a V main_arg3 = V main_arg3) →
      (∀ V, (after b V main_arg0 = V main_arg0 ∧ after b V main_arg1 = V main_arg1) ∧ after b V main_arg2 = V main_arg2 ∧ after b V main_arg3 = V main_arg3) →
      ∀ V, (after (a ++ b) V main_arg0 = V main_arg0 ∧ after (a ++ b) V main_arg1 = V main_arg1) ∧ after (a ++ b) V main_arg2 = V main_arg2 ∧ after (a ++ b) V main_arg3 = V main_arg3 := by
    intro a b ha hb V
    have h1 := ha V
    have h2 := hb (after a V)
    rw [after_append]
    exact ⟨⟨h2.1.1.trans h1.1.1, h2.1.2.trans h1.1.2⟩, h2.2.1.trans h1.2.1, h2.2.2.trans h1.2.2⟩
  exact both headOps_args (both exp0_args (both exp1_args (both exp2_args (both exp3_args (both exp4_args (both exp5_args (both exp6_args (both exp7_args (lastOps_args))))))))) W

/-- Every run ends with the operations' results, the arguments as they were and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v216) = after allOps (launchContents m c) main_v216
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run (defs (F := Ideal)) _ _).mono (fun r h => ⟨fun c => ?_, sem_eq_zero_of_no_sems (by decide) r.2⟩)
    (run_hlo (defs (F := Ideal)) (main (F := Ideal)) main_seq (by decide) (by decide) all_sub all_fresh m ρ)
  have hk := all_args (launchContents m c)
  exact ⟨h c main_v216, (h c main_arg0).trans hk.1.1, (h c main_arg1).trans hk.1.2, (h c main_arg2).trans hk.2.1, (h c main_arg3).trans hk.2.2⟩

end Cert.ReferenceIdeal.Experts

end
-- ==== Proof.DownBody.lean ====
module

public import proofs.«01_k».proof.Proof.Body
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word a table of one entry per tile holds for the point's tile. -/
def word (tab : Vec F S72 .i32) (i : grid0.Coords) : BitVec 32 := tab (fun a => ⟨(i 1).val, match a with | ⟨0, _⟩ => (i 1).isLt⟩)

/-- What the body leaves in a weight scratch: the weights of the point's expert where its run opens, the scratch as it was elsewhere. -/
def scr (fl : BitVec 32) (new old : Vec F S7168x512 .bf16) : Vec F S7168x512 .bf16 := if fl = 1#32 then new else old

/-- What the body leaves in the output block. -/
def outBlk (nr : BitVec 32) (x5 : Vec F S256x7168 .bf16) (w : Vec F S7168x512 .bf16) : Vec F S256x512 .f32 :=
  if k0_cond2 nr = 1#1 then k0_pay2 x5 w else k0_pay3

theorem off1_eq (i : grid0.Coords) : k0_off1 i = ![(i 1).val] := by
  have h : (i 1).val < 72 := (i 1).isLt
  unfold k0_off1
  simp only [Scalar.indexCast]
  congr 1
  simp
  omega

/-- A word load of a whole table reads the table's entry of the point's tile. -/
theorem readWord (i : grid0.Coords) (arg : Memref sig .tc .smem S72 .i32) (harg : arg.IsWhole) (tab : Vec F S72 .i32) (off : Fin 1 → Nat)
    (hoff : off = ![(i 1).val]) (inb) (h1) :
    View.readAt (Elt F) arg.view (Rect.unit (s := S72) off S1.size inb).toLoadRect (harg.unread tab) (Shape.Idx.first h1) = word tab i := by
  subst hoff
  rw [View.readAt_apply, harg.read_unread]
  unfold word
  congr 1
  funext a
  apply Fin.ext
  match a with
  | ⟨0, _⟩ => rfl

set_option maxHeartbeats 1000000 in
/-- The body at a point whose row count is not negative. -/
theorem run_body (c : Dev nD) (i : grid0.Coords)
    (arg2 : Memref sig .tc .smem S72 .i32) (harg2 : arg2.IsWhole) (arg3 : Memref sig .tc .smem S72 .i32) (harg3 : arg3.IsWhole)
    (arg4 : Memref sig .tc .smem S72 .i32) (harg4 : arg4.IsWhole) (arg5 : Memref sig .tc .vmem S256x7168 .bf16) (harg5 : arg5.IsWhole)
    (arg6 : Memref sig .tc .vmem S1x7168x512 .f32) (harg6 : arg6.IsWhole) (arg7 : Memref sig .tc .vmem S256x512 .f32) (harg7 : arg7.IsWhole)
    (arg8 : Memref sig .tc .vmem S7168x512 .bf16) (harg8 : arg8.IsWhole) (q : PosShare TreeShare)
    (nr fl : Vec F S72 .i32) (x5 : Vec F S256x7168 .bf16) (x6 : Vec F S1x7168x512 .f32) (x8 : Vec F S7168x512 .bf16)
    (hnr : k0_cond3 (word nr i) = 1#1 ↔ ¬ k0_cond2 (word nr i) = 1#1)
    (E : Set ℕ) (K : PUnit → sProp (MT nD τ sig Unit (Elt F) ℕ (UR sig nD τ) ℕ)) :
    iprop(owns (c : Thread nD τ) arg3 q nr ∗ owns (c : Thread nD τ) arg4 q fl ∗ owns (c : Thread nD τ) arg5 fullShare x5
        ∗ owns (c : Thread nD τ) arg6 fullShare x6 ∗ (∃ d, owns (c : Thread nD τ) arg7 fullShare d)
        ∗ owns (c : Thread nD τ) arg8 fullShare x8
        ∗ (iprop(owns (c : Thread nD τ) arg3 q nr ∗ owns (c : Thread nD τ) arg4 q fl ∗ owns (c : Thread nD τ) arg5 fullShare x5
            ∗ owns (c : Thread nD τ) arg6 fullShare x6
            ∗ owns (c : Thread nD τ) arg7 fullShare (outBlk (word nr i) x5 (scr (word fl i) (k0_pay1 x6) x8))
            ∗ owns (c : Thread nD τ) arg8 fullShare (scr (word fl i) (k0_pay1 x6) x8)) -∗ K ⟨⟩))
      ⊢ wp frame (wpE (defs₀ (F := F)) Variants.none c none) E
          (cc0_expert_down i arg2 harg2 arg3 harg3 arg4 harg4 arg5 harg5 arg6 harg6 arg7 harg7 arg8 harg8) K := by
  simp only [cc0_expert_down_eq_skeleton]; unfold cc0_expert_down_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec
  sl_step
  have hopen : run_body.sl.v4 c i arg4 harg4 fl = 1#1 ↔ word fl i = 1#32 := by
    rw [← readWord i arg4 harg4 fl _ (off1_eq i)]
    exact Cert.KernelIdeal.Experts.open_cond _
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    unfold run_body.sl.r_1 run_body.sl.r_2 run_body.sl.v16
    rw [readWord i arg3 harg3 nr (k0_off3 i) (off1_eq i), readWord i arg3 harg3 nr (k0_off2 i) (off1_eq i)]
    unfold outBlk scr
    by_cases h2 : k0_cond2 (word nr i) = 1#1
    · rw [dif_neg (fun h => (hnr.mp h) h2), dif_pos h2, if_pos h2, View.read_writes_full]
      by_cases h1 : run_body.sl.v4 c i arg4 harg4 fl = 1#1
      · rw [dif_pos h1, if_pos (hopen.mp h1)]
        rw [View.readAt_full, View.readAt_full, View.read_writes_full, View.readAt_full, harg5.read_unread, harg6.read_unread]
      · rw [dif_neg h1, if_neg (fun h => h1 (hopen.mpr h))]
        rw [View.readAt_full, View.readAt_full, harg5.read_unread, harg8.read_unread]
    · rw [dif_pos (hnr.mpr h2), if_neg h2, View.read_writes_full]
  iexists _; isplitr; swap; · iexact H8
  ipureintro
  unfold scr
  by_cases h1 : run_body.sl.v4 c i arg4 harg4 fl = 1#1
  · rw [dif_pos h1, if_pos (hopen.mp h1), View.read_writes_full, View.readAt_full, harg6.read_unread]
  · rw [dif_neg h1, if_neg (fun h => h1 (hopen.mpr h)), harg8.read_unread]

end Cert.Kernel2Ideal.Down

end
-- ==== Proof.DownRun.lean ====
module

public import proofs.«01_k».proof.Proof.DownBody
public import Idealize.ShloMosaic.Lib.Pipeline.Frame
public import Idealize.ShloMosaic.Lib.Claim

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three tables, each as its words. -/
abbrev exT (tb : pre0.Contents (Elt F)) : Vec F S72 .i32 := tb 0
abbrev nrT (tb : pre0.Contents (Elt F)) : Vec F S72 .i32 := tb 1
abbrev flT (tb : pre0.Contents (Elt F)) : Vec F S72 .i32 := tb 2

/-- What the run needs of the tables: every expert's block inside the weights, no negative row count, and a tile
    that has rows and does not open an expert's run follows one of the same expert that has rows. -/
structure Good (tb : pre0.Contents (Elt F)) : Prop where
  ok : ok0 tb
  nr : ∀ i : grid0.Coords, k0_cond3 (word (nrT tb) i) = 1#1 ↔ ¬ k0_cond2 (word (nrT tb) i) = 1#1
  carry : ∀ i : grid0.Coords, k0_cond2 (word (nrT tb) i) = 1#1 → word (flT tb) i ≠ 1#32 → ∃ h : 1 ≤ (i 1).val,
    ∀ i' : grid0.Coords, (i' 0).val = (i 0).val → (i' 1).val + 1 = (i 1).val →
      k0_cond2 (word (nrT tb) i') = 1#1 ∧ word (exT tb) i' = word (exT tb) i

variable (tb : pre0.Contents (Elt F)) (hg : Good tb)
variable (V : (c : Dev nD) → (b : Ref sig .tc) → Buf (Elt F) ((c.tc : Thread nD τ).loc b))

/-- The tables as the pipeline's admissible contents. -/
abbrev adm : (p : Fin 1) → (pcfgs (F := F) p).Adm := fun _ => ⟨tb, hg.ok⟩

/-- The pipeline at these tables. -/
abbrev cfgT : Cfg sig Λ₀ := cfg0 (F := F) ⟨tb, hg.ok⟩

/-- Window `w`'s block at point `t`, read off its array as the region finds it. -/
def iblk (c : Dev nD) (w : Fin (cfgT tb hg).W) (t : Fin (cfgT tb hg).N) :
    (((cfgT tb hg).win w).xblock ((cfgT tb hg).grid.coords t)).Idx → Elt F ((cfgT tb hg).win w).elt :=
  (((cfgT tb hg).win w).blk t).view.read (Elt F) (V c (Pipeline.arrRef spec0 w))

/-- The weights the point's expert multiplies by, as the scratch holds them. -/
def wd (c : Dev nD) (t : Fin (cfgT tb hg).N) : Vec F S7168x512 .bf16 := k0_pay1 (iblk tb hg V c 1 t)

/-- The output block the body leaves at point `t`. -/
def outAt (c : Dev nD) (t : Fin (cfgT tb hg).N) : Vec F S256x512 .f32 :=
  outBlk (word (nrT tb) (grid0.coords t)) (iblk tb hg V c 0 t) (wd tb hg V c t)

/-- What holds of the scratch before point `n`: the weights of the point before, where that had rows. -/
def held (c : Dev nD) (n : ℕ) (X0 : Vec F S7168x512 .bf16) : Prop :=
  ∀ t : Fin (cfgT tb hg).N, t.val + 1 = n → k0_cond2 (word (nrT tb) (grid0.coords t)) = 1#1 → X0 = wd tb hg V c t

/-- The invariant carried between points. -/
def Inv (c : Dev nD) (n : ℕ) : sProp (MT nD τ sig Unit (Elt F) ℕ (UR sig nD τ) ℕ) :=
  iprop(∃ X0, ⌜held tb hg V c n X0⌝ ∗ owns (c : Thread nD τ) (Memref.whole cc0_scratch0) fullShare X0
    ∗ (∃ r, prngReg c r) ∗ Pipeline.ΦT pre0 tb c)

/-- The proof data of the one pipeline on core `c`. -/
def dats (_ : Fin 1) (c : Dev nD) : Dat τ (Elt F) Unit ℕ (UR sig nD τ) ℕ (cfgT tb hg) c where
  A w := V c (Pipeline.arrRef spec0 w)
  after w t := match w with
    | ⟨0, _⟩ => iblk tb hg V c 0 t
    | ⟨1, _⟩ => iblk tb hg V c 1 t
    | ⟨2, _⟩ => outAt tb hg V c t
  Φ n := Inv tb hg V c n.val
  q _ := fullShare
  owed _ := 0

theorem A_eq (c : Dev nD) (w : Fin (cfgT tb hg).W) : (dats tb hg V 0 c).A w = V c (Pipeline.arrRef spec0 w) := by
  dsimp only [dats]

theorem after0_0 (c : Dev nD) (t : Fin (cfgT tb hg).N) : (dats tb hg V 0 c).after 0 t = iblk tb hg V c 0 t := rfl
theorem after0_1 (c : Dev nD) (t : Fin (cfgT tb hg).N) : (dats tb hg V 0 c).after 1 t = iblk tb hg V c 1 t := rfl
theorem after0_2 (c : Dev nD) (t : Fin (cfgT tb hg).N) : (dats tb hg V 0 c).after 2 t = outAt tb hg V c t := rfl

theorem before0_0 (c : Dev nD) (t : Fin (cfgT tb hg).N) (d) : (dats tb hg V 0 c).before 0 t d = iblk tb hg V c 0 t :=
  ((dats tb hg V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgT tb hg).N) (d) : (dats tb hg V 0 c).before 1 t d = iblk tb hg V c 1 t :=
  ((dats tb hg V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem coords_val (t : Fin grid0.N) : (grid0.coords t 0).val = t.val / 72 % 8 ∧ (grid0.coords t 1).val = t.val % 72 :=
  ⟨Pipeline.Grid.coords_val t 0 (by decide) rfl, by rw [Pipeline.Grid.coords_val t 1 (S := 1) (B := 72) (by decide) rfl, Nat.div_one]⟩

/-- The expert's word, the index map of the weights reads. -/
theorem at_word (i : grid0.Coords) : cc0_transform_1 k0_off1_inb numel1_S1 tb i = ![(word (exT tb) i).toNat, 0, (BitVec.ofNat 32 (i 0).val).toNat] := by
  have h : Pipeline.Prefetch.Contents.at tb 0 (Rect.unit (s := S72) (k0_off1 i) S1.size (k0_off1_inb i)) numel1_S1 = word (exT tb) i := by
    unfold word
    show tb 0 _ = tb 0 _
    congr 1
    funext a
    apply Fin.ext
    match a with
    | ⟨0, _⟩ =>
      show k0_off1 i 0 + 1 * 0 = (i 1).val
      rw [off1_eq]; rfl
  unfold cc0_transform_1
  show ![(Pipeline.Prefetch.Contents.at tb 0 (Rect.unit (s := S72) (k0_off1 i) S1.size (k0_off1_inb i)) numel1_S1 : BitVec 32).toNat, _, _] = _
  rw [h]; rfl

/-- The point before: the same output column, the tile before. -/
theorem prev_coords (t t' : Fin grid0.N) (h : t'.val + 1 = t.val) (h1 : 1 ≤ (grid0.coords t 1).val) :
    (grid0.coords t' 0).val = (grid0.coords t 0).val ∧ (grid0.coords t' 1).val + 1 = (grid0.coords t 1).val := by
  have ht := coords_val t
  have ht' := coords_val t'
  omega

theorem blk_congr (c : Dev nD) (t t' : Fin (cfgT tb hg).N) (h0 : (grid0.coords t' 0).val = (grid0.coords t 0).val)
    (he : word (exT tb) (grid0.coords t') = word (exT tb) (grid0.coords t)) :
    (iblk tb hg V c 1 t' : Vec F S1x7168x512 .f32) = iblk tb hg V c 1 t := by
  have h := (dats tb hg V 0 c).fetched_congr 1 (t := t') (t' := t) (by
    show cc0_transform_1 k0_off1_inb numel1_S1 tb (grid0.coords t') = cc0_transform_1 k0_off1_inb numel1_S1 tb (grid0.coords t)
    rw [at_word tb, at_word tb, h0, he]) rfl (fun _ => Classical.arbitrary _)
  exact h

/-- A point keeps the invariant: it leaves its own weights in the scratch where it has rows. -/
theorem held_succ (c : Dev nD) (t : Fin (cfgT tb hg).N) (X0 : Vec F S7168x512 .bf16) (h : held tb hg V c t.val X0) :
    held tb hg V c (t.val + 1) (scr (word (flT tb) (grid0.coords t)) (wd tb hg V c t) X0) := by
  intro t₁ e hl
  obtain rfl : t₁ = t := Fin.ext (by omega)
  unfold scr
  by_cases hf : word (flT tb) (grid0.coords t₁) = 1#32
  · rw [if_pos hf]
  · rw [if_neg hf]
    obtain ⟨h1, hp⟩ := hg.carry _ hl hf
    have h72 := (coords_val t₁).2
    have ht0 : 1 ≤ t₁.val := by omega
    have hc := prev_coords t₁ ⟨t₁.val - 1, lt_of_le_of_lt (Nat.sub_le _ _) t₁.isLt⟩ (by show t₁.val - 1 + 1 = t₁.val; omega) h1
    obtain ⟨hl', he⟩ := hp _ hc.1 hc.2
    have e0 := h ⟨t₁.val - 1, lt_of_le_of_lt (Nat.sub_le _ _) t₁.isLt⟩ (by show t₁.val - 1 + 1 = t₁.val; omega) hl'
    have b0 := blk_congr tb hg V c t₁ ⟨t₁.val - 1, lt_of_le_of_lt (Nat.sub_le _ _) t₁.isLt⟩ hc.1 he
    rw [e0]
    exact congrArg k0_pay1 b0

theorem out_eq (c : Dev nD) (t : Fin (cfgT tb hg).N) (X0 : Vec F S7168x512 .bf16) (h : held tb hg V c t.val X0) :
    outBlk (word (nrT tb) (grid0.coords t)) (iblk tb hg V c 0 t) (scr (word (flT tb) (grid0.coords t)) (wd tb hg V c t) X0) = outAt tb hg V c t := by
  unfold outAt
  by_cases hl : k0_cond2 (word (nrT tb) (grid0.coords t)) = 1#1
  · rw [held_succ tb hg V c t X0 h t rfl hl]
  · unfold outBlk; rw [if_neg hl, if_neg hl]

/-- The tables as the body finds them. -/
theorem tables_eq (c : Dev nD) : (Pipeline.ΦT pre0 tb c : sProp (MT nD τ sig Unit (Elt F) ℕ (UR sig nD τ) ℕ))
    = iprop((((c.tc : Thread nD τ).loc (pre0.ref 0)) ↦{fullShare.right} tb 0) ∗ owns (c : Thread nD τ) (Memref.whole main_v42) fullShare.right (nrT tb)
      ∗ owns (c : Thread nD τ) (Memref.whole main_v50) fullShare.right (flT tb)) := by
  show Pipeline.prefHeld pre0 c (fun _ => fullShare.right) tb = _
  rw [owns_whole, owns_whole]
  unfold Pipeline.prefHeld
  rw [show (Finset.univ : Finset (Fin 3)) = {0,1,2} from by decide, bigSep_insert (by decide), bigSep_insert (by decide), bigSep_singleton]
  rfl

/-- The body at point `t` on the pipeline's staging buffers. -/
abbrev bodyAt0 (t : Fin (cfgT tb hg).N) : Prog (TpuEff nD τ sig (Elt F) Λ₀ .tc) PUnit :=
  cc0_expert_down (grid0.coords t) (Memref.whole main_v19) (Memref.isWhole_whole _) (Memref.whole main_v42) (Memref.isWhole_whole _) (Memref.whole main_v50) (Memref.isWhole_whole _)
    (spec0_0.stage ((cfgT tb hg).slots t 0)) (hstage0_0 (((cfgT tb hg).slots t 0).cast nbuf0_0)) (spec0_1.stage ((cfgT tb hg).slots t 1)) (hstage0_1 (((cfgT tb hg).slots t 1).cast nbuf0_1))
    (spec0_2.stage ((cfgT tb hg).slots t 2)) (hstage0_2 (((cfgT tb hg).slots t 2).cast nbuf0_2))
    (Memref.whole cc0_scratch0) (Memref.isWhole_whole _)

def bodyPre (c : Dev nD) (t : Fin (cfgT tb hg).N) : sProp (MT nD τ sig Unit (Elt F) ℕ (UR sig nD τ) ℕ) :=
  iprop((dats tb hg V 0 c).Φ t.castSucc ∗ (dats tb hg V 0 c).owesAt () t.castSucc
    ∗ (∃ d, owns (c : Thread nD τ) (spec0_0.stage ((cfgT tb hg).slots t 0)) fullShare ((dats tb hg V 0 c).before 0 t d))
    ∗ (∃ d, owns (c : Thread nD τ) (spec0_1.stage ((cfgT tb hg).slots t 1)) fullShare ((dats tb hg V 0 c).before 1 t d))
    ∗ (∃ d, owns (c : Thread nD τ) (spec0_2.stage ((cfgT tb hg).slots t 2)) fullShare ((dats tb hg V 0 c).before 2 t d)))

def bodyPost (c : Dev nD) (t : Fin (cfgT tb hg).N) : sProp (MT nD τ sig Unit (Elt F) ℕ (UR sig nD τ) ℕ) :=
  iprop((dats tb hg V 0 c).Φ t.succ ∗ (dats tb hg V 0 c).owesAt () t.succ
    ∗ owns (c : Thread nD τ) (spec0_0.stage ((cfgT tb hg).slots t 0)) fullShare ((dats tb hg V 0 c).after 0 t)
    ∗ owns (c : Thread nD τ) (spec0_1.stage ((cfgT tb hg).slots t 1)) fullShare ((dats tb hg V 0 c).after 1 t)
    ∗ owns (c : Thread nD τ) (spec0_2.stage ((cfgT tb hg).slots t 2)) fullShare ((dats tb hg V 0 c).after 2 t))

theorem defs₀_row (t : Fin (cfgT tb hg).N) :
    defs₀ (F := F) .tc (cfgT tb hg).body ((cfgT tb hg).bodyArgs t ((cfgT tb hg).slots t)) = bodyAt0 tb hg t := by
  unfold defs₀; rw [Defs.onTc_tc]

/-- The output's block is stored at every point. -/
theorem idle2 (t : Fin (cfgT tb hg).N) : (cfgT tb hg).idle 2 ((cfgT tb hg).grid.coords t) = false := by
  have h : ∀ (i : grid0.Coords), idle0 tb 2 i = false := fun i => by
    have e : ∀ off : Fin 1 → Nat, off = ![(i 1).val] → (Pipeline.Prefetch.Contents.atD tb 1 off : BitVec 32) = word (nrT tb) i := by
      intro off ho
      subst ho
      unfold Pipeline.Prefetch.Contents.atD
      rw [dif_pos (fun a => by match a with | ⟨0, _⟩ => exact (i 1).isLt)]
      unfold word
      show tb 1 _ = tb 1 _
      congr 1
      funext a
      apply Fin.ext
      match a with
      | ⟨0, _⟩ => rfl
    show (!(k0_cond2 (Pipeline.Prefetch.Contents.atD tb 1 (k0_off2 i)) == 1#1) && !(k0_cond3 (Pipeline.Prefetch.Contents.atD tb 1 (k0_off3 i)) == 1#1)) = false
    rw [e (k0_off2 i) (off1_eq i), e (k0_off3 i) (off1_eq i)]
    by_cases h2 : k0_cond2 (word (nrT tb) i) = 1#1
    · rw [h2]; rfl
    · rw [(hg.nr i).mpr h2]; simp
  exact h _

end Cert.Kernel2Ideal.Down

end
-- ==== Proof.DownOblig.lean ====
module

public import proofs.«01_k».proof.Proof.DownRun
public import Idealize.ShloMosaic.Lib.Pipeline.Frame
public import Idealize.ShloMosaic.Lib.Claim

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (tb : pre0.Contents (Elt F)) (hg : Good tb)
variable (V : (c : Dev nD) → (b : Ref sig .tc) → Buf (Elt F) ((c.tc : Thread nD τ).loc b))

theorem Phi_eq (c : Dev nD) (n : Fin ((cfgT tb hg).N + 1)) : (dats tb hg V 0 c).Φ n = Inv tb hg V c n.val := by dsimp only [dats]

theorem bodyPre_eq (c : Dev nD) (t : Fin (cfgT tb hg).N) : bodyPre tb hg V c t = iprop(Inv tb hg V c t.val ∗ (dats tb hg V 0 c).owesAt () t.castSucc
    ∗ (∃ d : (((cfgT tb hg).win 0).block.Idx → Elt F ((cfgT tb hg).win 0).elt), owns (c : Thread nD τ) (spec0_0.stage ((cfgT tb hg).slots t 0)) fullShare (iblk tb hg V c 0 t))
    ∗ (∃ d : (((cfgT tb hg).win 1).block.Idx → Elt F ((cfgT tb hg).win 1).elt), owns (c : Thread nD τ) (spec0_1.stage ((cfgT tb hg).slots t 1)) fullShare (iblk tb hg V c 1 t))
    ∗ (∃ d, owns (c : Thread nD τ) (spec0_2.stage ((cfgT tb hg).slots t 2)) fullShare ((dats tb hg V 0 c).before 2 t d))) := by
  unfold bodyPre
  rw [Phi_eq, Fin.val_castSucc]
  simp only [before0_0, before0_1]

theorem bodyPost_eq (c : Dev nD) (t : Fin (cfgT tb hg).N) : bodyPost tb hg V c t = iprop(Inv tb hg V c (t.val + 1) ∗ (dats tb hg V 0 c).owesAt () t.castSucc
    ∗ owns (c : Thread nD τ) (spec0_0.stage ((cfgT tb hg).slots t 0)) fullShare (iblk tb hg V c 0 t)
    ∗ owns (c : Thread nD τ) (spec0_1.stage ((cfgT tb hg).slots t 1)) fullShare (iblk tb hg V c 1 t)
    ∗ owns (c : Thread nD τ) (spec0_2.stage ((cfgT tb hg).slots t 2)) fullShare (outAt tb hg V c t)) := by
  unfold bodyPost
  rw [Phi_eq, Fin.val_succ, show (dats tb hg V 0 c).owesAt () t.succ = (dats tb hg V 0 c).owesAt () t.castSucc from rfl,
    after0_0, after0_1, after0_2]

set_option maxHeartbeats 800000 in
theorem sound_body (c : Dev nD) (t : Fin (cfgT tb hg).N) :
    bodyPre tb hg V c t ⊢ wp frame (wpE (defs₀ (F := F)) Variants.none c none) Set.univ (bodyAt0 tb hg t) (fun _ => bodyPost tb hg V c t) := by
  rw [bodyPre_eq, bodyPost_eq]
  unfold bodyAt0 Inv
  rw [tables_eq]
  iintro ⟨⟨%X0, %hX, S0, Hr, T0, T1, T2⟩, Ho, ⟨%d0, H0⟩, ⟨%d1, H1⟩, ⟨%d2, H2⟩⟩
  have ho := out_eq tb hg V c t X0 hX
  have hs := held_succ tb hg V c t X0 hX
  iapply (run_body c (grid0.coords t) _ _ _ _ _ _ _ _ _ _ _ _ _ _ fullShare.right (nrT tb) (flT tb) (iblk tb hg V c 0 t) (iblk tb hg V c 1 t) X0 (hg.nr _) Set.univ _)
  isplitl [T1]; · iexact T1
  isplitl [T2]; · iexact T2
  isplitl [H0]; · iexact H0
  isplitl [H1]; · iexact H1
  isplitl [H2]; · iexists _; iexact H2
  isplitl [S0]; · iexact S0
  iintro ⟨T1, T2, H0, H1, H2, S0⟩
  isplitl [S0 Hr T0 T1 T2]
  · iexists _
    isplitr; · ipureintro; exact hs
    isplitl [S0]; · iexact S0
    isplitl [Hr]; · iexact Hr
    isplitl [T0]; · iexact T0
    isplitl [T1]; · iexact T1
    iexact T2
  isplitl [Ho]; · iexact Ho
  isplitl [H0]; · iexact H0
  isplitl [H1]; · iexact H1
  rw [← ho]
  iexact H2

theorem body_obligation (c : Dev nD) : BodyObligation (dats tb hg V 0 c) (defs₀ (F := F)) Variants.none () Set.univ := fun t => by
  rw [bigSep_W0, bigSep_W0, defs₀_row]
  have hi : idle0 tb 2 ((pcfg0.gridAt tb).coords t) = false := idle2 tb hg t
  simp only [hi]
  have h := sound_body tb hg V c t
  unfold bodyPre bodyPost at h
  exact h

/-! ## The run -/

variable (m : (ℓ : Loc nD τ sig) → Buf (Elt F) ℓ) (ρ : Dev nD → PrngReg)

/-- The host operations before the region, in order. -/
abbrev hostAll : List (List (HloOp τ sig (Elt F))) := [hostOps0, hostOps0_1, hostOps0_2, hostOps0_3, hostOps0_4, hostOps0_5]

/-- Core `c`'s buffers when the region is entered. -/
abbrev Vm (c : Dev nD) (b : Ref sig .tc) : Buf (Elt F) ((c.tc : Thread nD τ).loc b) := StableHlo.after (hostAll (F := F)).flatten (fun b => m (c, b)) b

theorem hostAll_fresh : (hostAll (F := F)).Forall fun ops => ops.Forall fun op => op.fresh = ∅ := by
  simp only [List.Forall]; repeat' constructor

theorem hostAll_sub : (hostAll (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub⟩

set_option maxHeartbeats 800000 in
theorem hmain : Pipeline.HMainP (Ix := Unit) (Name := ℕ) (U := UR sig nD τ) (Lvl := ℕ) (pcfgs (F := F)) 0 defs₀ Variants.none m (main (F := F)) (Vm m) :=
  Pipeline.hmainP_prefixes pcfgs 0 defs₀ Variants.none m main hostAll hostAll_sub hostAll_fresh main_chain

set_option backward.isDefEq.respectTransparency.types false in
theorem run_main (hpf : ∀ c k, Vm m c (pre0.ref k) = tb k) :
    θ_run defs (onTc (τ := τ) (main (F := F))) (s₀ m ρ)
      (fun r => Pipeline.FramePost (Pipeline.pin pcfgs (adm tb hg)) (dats tb hg (Vm m)) 0 (Vm m) r ∧ r.2.sem = fun _ => 0) :=
  Pipeline.θ_run_frameP_track (Q' := _) pcfgs (adm tb hg) (dats tb hg (Vm m)) (0 : Fin 1) launch0 defs₀ Variants.none m ρ main
    (hbody := fun c => (body_obligation tb hg (Vm m) c).loose) (hshare := fun _ _ => by unfold Dat.share; split <;> rfl)
    (howed := fun _ _ => rfl) (V := Vm m) (hmain := hmain m) (hA := A_eq tb hg (Vm m)) (hpf := hpf)
    (hin := fun c => by
      rw [Phi_eq]
      unfold Inv Pipeline.ΦA
      rw [scopedRest0_eq]
      iintro ⟨⟨⟨%f0, S0⟩, Hr⟩, HT⟩
      iexists f0
      isplitr
      · ipureintro
        intro t ht
        exact absurd ht (Nat.succ_ne_zero _)
      rw [owns_whole]
      isplitl [S0]; · iexact S0
      isplitl [Hr]; · iexact Hr
      iexact HT)
    (hout := fun c => by
      rw [Phi_eq]
      unfold Inv Pipeline.ΦA
      rw [scopedRest0_eq]
      simp only [owns_whole]
      iintro ⟨%X0, -, S0, Hr, HT⟩
      isplitr [Hr]
      · iexists _; iexact S0
      iexact Hr)

end Cert.Kernel2Ideal.Down

end
-- ==== Proof.DownTables.lean ====
module

public import proofs.«01_k».proof.Proof.DownOblig
public import proofs.«01_k».proof.Proof.Tables
public import proofs.«01_k».proof.Proof.Tiles
public import Idealize.ShloMosaic.Lib.StableHlo.ReadAt
public import Idealize.ShloMosaic.Lib.Tactic.WordOmega
public import Idealize.ShloMosaic.Lib.Routing.BitFacts
public import Idealize.ShloMosaic.Lib.Routing.Words
public import Idealize.ShloMosaic.Lib.Routing.OpsSet

@[expose] public section

set_option maxRecDepth 16384

noncomputable section

namespace Cert.Kernel2Ideal.Down

open Cert.Kernel2Ideal Cert.Kernel2Ideal.Gen
open Idealize.ShloMosaic Idealize.ShloMosaic.TcCoe

variable {F : FTy → Type} [FloatOps F]

/-! The tile tables, read off the host's operations. -/

/-- The number of rows of expert `i`, as the word of `W` holds it. -/
def cnt (W : Valuation τ sig (Elt F)) (i : ℕ) : ℕ := if h : i < 8 then BitVec.toNat (w := 32) (W (Proc.devRef .tc main_arg1) (ix1 (⟨i, h⟩ : Fin 8))) else 0

variable (W : Valuation τ sig (Elt F))

/-- The contents before the tables proper: the tiles of each expert and their running sums. -/
def W2 : Valuation τ sig (Elt F) := StableHlo.after (hostOps0 ++ (hostOps0_1 ++ hostOps0_2)) W

theorem arg_word (e : Fin 8) : W (Proc.devRef .tc main_arg1) (ix1 e) = BitVec.ofNat 32 (cnt W e.val) := by
  unfold cnt
  rw [dif_pos e.isLt]
  exact (BitVec.ofNat_toNat 32 (W (Proc.devRef .tc main_arg1) (ix1 e) : BitVec 32)).trans (BitVec.setWidth_eq _) |>.symm

theorem tiles_word (hW : ∀ i, cnt W i ≤ 16384) (e : Fin 8) : W2 W (Proc.devRef .tc main_v4) (ix1 e) = BitVec.ofNat 32 (Tiles.tiles (cnt W) e.val) := by
  unfold W2
  after_reads_at
  exact Cert.KernelIdeal.Experts.tiles_of_word (arg_word W e) (hW e.val)

theorem W2_ends : W2 W (Proc.devRef .tc main_v5) =
   (Host.reduceWindow IntOp.addi ![8] ![1] ![7] ![0] (W2 W (Proc.devRef .tc main_v4)) (constantI S_ 32 0#32) reduceWindows_S8_S8_w8s1p7_0 h_S_ : Vec F S8 .i32) := by
  unfold W2
  after_reads_simp
  simp -implicitDefEqProofs only [StableHlo.TRef.toBuf, StableHlo.TRef.ofBuf, cast_cast, cast_eq]
  rfl

theorem ends_word (hW : ∀ i, cnt W i ≤ 16384) (e : Fin 8) : W2 W (Proc.devRef .tc main_v5) (ix1 e) = BitVec.ofNat 32 (Tiles.ends (cnt W) e.val) := by
  rw [W2_ends]
  exact Routing.cumsum1 (N := 8) (Nm1 := 7) rfl _ (Tiles.tiles (cnt W)) (fun i => tiles_word W hW i) _ rfl _ _ e

theorem W2_arg : W2 W (Proc.devRef .tc main_arg1) = W (Proc.devRef .tc main_arg1) := by
  unfold W2
  after_reads_simp

/-- The contents behind the tables' main part. -/
def W3 : Valuation τ sig (Elt F) := StableHlo.after hostOps0_3 W

theorem W3_v8 : W3 W (Proc.devRef .tc main_v8) Idealize.ShloMosaic.ix0 = W (Proc.devRef .tc main_v5) (ix1 7) := by
  unfold W3
  after_reads_at

theorem W3_v9 (t : Fin 72) : W3 W (Proc.devRef .tc main_v9) (ix1 t) = BitVec.ofNat 32 t.val := by
  unfold W3
  after_reads_at

theorem W3_v12 (t : Fin 72) : W3 W (Proc.devRef .tc main_v12) (ix1 t) = IntOp.minsi (BitVec.ofNat 32 t.val) (IntOp.subi (W (Proc.devRef .tc main_v5) (ix1 7)) 1#32) := by
  unfold W3
  after_reads_at

theorem W3_v19 : W3 W (Proc.devRef .tc main_v19) =
   Host.reduce IntOp.addi (extui 32 (W3 W (Proc.devRef .tc main_v17) : IVec S72x8 1) natLt_1_32) (constantI S_ 32 0#32) reducesTo_S72x8_S72_d1 h_S_ := by
  unfold W3
  after_reads_simp

theorem W3_v17 (t : Fin 72) (e : Fin 8) : W3 W (Proc.devRef .tc main_v17) (ix2 t e) =
    IntOp.cmpi .sge (IntOp.minsi (BitVec.ofNat 32 t.val) (IntOp.subi (W (Proc.devRef .tc main_v5) (ix1 7)) 1#32)) (W (Proc.devRef .tc main_v5) (ix1 e)) := by
  unfold W3
  after_reads_at

theorem W3_v21 (t : Fin 72) : W3 W (Proc.devRef .tc main_v21) (ix1 t) =
    IntOp.cmpi .slt (BitVec.ofNat 32 t.val) (W (Proc.devRef .tc main_v5) (ix1 7)) := by
  unfold W3
  after_reads_at

theorem W3_v6 (e : Fin 8) : W3 W (Proc.devRef .tc main_v6) (ix1 e) =
    IntOp.subi (W (Proc.devRef .tc main_v5) (ix1 e)) (W (Proc.devRef .tc main_v4) (ix1 e)) := by
  unfold W3
  after_reads_at

/-- The experts of the tiles as a column of indices. -/
def wrap (x : IVec S72 32) : IVec S72x1 32 :=
  broadcastInDim S72x1 ![0] bcast_S72_S72x1_0 (select (cmpi .slt x (broadcastInDim S72 ![] bcast_S_S72 (constantI S_ 32 0#32)))
    (addi x (broadcastInDim S72 ![] bcast_S_S72 (constantI S_ 32 8#32))) x)

theorem wrap_word (x : IVec S72 32) (t : Fin 72) {k : ℕ} (hk : k < 2 ^ 31) (hx : x (ix1 t) = BitVec.ofNat 32 k) : wrap x (ix2 t (0 : Fin 1)) = BitVec.ofNat 32 k := by
  unfold wrap
  pointwise
  rw [hx]
  have : IntOp.cmpi .slt (BitVec.ofNat 32 k) 0#32 = 0#1 := by
    unfold IntOp.cmpi
    have := Routing.slt_ofNat32 (a := k) (b := 0) hk (by omega)
    simp [this]
  rw [this]
  rfl

theorem W3_v27 : W3 W (Proc.devRef .tc main_v27) = wrap (W3 W (Proc.devRef .tc main_v19)) := by
  unfold W3 wrap
  after_reads_simp

theorem W3_v34 : W3 W (Proc.devRef .tc main_v34) = wrap (W3 W (Proc.devRef .tc main_v19)) := by
  unfold W3 wrap
  after_reads_simp

theorem W3_v28 : W3 W (Proc.devRef .tc main_v28) =
   Host.gather gather_S8_S72x1_S72_n_0_n_n_0_1_1 (W (Proc.devRef .tc main_arg1)) (W3 W (Proc.devRef .tc main_v27)) := by
  unfold W3
  after_reads_simp

theorem W3_v35 : W3 W (Proc.devRef .tc main_v35) =
   Host.gather gather_S8_S72x1_S72_n_0_n_n_0_1_1 (W3 W (Proc.devRef .tc main_v6)) (W3 W (Proc.devRef .tc main_v34)) := by
  unfold W3
  after_reads_simp

/-- A tile's rows from the expert's rows `c`, the tile `a` and the expert's first tile `b`. -/
def rest (c a b : IVec S72 32) : IVec S72 32 :=
  minsi (subi c (muli (subi a b) (broadcastInDim S72 ![] bcast_S_S72 (constantI S_ 32 256#32)))) (broadcastInDim S72 ![] bcast_S_S72 (constantI S_ 32 256#32))

theorem W3_v41 : W3 W (Proc.devRef .tc main_v41) = rest (W3 W (Proc.devRef .tc main_v28)) (W3 W (Proc.devRef .tc main_v12)) (W3 W (Proc.devRef .tc main_v35)) := by
  unfold W3 rest
  after_reads_simp

theorem rest_at (c a b : IVec S72 32) (t : Fin 72) : rest c a b (ix1 t) = IntOp.minsi (IntOp.subi (c (ix1 t)) (IntOp.muli (IntOp.subi (a (ix1 t)) (b (ix1 t))) 256#32)) 256#32 := by
  unfold rest
  pointwise

/-- The contents when the call begins, from those behind the tables' main part. -/
def W5 : Valuation τ sig (Elt F) := StableHlo.after (hostOps0_4 ++ hostOps0_5) W

theorem W5_v19 : W5 W (Proc.devRef .tc main_v19) = W (Proc.devRef .tc main_v19) := by
  unfold W5
  after_reads_simp

theorem W5_v42 (t : Fin 72) : W5 W (Proc.devRef .tc main_v42) (ix1 t) = Scalar.select (W (Proc.devRef .tc main_v21) (ix1 t)) (W (Proc.devRef .tc main_v41) (ix1 t)) (W (Proc.devRef .tc main_c_10) Idealize.ShloMosaic.ix0) := by
  unfold W5
  after_reads_at
  rfl

theorem W3_c10 : W3 W (Proc.devRef .tc main_c_10) Idealize.ShloMosaic.ix0 = 0#32 := by
  unfold W3
  after_reads_at

theorem upto_v43 : StableHlo.upto (hostOps0_4 ++ hostOps0_5) W 6 (Proc.devRef .tc main_v43) = fun _ => 4294967295#32 := by
  unfold StableHlo.upto
  simp only [hostOps0_4, hostOps0_5, List.cons_append, List.nil_append, List.take_succ_cons, List.take_zero]
  after_reads_simp
  rfl

theorem upto_v44 (t : Fin 71) : StableHlo.upto (hostOps0_4 ++ hostOps0_5) W 6 (Proc.devRef .tc main_v44) (ix1 t) = W (Proc.devRef .tc main_v19) (ix1 (⟨t.val, by omega⟩ : Fin 72)) := by
  unfold StableHlo.upto
  simp only [hostOps0_4, hostOps0_5, List.cons_append, List.nil_append, List.take_succ_cons, List.take_zero]
  after_reads_at

theorem W5_v50 (t : Fin 72) : W5 W (Proc.devRef .tc main_v50) (ix1 t) =
    BitVec.setWidth 32 (IntOp.andi (IntOp.cmpi .ne (W (Proc.devRef .tc main_v19) (ix1 t))
        (if h : t.val < 1 then 4294967295#32 else W (Proc.devRef .tc main_v19) (ix1 (⟨t.val - 1, by omega⟩ : Fin 72))))
      (IntOp.cmpi .slt (W (Proc.devRef .tc main_v9) (ix1 t)) (W (Proc.devRef .tc main_v8) Idealize.ShloMosaic.ix0))) := by
  unfold W5
  after_reads_at
  by_cases h : t.val < 1
  · simp only [dif_pos h]
    rw [upto_v43]
  · simp only [dif_neg h]
    rw [upto_v44]

/-! The three tables, as naturals. -/

variable {W} (hW : ∀ i, cnt W i ≤ 16384)

include hW

theorem cnt_W2 : cnt (W2 W) = cnt W := by
  unfold cnt
  rw [W2_arg]

theorem ends_bound (j : ℕ) (hj : j < 8) : Tiles.ends (cnt W) j ≤ 512 := by
  have := Tiles.ends_le (cnt W) hW j
  omega

theorem ofNat_sub_word {a b : ℕ} (h : b ≤ a) : IntOp.subi (BitVec.ofNat 32 a) (BitVec.ofNat 32 b) = BitVec.ofNat 32 (a - b) := Routing.ofNat32_sub h

theorem last_tile (t : ℕ) (ht : t < 72) : IntOp.minsi (BitVec.ofNat 32 t) (IntOp.subi (BitVec.ofNat 32 (Tiles.ends (cnt W) 7)) 1#32) =
    if 0 < Tiles.ends (cnt W) 7 then BitVec.ofNat 32 (min t (Tiles.ends (cnt W) 7 - 1)) else -1#32 := by
  have hb := ends_bound hW 7 (by omega)
  generalize Tiles.ends (cnt W) 7 = E at hb ⊢
  split
  · rw [show (1#32 : BitVec 32) = BitVec.ofNat 32 1 from rfl, show IntOp.subi (BitVec.ofNat 32 E) (BitVec.ofNat 32 1) = BitVec.ofNat 32 (E - 1) from Routing.ofNat32_sub (by omega)]
    unfold IntOp.minsi
    rw [Routing.slt_ofNat32 (by omega) (by omega)]
    by_cases h : t < E - 1
    · rw [if_pos (decide_eq_true h), min_eq_left (by omega)]
    · rw [if_neg (by simpa using h), min_eq_right (by omega)]
  · have : E = 0 := by omega
    subst this
    have : IntOp.subi (BitVec.ofNat 32 0) 1#32 = -1#32 := by decide
    rw [this]
    unfold IntOp.minsi
    rw [if_neg]
    have h1 : ((-1#32 : BitVec 32)).toInt = -1 := by decide
    have h2 : (BitVec.ofNat 32 t).toInt = t := by rw [BitVec.toInt_eq_toNat_cond, BitVec.toNat_ofNat]; omega
    rw [BitVec.slt, h1, h2]
    simp

theorem ex_word (t : Fin 72) : W3 (W2 W) (Proc.devRef .tc main_v19) (ix1 t) = BitVec.ofNat 32 (Tiles.ex (cnt W) t.val) := by
  rw [W3_v19]
  refine Routing.reduce_count (n := 72) (m := 8) (by omega) _ _ _ _ t (Tiles.Past (cnt W) t.val) fun q => ?_
  have h17 := W3_v17 (W2 W) t q
  rw [show W2 W (Proc.devRef .tc main_v5) (ix1 7) = _ from ends_word W hW 7, ends_word W hW q] at h17
  rw [show W3 (W2 W) (Proc.devRef .tc main_v17) (ValueIdx.ix2 t q) = _ from h17]
  have hb := ends_bound hW 7 (by omega)
  have hq := ends_bound hW q.val q.isLt
  rw [show ((7 : Fin 8)).val = 7 from rfl, last_tile hW t.val t.isLt]
  unfold Tiles.Past
  by_cases h : 0 < Tiles.ends (cnt W) 7
  · rw [if_pos h]
    unfold IntOp.cmpi
    simp only [Routing.sle_ofNat32 (show Tiles.ends (cnt W) q.val < 2 ^ 31 by omega) (show min t.val (Tiles.ends (cnt W) 7 - 1) < 2 ^ 31 by omega)]
    simp only [h, true_and, Nat.le_min]
    by_cases h1 : Tiles.ends (cnt W) q.val ≤ t.val <;> by_cases h2 : Tiles.ends (cnt W) q.val ≤ Tiles.ends (cnt W) 7 - 1 <;> simp [h1, h2]
  · rw [if_neg h]
    unfold IntOp.cmpi
    have h1 : ((-1#32 : BitVec 32)).toInt = -1 := by decide
    have h2 : (BitVec.ofNat 32 (Tiles.ends (cnt W) q.val)).toInt = Tiles.ends (cnt W) q.val := by rw [BitVec.toInt_eq_toNat_cond, BitVec.toNat_ofNat]; omega
    have : (BitVec.ofNat 32 (Tiles.ends (cnt W) q.val)).sle (-1#32) = false := by
      rw [BitVec.sle, h1, h2]; simp; omega
    simp only [this]
    simp [h]

/-- The buffers' contents when the call begins. -/
theorem nr_word (t : Fin 72) : W5 (W3 (W2 W)) (Proc.devRef .tc main_v42) (ix1 t) = BitVec.ofNat 32 (Tiles.nr (cnt W) t.val) := by
  have hb := ends_bound hW 7 (by omega)
  have h7 : W2 W (Proc.devRef .tc main_v5) (ix1 7) = BitVec.ofNat 32 (Tiles.ends (cnt W) 7) := ends_word W hW 7
  have hc : IntOp.cmpi .slt (BitVec.ofNat 32 t.val) (BitVec.ofNat 32 (Tiles.ends (cnt W) 7)) = BitVec.ofBool (decide (t.val < Tiles.ends (cnt W) 7)) := by
    unfold IntOp.cmpi
    simp only [Routing.slt_ofNat32 (show t.val < 2 ^ 31 by omega) (show Tiles.ends (cnt W) 7 < 2 ^ 31 by omega)]
  rw [W5_v42, W3_v21, h7, W3_c10, hc]
  unfold Tiles.nr
  by_cases h : t.val < Tiles.ends (cnt W) 7
  · rw [if_pos h, decide_eq_true h]
    have hex := Tiles.ex_le (cnt W) t.val
    have hstart := Tiles.starts_le (cnt W) h
    have hin := Tiles.inside (cnt W) h
    have hx := ex_word hW t
    have hw27 : W3 (W2 W) (Proc.devRef .tc main_v27) (ix2 t (0 : Fin 1)) = BitVec.ofNat 32 (Tiles.ex (cnt W) t.val) := by
      rw [W3_v27]; exact wrap_word _ t (by omega) hx
    have hw34 : W3 (W2 W) (Proc.devRef .tc main_v34) (ix2 t (0 : Fin 1)) = BitVec.ofNat 32 (Tiles.ex (cnt W) t.val) := by
      rw [W3_v34]; exact wrap_word _ t (by omega) hx
    have h28 : W3 (W2 W) (Proc.devRef .tc main_v28) (ix1 t) = BitVec.ofNat 32 (cnt W (Tiles.ex (cnt W) t.val)) := by
      rw [W3_v28]
      refine (Routing.gather_take1 (N := 8) (n := 72) gather_S8_S72x1_S72_n_0_n_n_0_1_1 rfl rfl rfl rfl _ _ t ⟨Tiles.ex (cnt W) t.val, by omega⟩ hw27 (by omega)).trans ?_
      rw [W2_arg]
      exact arg_word W ⟨Tiles.ex (cnt W) t.val, by omega⟩
    have h35 : W3 (W2 W) (Proc.devRef .tc main_v35) (ix1 t) = BitVec.ofNat 32 (Tiles.starts (cnt W) (Tiles.ex (cnt W) t.val)) := by
      rw [W3_v35]
      refine (Routing.gather_take1 (N := 8) (n := 72) gather_S8_S72x1_S72_n_0_n_n_0_1_1 rfl rfl rfl rfl _ _ t ⟨Tiles.ex (cnt W) t.val, by omega⟩ hw34 (by omega)).trans ?_
      refine (W3_v6 (W2 W) ⟨Tiles.ex (cnt W) t.val, by omega⟩).trans ?_
      rw [ends_word W hW, tiles_word W hW]
      exact Routing.ofNat32_sub (by rw [Tiles.ends_eq]; exact Nat.le_add_left _ _)
    have h12 : W3 (W2 W) (Proc.devRef .tc main_v12) (ix1 t) = BitVec.ofNat 32 t.val := by
      rw [W3_v12, h7, last_tile hW t.val t.isLt, if_pos (by omega), min_eq_left (by omega)]
    have h41 : W3 (W2 W) (Proc.devRef .tc main_v41) (ix1 t) = BitVec.ofNat 32 (min (cnt W (Tiles.ex (cnt W) t.val) - (t.val - Tiles.starts (cnt W) (Tiles.ex (cnt W) t.val)) * 256) 256) := by
      rw [W3_v41]
      refine (rest_at _ _ _ t).trans ?_
      rw [show W3 (W2 W) (Proc.devRef .tc main_v28) (ix1 t) = _ from h28, show W3 (W2 W) (Proc.devRef .tc main_v12) (ix1 t) = _ from h12,
        show W3 (W2 W) (Proc.devRef .tc main_v35) (ix1 t) = _ from h35]
      exact Cert.KernelIdeal.Experts.rest_word (hW _) hstart hin t.isLt
    rw [h41]
    rfl
  · rw [if_neg h, decide_eq_false h]
    rfl

theorem fl_word (t : Fin 72) (hne : W5 (W3 (W2 W)) (Proc.devRef .tc main_v50) (ix1 t) ≠ 1#32) (hl : t.val < Tiles.ends (cnt W) 7) :
    0 < t.val ∧ Tiles.ex (cnt W) (t.val - 1) = Tiles.ex (cnt W) t.val := by
  have hb := ends_bound hW 7 (by omega)
  have h7 : W2 W (Proc.devRef .tc main_v5) (ix1 7) = BitVec.ofNat 32 (Tiles.ends (cnt W) 7) := ends_word W hW 7
  have hc : IntOp.cmpi .slt (BitVec.ofNat 32 t.val) (BitVec.ofNat 32 (Tiles.ends (cnt W) 7)) = 1#1 := by
    unfold IntOp.cmpi
    simp only [Routing.slt_ofNat32 (show t.val < 2 ^ 31 by omega) (show Tiles.ends (cnt W) 7 < 2 ^ 31 by omega)]
    rw [decide_eq_true hl]; rfl
  have hex := Tiles.ex_le (cnt W) t.val
  rw [W5_v50, W3_v9, W3_v8, h7, hc, ex_word hW t] at hne
  have key : ∀ p : BitVec 32, BitVec.setWidth 32 (IntOp.andi (IntOp.cmpi .ne (BitVec.ofNat 32 (Tiles.ex (cnt W) t.val)) p) 1#1) ≠ 1#32 → BitVec.ofNat 32 (Tiles.ex (cnt W) t.val) = p := by
    intro p hp
    by_contra hcon
    apply hp
    have : IntOp.cmpi .ne (BitVec.ofNat 32 (Tiles.ex (cnt W) t.val)) p = 1#1 := by
      unfold IntOp.cmpi
      show BitVec.ofBool _ = 1#1
      rw [bne_iff_ne.2 hcon]
      rfl
    rw [this]
    decide
  have h := key _ hne
  by_cases h0 : t.val < 1
  · rw [dif_pos h0] at h
    exfalso
    have := congrArg BitVec.toNat h
    simp only [BitVec.toNat_ofNat] at this
    omega
  · rw [dif_neg h0, ex_word hW] at h
    have hex' := Tiles.ex_le (cnt W) (t.val - 1)
    have := congrArg BitVec.toNat h
    simp only [BitVec.toNat_ofNat] at this
    exact ⟨by omega, by omega⟩

end Cert.Kernel2Ideal.Down

end
-- ==== Proof.DownGood.lean ====
module

public import proofs.«01_k».proof.Proof.DownTables

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.Rounds Idealize.SL.Sem

variable {F : FTy → Type} [FloatOps F]

/-- The tables hold the tiles' experts, rows and openings. -/
structure Holds (tb : pre0.Contents (Elt F)) (n : ℕ → ℕ) : Prop where
  bound : ∀ i, n i ≤ 16384
  ex : ∀ t : Fin 72, exT tb (ix1 t) = BitVec.ofNat 32 (Tiles.ex n t.val)
  nr : ∀ t : Fin 72, nrT tb (ix1 t) = BitVec.ofNat 32 (Tiles.nr n t.val)
  fl : ∀ t : Fin 72, flT tb (ix1 t) ≠ 1#32 → t.val < Tiles.ends n 7 → 0 < t.val ∧ Tiles.ex n (t.val - 1) = Tiles.ex n t.val

theorem word_at (tab : Vec F S72 .i32) (i : grid0.Coords) : word tab i = tab (ix1 (⟨(i 1).val, (i 1).isLt⟩ : Fin 72)) := by
  unfold word
  congr 1
  funext a
  match a with
  | ⟨0, _⟩ => rfl

theorem cond2_iff {k : ℕ} (hk : k ≤ 256) : k0_cond2 (BitVec.ofNat 32 k) = 1#1 ↔ 0 < k := by
  unfold k0_cond2
  interval_cases k <;> decide

theorem cond3_iff {k : ℕ} (hk : k ≤ 256) : k0_cond3 (BitVec.ofNat 32 k) = 1#1 ↔ ¬ 0 < k := by
  unfold k0_cond3
  interval_cases k <;> decide

variable {tb : pre0.Contents (Elt F)} {n : ℕ → ℕ} (h : Holds tb n)

include h

theorem Holds.word_ex (i : grid0.Coords) : word (exT tb) i = BitVec.ofNat 32 (Tiles.ex n (i 1).val) := by
  rw [word_at]
  exact h.ex ⟨(i 1).val, (i 1).isLt⟩

theorem Holds.word_nr (i : grid0.Coords) : word (nrT tb) i = BitVec.ofNat 32 (Tiles.nr n (i 1).val) := by
  rw [word_at]
  exact h.nr ⟨(i 1).val, (i 1).isLt⟩

theorem Holds.good : Good tb where
  ok := by
    have key : ∀ i : grid0.Coords, ∀ a : Fin 3, (![(word (exT tb) i).toNat, 0, (BitVec.ofNat 32 (i 0).val).toNat] a + 1) * S1x7168x512.size a ≤ S8x7168x4096.size a := by
      intro i a
      have he := Tiles.ex_le n (i 1).val
      have h0 : (i 0).val < 8 := (i 0).isLt
      rw [h.word_ex i]
      match a with
      | ⟨0, _⟩ => show ((BitVec.ofNat 32 (Tiles.ex n (i 1).val)).toNat + 1) * 1 ≤ 8; rw [BitVec.toNat_ofNat]; omega
      | ⟨1, _⟩ => show (0 + 1) * 7168 ≤ 7168; omega
      | ⟨2, _⟩ => show ((BitVec.ofNat 32 (i 0).val).toNat + 1) * 512 ≤ 4096; rw [BitVec.toNat_ofNat]; omega
    exact fun i => ⟨fun a => by rw [at_word tb i]; exact key i a, .inl rfl⟩
  nr i := by
    rw [h.word_nr i, cond2_iff (Tiles.nr_le n _), cond3_iff (Tiles.nr_le n _)]
  carry i hl hf := by
    rw [h.word_nr i, cond2_iff (Tiles.nr_le n _), Tiles.nr_pos_iff] at hl
    rw [word_at] at hf
    obtain ⟨h0, he⟩ := h.fl ⟨(i 1).val, (i 1).isLt⟩ hf hl
    refine ⟨h0, fun i' _ h1 => ?_⟩
    have e : (i' 1).val = (i 1).val - 1 := by omega
    rw [h.word_nr i', cond2_iff (Tiles.nr_le n _), Tiles.nr_pos_iff, h.word_ex i', h.word_ex i, e]
    exact ⟨by omega, by rw [show Tiles.ex n ((i 1).val - 1) = _ from he]⟩

omit h

/-- The tables that the host's operations leave. -/
def tables (m : (ℓ : Loc nD τ sig) → Buf (Elt F) ℓ) (c : Dev nD) : pre0.Contents (Elt F) := fun k => Vm m c (pre0.ref k)

variable (m : (ℓ : Loc nD τ sig) → Buf (Elt F) ℓ) (c : Dev nD)

theorem Vm_eq (b : Ref sig .tc) : Vm m c b = W5 (W3 (W2 (fun b => m (c, b)))) (Proc.devRef .tc b) := by
  unfold Vm W5 W3 W2 hostAll
  rw [← StableHlo.after_append, ← StableHlo.after_append]
  rfl

theorem tables_ex (t : Fin 72) : exT (tables m c) (ix1 t) = W5 (W3 (W2 (fun b => m (c, b)))) (Proc.devRef .tc main_v19) (ix1 t) :=
  congrFun (Vm_eq m c main_v19) (ix1 t)

theorem tables_nr (t : Fin 72) : nrT (tables m c) (ix1 t) = W5 (W3 (W2 (fun b => m (c, b)))) (Proc.devRef .tc main_v42) (ix1 t) :=
  congrFun (Vm_eq m c main_v42) (ix1 t)

theorem tables_fl (t : Fin 72) : flT (tables m c) (ix1 t) = W5 (W3 (W2 (fun b => m (c, b)))) (Proc.devRef .tc main_v50) (ix1 t) :=
  congrFun (Vm_eq m c main_v50) (ix1 t)

theorem tables_hold (hm : ∀ i, cnt (fun b => m (c, b)) i ≤ 16384) : Holds (tables m c) (cnt fun b => m (c, b)) :=
  ⟨hm, fun t => (tables_ex m c t).trans ((congrFun (W5_v19 _) (ix1 t)).trans (ex_word hm t)), fun t => (tables_nr m c t).trans (nr_word hm t),
    fun t hne => fl_word hm t fun h => hne ((tables_fl m c t).trans h)⟩

theorem Vm_arg0 : Vm m c main_arg0 = m (c, Proc.devRef .tc main_arg0) := by
  unfold Vm hostAll
  simp only [List.flatten_cons, List.flatten_nil, List.append_nil]
  after_reads_simp

theorem Vm_arg1 : Vm m c main_arg1 = m (c, Proc.devRef .tc main_arg1) := by
  unfold Vm hostAll
  simp only [List.flatten_cons, List.flatten_nil, List.append_nil]
  after_reads_simp

theorem Vm_arg2 : Vm m c main_arg2 = m (c, Proc.devRef .tc main_arg2) := by
  unfold Vm hostAll
  simp only [List.flatten_cons, List.flatten_nil, List.append_nil]
  after_reads_simp

end Cert.Kernel2Ideal.Down

end
-- ==== Proof.DownFrame.lean ====
module

public import proofs.«01_k».proof.Defs
public import proofs.«01_k».proof.Proof.DownGood
public import proofs.«01_k».proof.Proof.Frame
public import proofs.«01_k».proof.Proof.Gen.Kernel2.Launch
public import Idealize.ShloMosaic.Lib.Pipeline.Kit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.Rounds Idealize.SL.Sem

variable {F : FTy → Type} [FloatOps F]
variable (m : (ℓ : Loc nD τ sig) → Buf (Elt F) ℓ) (ρ : Dev nD → PrngReg)

/-- The call's output array at the end. -/
def outArr (hm : ∀ c : Dev nD, ∀ i, cnt (fun b => m (c, b)) i ≤ 16384) (c : Dev nD) :=
  (dats (tables m 0) (tables_hold m 0 (hm 0)).good (Vm m) 0 c).arrAt 2 (cfgT (tables m 0) (tables_hold m 0 (hm 0)).good).N

theorem tables_any (c : Dev nD) : tables m c = tables m 0 := by
  rw [Subsingleton.elim c 0]

/-- Every run ends with the output array as stated, the arguments as they were and every counter at zero. -/
theorem run_args (hm : ∀ c : Dev nD, ∀ i, cnt (fun b => m (c, b)) i ≤ 16384) :
    θ_run defs (onTc (τ := τ) (main (F := F))) ⟨m, fun _ => 0, ρ⟩ (fun r => (∀ c : Dev nD,
      r.2.mem ((c.tc : Thread nD τ).loc main_v53) = outArr m hm c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have hg := (tables_hold m 0 (hm 0)).good
  refine (θ_run defs _ _).mono (fun r h => ⟨fun c => ?_, h.2⟩) (run_main (tables m 0) hg m ρ (fun c k => congrFun (tables_any m c) k))
  have h1 := (h.1 c).1
  have h2 := (h.1 c).2
  refine ⟨h1 2, ?_, ?_, ?_⟩
  · exact (h1 0).trans (((dats (tables m 0) hg (Vm m) 0 c).arrAt_in 0 rfl _).trans ((A_eq (tables m 0) hg (Vm m) c 0).trans (Vm_arg0 m c)))
  · exact (h2 main_arg1 (show main_arg1 ∈ Pipeline.restRefs sig spec0 from by decide)).trans (Vm_arg1 m c)
  · exact (h1 1).trans (((dats (tables m 0) hg (Vm m) 0 c).arrAt_in 1 rfl _).trans ((A_eq (tables m 0) hg (Vm m) c 1).trans (Vm_arg2 m c)))

theorem cnt_le [Cert.Pre_counts_in_range2.Facts] (c : Dev nD) (h : Cert.Pre_counts_in_range2.fn (F := F) (m ((c.tc : Thread nD τ).loc main_arg0)) (m ((c.tc : Thread nD τ).loc main_arg1)) (m ((c.tc : Thread nD τ).loc main_arg2)) = (fun _ => 1#1)) (i : ℕ) :
    cnt (fun b => m (c, b)) i ≤ 16384 := by
  unfold cnt
  split
  · rename_i hi
    have h0 := congrFun h (ix1 (⟨i, hi⟩ : Fin 8))
    exact Cert.KernelIdeal.Experts.count_le h0
  · omega

end Cert.Kernel2Ideal.Down

end
-- ==== Proof.DownPay.lean ====
module

public import proofs.«01_k».proof.Proof.DownFrame
public import proofs.«01_k».proof.Proof.Spec
public import Idealize.ShloMosaic.Lib.Pointwise
public import Idealize.ShloMosaic.Lib.Pipeline.ValueKit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic

theorem pay1_at (x : Vec Ideal S1x7168x512 .f32) (d : Fin 7168) (q : Fin 512) :
    k0_pay1 (F := Ideal) x (ix2 d q) = x (ix3 (0 : Fin 1) d q) := by
  unfold k0_pay1
  pointwise

theorem pay2_at (x : Vec Ideal S256x7168 .bf16) (w : Vec Ideal S7168x512 .bf16) (r : Fin 256) (q : Fin 512) :
    k0_pay2 (F := Ideal) x w (ix2 r q) = Spec.dot (fun d => x (ix2 r d)) (fun d => w (ix2 d q)) := by
  unfold k0_pay2
  pointwise
  rfl

theorem pay3_at (r : Fin 256) (q : Fin 512) : k0_pay3 (F := Ideal) (ix2 r q) = 0 := by
  unfold k0_pay3
  pointwise

end Cert.Kernel2Ideal.Down

end
-- ==== Proof.DownVal.lean ====
module

public import proofs.«01_k».proof.Proof.DownPay
public import Idealize.ShloMosaic.Lib.Pipeline.ValueKit
public import Idealize.ShloMosaic.Lib.Pipeline.Covers

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.Rounds Idealize.SL.Sem

variable {tb : pre0.Contents (Elt Ideal)} {n : ℕ → ℕ} (h : Holds tb n)
variable (V : (c : Dev nD) → (b : Ref sig .tc) → Buf (Elt Ideal) ((c.tc : Thread nD τ).loc b))

theorem small {k : ℕ} (hk : k < 256) : (BitVec.ofNat 32 k).toNat = k := by
  rw [BitVec.toNat_ofNat]; omega

theorem idx0 (t : Fin (cfgT tb h.good).N) : ((cfgT tb h.good).win 0).index t = ![t.val % 72, 0] := by
  have hc := coords_val t
  show cc0_transform_0 (grid0.coords t) = _
  unfold cc0_transform_0
  show ![(BitVec.ofNat 32 (grid0.coords t 1).val).toNat, 0] = _
  rw [hc.2, small (k := t.val % 72) (by omega)]

theorem idx2 (t : Fin (cfgT tb h.good).N) : ((cfgT tb h.good).win 2).index t = ![t.val % 72, t.val / 72 % 8] := by
  have hc := coords_val t
  show cc0_transform_2 (grid0.coords t) = _
  unfold cc0_transform_2
  show ![(BitVec.ofNat 32 (grid0.coords t 1).val).toNat, (BitVec.ofNat 32 (grid0.coords t 0).val).toNat] = _
  rw [hc.1, hc.2, small (k := t.val % 72) (by omega), small (k := t.val / 72 % 8) (by omega)]

theorem idx1 (t : Fin (cfgT tb h.good).N) : ((cfgT tb h.good).win 1).index t = ![Tiles.ex n (t.val % 72), 0, t.val / 72 % 8] := by
  have hc := coords_val t
  have he := Tiles.ex_le n (t.val % 72)
  show cc0_transform_1 k0_off1_inb numel1_S1 tb (grid0.coords t) = _
  rw [at_word tb _, h.word_ex, hc.1, hc.2, small (k := Tiles.ex n (t.val % 72)) (by omega), small (k := t.val / 72 % 8) (by omega)]

theorem covers2 : ((cfgT tb h.good).win 2).Covers := by
  refine ((cfgT tb h.good).win 2).covers_of_indexMap_surj rfl (show ∀ a : Fin 2, 0 < S256x512.size a from by decide) fun β => ?_
  have l0 : (β (0 : Fin 2)).val < 72 := lt_of_lt_of_eq (β (0 : Fin 2)).isLt (show (S18432x4096.size (0 : Fin 2) + S256x512.size (0 : Fin 2) - 1) / S256x512.size (0 : Fin 2) = 72 from by decide)
  have l1 : (β (1 : Fin 2)).val < 8 := lt_of_lt_of_eq (β (1 : Fin 2)).isLt (show (S18432x4096.size (1 : Fin 2) + S256x512.size (1 : Fin 2) - 1) / S256x512.size (1 : Fin 2) = 8 from by decide)
  refine ⟨fun a => match a with | ⟨0, _⟩ => ⟨(β (1 : Fin 2)).val, l1⟩ | ⟨1, _⟩ => ⟨(β (0 : Fin 2)).val, l0⟩, fun a => ?_⟩
  match a with
  | ⟨0, _⟩ => exact small (k := (β (0 : Fin 2)).val) (by omega)
  | ⟨1, _⟩ => exact small (k := (β (1 : Fin 2)).val) (by omega)

theorem blk0 (c : Dev nD) (t : Fin (cfgT tb h.good).N) (i : Fin 256) (b : Fin 7168) :
    (iblk tb h.good V c 0 t : Vec Ideal S256x7168 .bf16) (ix2 i b) = V c main_arg0 (ix2 (⟨t.val % 72 * 256 + i.val, by omega⟩ : Fin 18432) b : S18432x7168.Idx) := by
  blk_ext [iblk, idx0 h t]

theorem blk1 (c : Dev nD) (t : Fin (cfgT tb h.good).N) (d : Fin 7168) (q : Fin 512) :
    (iblk tb h.good V c 1 t : Vec Ideal S1x7168x512 .f32) (ix3 (0 : Fin 1) d q) = V c main_arg2 (ix3 (⟨Tiles.ex n (t.val % 72), by have := Tiles.ex_le n (t.val % 72); omega⟩ : Fin 8) d (⟨t.val / 72 % 8 * 512 + q.val, by omega⟩ : Fin 4096) : S8x7168x4096.Idx) := by
  blk_ext [iblk, idx1 h t]

/-- What point `t` leaves in the output block. -/
theorem outAt_at (c : Dev nD) (t : Fin (cfgT tb h.good).N) (i : Fin 256) (e : Fin 512) :
    outAt tb h.good V c t (ix2 i e : S256x512.Idx)
      = Spec.down n (fun r b => V c main_arg0 (ix2 r b : S18432x7168.Idx)) (fun e d q => V c main_arg2 (ix3 e d q : S8x7168x4096.Idx))
          ⟨t.val % 72 * 256 + i.val, by omega⟩ ⟨t.val / 72 % 8 * 512 + e.val, by omega⟩ := by
  have hc := coords_val t
  have hle := Tiles.nr_le n (t.val % 72)
  have e2 : (t.val % 72 * 256 + i.val) / 256 = t.val % 72 := by omega
  unfold outAt outBlk Spec.down
  rw [h.word_nr, hc.2]
  simp only [e2]
  by_cases hp : 0 < Tiles.nr n (t.val % 72)
  · rw [if_pos ((cond2_iff hle).2 hp), if_pos hp]
    refine (pay2_at (iblk tb h.good V c 0 t) (wd tb h.good V c t) i e).trans ?_
    have b0 : (fun b : Fin 7168 => (iblk tb h.good V c 0 t : Vec Ideal S256x7168 .bf16) (ix2 i b)) = _ := funext fun b => blk0 h V c t i b
    have b1 : (fun d : Fin 7168 => wd tb h.good V c t (ix2 d e)) = _ := funext fun d => (pay1_at (iblk tb h.good V c 1 t) d e).trans (blk1 h V c t d e)
    exact congr (congrArg Spec.dot b0) b1
  · rw [if_neg (fun hh => hp ((cond2_iff hle).1 hh)), pay3_at, if_neg hp]

/-- The call's output array, entry by entry. -/
theorem final (c : Dev nD) (G : FVec Ideal S18432x4096 .f32)
    (hG : ∀ (r : Fin 18432) (q : Fin 4096), G (ix2 r q : S18432x4096.Idx) = Spec.down n (fun r b => V c main_arg0 (ix2 r b : S18432x7168.Idx))
          (fun e d q => V c main_arg2 (ix3 e d q : S8x7168x4096.Idx)) r q) :
    (dats tb h.good V 0 c).arrAt 2 (cfgT tb h.good).N = G := by
  refine (dats tb h.good V 0 c).arrAt_eq_of_covers 2 _ (covers2 h) fun t _ y => ?_
  blk_simp
  rw [after0_2]
  have ey : y = (ix2 (⟨(y (0 : Fin 2)).val, (y (0 : Fin 2)).isLt⟩ : Fin 256) (⟨(y (1 : Fin 2)).val, (y (1 : Fin 2)).isLt⟩ : Fin 512) : S256x512.Idx) := by
    funext a
    match a with
    | ⟨0, _⟩ => rfl
    | ⟨1, _⟩ => rfl
  refine (congrArg (outAt tb h.good V c t) ey).trans ((outAt_at h V c t _ _).trans ((hG _ _).symm.trans ?_))
  blk_ext [idx2 h t]

end Cert.Kernel2Ideal.Down

end
-- ==== Proof.DownOps.lean ====
module

public import proofs.«01_k».proof.Defs
public import proofs.«01_k».proof.Proof.Gen.Reference2Ideal
public import Idealize.ShloMosaic.Lib.Claim
public import Idealize.ShloMosaic.Lib.Quiescent
public import Idealize.ShloMosaic.Lib.StableHlo.RunHlo
public import Idealize.ShloMosaic.Lib.StableHlo.ReadAt

@[expose] public section

set_option maxRecDepth 16384

noncomputable section

namespace Cert.Reference2Ideal.Down

open Cert.Reference2Ideal Cert.Reference2Ideal.Gen
open Idealize.ShloMosaic Idealize.ShloMosaic.TcCoe Idealize.SL.Sem Idealize.ShloMosaic.StableHlo

variable {F : FTy → Type} [FloatOps F]

/-- The rows as floats, and where each expert's tiles end. -/
abbrev headOps : List (HloOp τ sig (Elt F)) :=
  [ StableHlo.unary main_arg0 main_v0 ((extf .f32 · bitsLt_bf16_f32) : (⟨S18432x7168, .bf16⟩ : BufTy).Contents (Elt F) → (⟨S18432x7168, .f32⟩ : BufTy).Contents (Elt F)),
    StableHlo.nullary main_c (constantI S_ 32 255#32),
    StableHlo.unary main_c main_v1 (broadcastInDim S8 ![] bcast_S_S8 : (⟨S_, .i32⟩ : BufTy).Contents (Elt F) → (⟨S8, .i32⟩ : BufTy).Contents (Elt F)),
    StableHlo.binary main_arg1 main_v1 main_v2 (addi : (⟨S8, .i32⟩ : BufTy).Contents (Elt F) → (⟨S8, .i32⟩ : BufTy).Contents (Elt F) → (⟨S8, .i32⟩ : BufTy).Contents (Elt F)),
    StableHlo.nullary main_c_0 (constantI S_ 32 256#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8, .i32⟩) (broadcastInDim S8 ![] bcast_S_S8),
    StableHlo.TRef.binary (.of main_v2 : StableHlo.TRef sig ⟨S8, .i32⟩) (.of main_call0_v1 : StableHlo.TRef sig ⟨S8, .i32⟩) (.of main_call0_v2 : StableHlo.TRef sig ⟨S8, .i32⟩) Host.divsi,
    StableHlo.TRef.unary (.of main_v2 : StableHlo.TRef sig ⟨S8, .i32⟩) (.of main_call0_v3 : StableHlo.TRef sig ⟨S8, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8, .i32⟩) (broadcastInDim S8 ![] bcast_S_S8),
    StableHlo.TRef.binary (.of main_call0_v3 : StableHlo.TRef sig ⟨S8, .i32⟩) (.of main_call0_v5 : StableHlo.TRef sig ⟨S8, .i32⟩) (.of main_call0_v6 : StableHlo.TRef sig ⟨S8, .i1⟩) (cmpi .ne),
    StableHlo.TRef.unary (.of main_call0_v0 : StableHlo.TRef sig ⟨S_, .i32⟩) (.of main_call0_v7 : StableHlo.TRef sig ⟨S8, .i32⟩) (broadcastInDim S8 ![] bcast_S_S8),
    StableHlo.TRef.binary (.of main_v2 : StableHlo.TRef sig ⟨S8, .i32⟩) (.of main_call0_v7 : StableHlo.TRef sig ⟨S8, .i32⟩) (.of main_call0_v8 : StableHlo.TRef sig ⟨S8, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8, .i32⟩) (broadcastInDim S8 ![] bcast_S_S8),
    StableHlo.TRef.binary (.of main_call0_v8 : StableHlo.TRef sig ⟨S8, .i32⟩) (.of main_call0_v9 : StableHlo.TRef sig ⟨S8, .i32⟩) (.of main_call0_v10 : StableHlo.TRef sig ⟨S8, .i1⟩) (cmpi .ne),
    StableHlo.TRef.binary (.of main_call0_v6 : StableHlo.TRef sig ⟨S8, .i1⟩) (.of main_call0_v10 : StableHlo.TRef sig ⟨S8, .i1⟩) (.of main_call0_v11 : StableHlo.TRef sig ⟨S8, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8, .i32⟩) (broadcastInDim S8 ![] bcast_S_S8),
    StableHlo.TRef.binary (.of main_call0_v2 : StableHlo.TRef sig ⟨S8, .i32⟩) (.of main_call0_v12 : StableHlo.TRef sig ⟨S8, .i32⟩) (.of main_call0_v13 : StableHlo.TRef sig ⟨S8, .i32⟩) subi,
    StableHlo.TRef.ternary (.of main_call0_v11 : StableHlo.TRef sig ⟨S8, .i1⟩) (.of main_call0_v13 : StableHlo.TRef sig ⟨S8, .i32⟩) (.of main_call0_v2 : StableHlo.TRef sig ⟨S8, .i32⟩) (.of main_v3 : StableHlo.TRef sig ⟨S8, .i32⟩) select,
    StableHlo.nullary main_c_1 (constantI S_ 32 256#32),
    StableHlo.unary main_c_1 main_v4 (broadcastInDim S8 ![] bcast_S_S8 : (⟨S_, .i32⟩ : BufTy).Contents (Elt F) → (⟨S8, .i32⟩ : BufTy).Contents (Elt F)),
    StableHlo.binary main_v3 main_v4 main_v5 (muli : (⟨S8, .i32⟩ : BufTy).Contents (Elt F) → (⟨S8, .i32⟩ : BufTy).Contents (Elt F) → (⟨S8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v5 : StableHlo.TRef sig ⟨S8, .i32⟩) (.of main_call1_call0_v0 : StableHlo.TRef sig ⟨S_, .i32⟩) (.of main_v6 : StableHlo.TRef sig ⟨S8, .i32⟩) (fun x v => Host.reduceWindow IntOp.addi ![8] ![1] ![7] ![0] x v reduceWindows_S8_S8_w8s1p7_0 h_S_),
    StableHlo.nullary main_v7 (iotaInDim S18432 32 0),
    StableHlo.nullary main_cst (constant S_ .f32 0x00000000#32),
    StableHlo.unary main_cst main_v8 (broadcastInDim S18432x4096 ![] bcast_S_S18432x4096 : (⟨S_, .f32⟩ : BufTy).Contents (Elt F) → (⟨S18432x4096, .f32⟩ : BufTy).Contents (Elt F)) ]

/-- Expert 0's product, added where the row lies in the expert's tiles. -/
abbrev exp0 : List (HloOp τ sig (Elt F)) :=
  [ StableHlo.unary main_v6 main_v9 ((extractStridedSlice S1 ![0] · slices_S8_S1_0) : (⟨S8, .i32⟩ : BufTy).Contents (Elt F) → (⟨S1, .i32⟩ : BufTy).Contents (Elt F)),
    StableHlo.reshape main_v9 main_v10 (rfl : (.i32 : EltTy) = .i32) shapeCasts_S1_S_,
    StableHlo.unary main_v5 main_v11 ((extractStridedSlice S1 ![0] · slices_S8_S1_0) : (⟨S8, .i32⟩ : BufTy).Contents (Elt F) → (⟨S1, .i32⟩ : BufTy).Contents (Elt F)),
    StableHlo.reshape main_v11 main_v12 (rfl : (.i32 : EltTy) = .i32) shapeCasts_S1_S_,
    StableHlo.binary main_v10 main_v12 main_v13 (subi : (⟨S_, .i32⟩ : BufTy).Contents (Elt F) → (⟨S_, .i32⟩ : BufTy).Contents (Elt F) → (⟨S_, .i32⟩ : BufTy).Contents (Elt F)),
    StableHlo.unary main_v13 main_v14 (broadcastInDim S18432 ![] bcast_S_S18432 : (⟨S_, .i32⟩ : BufTy).Contents (Elt F) → (⟨S18432, .i32⟩ : BufTy).Contents (Elt F)),
    StableHlo.binary main_v14 main_v7 main_v15 (cmpi .sle : (⟨S18432, .i32⟩ : BufTy).Contents (Elt F) → (⟨S18432, .i32⟩ : BufTy).Contents (Elt F) → (⟨S18432, .i1⟩ : BufTy).Contents (Elt F)),
    StableHlo.unary main_v6 main_v16 ((extractStridedSlice S1 ![0] · slices_S8_S1_0) : (⟨S8, .i32⟩ : BufTy).Contents (Elt F) → (⟨S1, .i32⟩ : BufTy).Contents (Elt F)),
    StableHlo.reshape main_v16 main_v17 (rfl : (.i32 : EltTy) = .i32) shapeCasts_S1_S_,
    StableHlo.unary main_v17 main_v18 (broadcastInDim S18432 ![] bcast_S_S18432 : (⟨S_, .i32⟩ : BufTy).Contents (Elt F) → (⟨S18432, .i32⟩ : BufTy).Contents (Elt F)),
    StableHlo.binary main_v7 main_v18 main_v19 (cmpi .slt : (⟨S18432, .i32⟩ : BufTy).Contents (Elt F) → (⟨S18432, .i32⟩ : BufTy).Contents (Elt F) → (⟨S18432, .i1⟩ : BufTy).Contents (Elt F)),
    StableHlo.binary main_v15 main_v19 main_v20 (andi : (⟨S18432, .i1⟩ : BufTy).Contents (Elt F) → (⟨S18432, .i1⟩ : BufTy).Contents (Elt F) → (⟨S18432, .i1⟩ : BufTy).Contents (Elt F)),
    StableHlo.unary main_v20 main_v21 (uitofp .f32 : (⟨S18432, .i1⟩ : BufTy).Contents (Elt F) → (⟨S18432, .f32⟩ : BufTy).Contents (Elt F)),
    StableHlo.unary main_v21 main_v22 (broadcastInDim S18432x1 ![0] bcast_S18432_S18432x1_0 : (⟨S18432, .f32⟩ : BufTy).Contents (Elt F) → (⟨S18432x1, .f32⟩ : BufTy).Contents (Elt F)),
    StableHlo.unary main_arg2 main_v23 ((extractStridedSlice S1x7168x4096 ![0, 0, 0] · slices_S8x7168x4096_S1x7168x4096_0_0_0) : (⟨S8x7168x4096, .f32⟩ : BufTy).Contents (Elt F) → (⟨S1x7168x4096, .f32⟩ : BufTy).Contents (Elt F)),
    StableHlo.reshape main_v23 main_v24 (rfl : (.f32 : EltTy) = .f32) shapeCasts_S1x7168x4096_S7168x4096,
    StableHlo.binary main_v0 main_v24 main_v25 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v22 main_v26 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v26 main_v25 main_v27 (mulf : (⟨S18432x4096, .f32⟩ : BufTy).Contents (Elt F) → (⟨S18432x4096, .f32⟩ : BufTy).Contents (Elt F) → (⟨S18432x4096, .f32⟩ : BufTy).Contents (Elt F)),
    StableHlo.binary main_v8 main_v27 main_v28 (addf : (⟨S18432x4096, .f32⟩ : BufTy).Contents (Elt F) → (⟨S18432x4096, .f32⟩ : BufTy).Contents (Elt F) → (⟨S18432x4096, .f32⟩ : BufTy).Contents (Elt F)) ]

/-- Expert 1's product, added where the row lies in the expert's tiles. -/
abbrev exp1 : List (HloOp τ sig (Elt F)) :=
  [ StableHlo.unary main_v6 main_v29 ((extractStridedSlice S1 ![1] · slices_S8_S1_1) : (⟨S8, .i32⟩ : BufTy).Contents (Elt F) → (⟨S1, .i32⟩ : BufTy).Contents (Elt F)),
    StableHlo.reshape main_v29 main_v30 (rfl : (.i32 : EltTy) = .i32) shapeCasts_S1_S_,
    StableHlo.unary main_v5 main_v31 ((extractStridedSlice S1 ![1] · slices_S8_S1_1) : (⟨S8, .i32⟩ : BufTy).Contents (Elt F) → (⟨S1, .i32⟩ : BufTy).Contents (Elt F)),
    StableHlo.reshape main_v31 main_v32 (rfl : (.i32 : EltTy) = .i32) shapeCasts_S1_S_,
    StableHlo.binary main_v30 main_v32 main_v33 (subi : (⟨S_, .i32⟩ : BufTy).Contents (Elt F) → (⟨S_, .i32⟩ : BufTy).Contents (Elt F) → (⟨S_, .i32⟩ : BufTy).Contents (Elt F)),
    StableHlo.unary main_v33 main_v34 (broadcastInDim S18432 ![] bcast_S_S18432 : (⟨S_, .i32⟩ : BufTy).Contents (Elt F) → (⟨S18432, .i32⟩ : BufTy).Contents (Elt F)),
    StableHlo.binary main_v34 main_v7 main_v35 (cmpi .sle : (⟨S18432, .i32⟩ : BufTy).Contents (Elt F) → (⟨S18432, .i32⟩ : BufTy).Contents (Elt F) → (⟨S18432, .i1⟩ : BufTy).Contents (Elt F)),
    StableHlo.unary main_v6 main_v36 ((extractStridedSlice S1 ![1] · slices_S8_S1_1) : (⟨S8, .i32⟩ : BufTy).Contents (Elt F) → (⟨S1, .i32⟩ : BufTy).Contents (Elt F)),
    StableHlo.reshape main_v36 main_v37 (rfl : (.i32 : EltTy) = .i32) shapeCasts_S1_S_,
    StableHlo.unary main_v37 main_v38 (broadcastInDim S18432 ![] bcast_S_S18432 : (⟨S_, .i32⟩ : BufTy).Contents (Elt F) → (⟨S18432, .i32⟩ : BufTy).Contents (Elt F)),
    StableHlo.binary main_v7 main_v38 main_v39 (cmpi .slt : (⟨S18432, .i32⟩ : BufTy).Contents (Elt F) → (⟨S18432, .i32⟩ : BufTy).Contents (Elt F) → (⟨S18432, .i1⟩ : BufTy).Contents (Elt F)),
    StableHlo.binary main_v35 main_v39 main_v40 (andi : (⟨S18432, .i1⟩ : BufTy).Contents (Elt F) → (⟨S18432, .i1⟩ : BufTy).Contents (Elt F) → (⟨S18432, .i1⟩ : BufTy).Contents (Elt F)),
    StableHlo.unary main_v40 main_v41 (uitofp .f32 : (⟨S18432, .i1⟩ : BufTy).Contents (Elt F) → (⟨S18432, .f32⟩ : BufTy).Contents (Elt F)),
    StableHlo.unary main_v41 main_v42 (broadcastInDim S18432x1 ![0] bcast_S18432_S18432x1_0 : (⟨S18432, .f32⟩ : BufTy).Contents (Elt F) → (⟨S18432x1, .f32⟩ : BufTy).Contents (Elt F)),
    StableHlo.unary main_arg2 main_v43 ((extractStridedSlice S1x7168x4096 ![1, 0, 0] · slices_S8x7168x4096_S1x7168x4096_1_0_0) : (⟨S8x7168x4096, .f32⟩ : BufTy).Contents (Elt F) → (⟨S1x7168x4096, .f32⟩ : BufTy).Contents (Elt F)),
    StableHlo.reshape main_v43 main_v44 (rfl : (.f32 : EltTy) = .f32) shapeCasts_S1x7168x4096_S7168x4096,
    StableHlo.binary main_v0 main_v44 main_v45 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v42 main_v46 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v46 main_v45 main_v47 (mulf : (⟨S18432x4096, .f32⟩ : BufTy).Contents (Elt F) → (⟨S18432x4096, .f32⟩ : BufTy).Contents (Elt F) → (⟨S18432x4096, .f32⟩ : BufTy).Contents (Elt F)),
    StableHlo.binary main_v28 main_v47 main_v48 (addf : (⟨S18432x4096, .f32⟩ : BufTy).Contents (Elt F) → (⟨S18432x4096, .f32⟩ : BufTy).Contents (Elt F) → (⟨S18432x4096, .f32⟩ : BufTy).Contents (Elt F)) ]

/-- Expert 2's product, added where the row lies in the expert's tiles. -/
abbrev exp2 : List (HloOp τ sig (Elt F)) :=
  [ StableHlo.unary main_v6 main_v49 ((extractStridedSlice S1 ![2] · slices_S8_S1_2) : (⟨S8, .i32⟩ : BufTy).Contents (Elt F) → (⟨S1, .i32⟩ : BufTy).Contents (Elt F)),
    StableHlo.reshape main_v49 main_v50 (rfl : (.i32 : EltTy) = .i32) shapeCasts_S1_S_,
    StableHlo.unary main_v5 main_v51 ((extractStridedSlice S1 ![2] · slices_S8_S1_2) : (⟨S8, .i32⟩ : BufTy).Contents (Elt F) → (⟨S1, .i32⟩ : BufTy).Contents (Elt F)),
    StableHlo.reshape main_v51 main_v52 (rfl : (.i32 : EltTy) = .i32) shapeCasts_S1_S_,
    StableHlo.binary main_v50 main_v52 main_v53 (subi : (⟨S_, .i32⟩ : BufTy).Contents (Elt F) → (⟨S_, .i32⟩ : BufTy).Contents (Elt F) → (⟨S_, .i32⟩ : BufTy).Contents (Elt F)),
    StableHlo.unary main_v53 main_v54 (broadcastInDim S18432 ![] bcast_S_S18432 : (⟨S_, .i32⟩ : BufTy).Contents (Elt F) → (⟨S18432, .i32⟩ : BufTy).Contents (Elt F)),
    StableHlo.binary main_v54 main_v7 main_v55 (cmpi .sle : (⟨S18432, .i32⟩ : BufTy).Contents (Elt F) → (⟨S18432, .i32⟩ : BufTy).Contents (Elt F) → (⟨S18432, .i1⟩ : BufTy).Contents (Elt F)),
    StableHlo.unary main_v6 main_v56 ((extractStridedSlice S1 ![2] · slices_S8_S1_2) : (⟨S8, .i32⟩ : BufTy).Contents (Elt F) → (⟨S1, .i32⟩ : BufTy).Contents (Elt F)),
    StableHlo.reshape main_v56 main_v57 (rfl : (.i32 : EltTy) = .i32) shapeCasts_S1_S_,
    StableHlo.unary main_v57 main_v58 (broadcastInDim S18432 ![] bcast_S_S18432 : (⟨S_, .i32⟩ : BufTy).Contents (Elt F) → (⟨S18432, .i32⟩ : BufTy).Contents (Elt F)),
    StableHlo.binary main_v7 main_v58 main_v59 (cmpi .slt : (⟨S18432, .i32⟩ : BufTy).Contents (Elt F) → (⟨S18432, .i32⟩ : BufTy).Contents (Elt F) → (⟨S18432, .i1⟩ : BufTy).Contents (Elt F)),
    StableHlo.binary main_v55 main_v59 main_v60 (andi : (⟨S18432, .i1⟩ : BufTy).Contents (Elt F) → (⟨S18432, .i1⟩ : BufTy).Contents (Elt F) → (⟨S18432, .i1⟩ : BufTy).Contents (Elt F)),
    StableHlo.unary main_v60 main_v61 (uitofp .f32 : (⟨S18432, .i1⟩ : BufTy).Contents (Elt F) → (⟨S18432, .f32⟩ : BufTy).Contents (Elt F)),
    StableHlo.unary main_v61 main_v62 (broadcastInDim S18432x1 ![0] bcast_S18432_S18432x1_0 : (⟨S18432, .f32⟩ : BufTy).Contents (Elt F) → (⟨S18432x1, .f32⟩ : BufTy).Contents (Elt F)),
    StableHlo.unary main_arg2 main_v63 ((extractStridedSlice S1x7168x4096 ![2, 0, 0] · slices_S8x7168x4096_S1x7168x4096_2_0_0) : (⟨S8x7168x4096, .f32⟩ : BufTy).Contents (Elt F) → (⟨S1x7168x4096, .f32⟩ : BufTy).Contents (Elt F)),
    StableHlo.reshape main_v63 main_v64 (rfl : (.f32 : EltTy) = .f32) shapeCasts_S1x7168x4096_S7168x4096,
    StableHlo.binary main_v0 main_v64 main_v65 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v62 main_v66 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v66 main_v65 main_v67 (mulf : (⟨S18432x4096, .f32⟩ : BufTy).Contents (Elt F) → (⟨S18432x4096, .f32⟩ : BufTy).Contents (Elt F) → (⟨S18432x4096, .f32⟩ : BufTy).Contents (Elt F)),
    StableHlo.binary main_v48 main_v67 main_v68 (addf : (⟨S18432x4096, .f32⟩ : BufTy).Contents (Elt F) → (⟨S18432x4096, .f32⟩ : BufTy).Contents (Elt F) → (⟨S18432x4096, .f32⟩ : BufTy).Contents (Elt F)) ]

/-- Expert 3's product, added where the row lies in the expert's tiles. -/
abbrev exp3 : List (HloOp τ sig (Elt F)) :=
  [ StableHlo.unary main_v6 main_v69 ((extractStridedSlice S1 ![3] · slices_S8_S1_3) : (⟨S8, .i32⟩ : BufTy).Contents (Elt F) → (⟨S1, .i32⟩ : BufTy).Contents (Elt F)),
    StableHlo.reshape main_v69 main_v70 (rfl : (.i32 : EltTy) = .i32) shapeCasts_S1_S_,
    StableHlo.unary main_v5 main_v71 ((extractStridedSlice S1 ![3] · slices_S8_S1_3) : (⟨S8, .i32⟩ : BufTy).Contents (Elt F) → (⟨S1, .i32⟩ : BufTy).Contents (Elt F)),
    StableHlo.reshape main_v71 main_v72 (rfl : (.i32 : EltTy) = .i32) shapeCasts_S1_S_,
    StableHlo.binary main_v70 main_v72 main_v73 (subi : (⟨S_, .i32⟩ : BufTy).Contents (Elt F) → (⟨S_, .i32⟩ : BufTy).Contents (Elt F) → (⟨S_, .i32⟩ : BufTy).Contents (Elt F)),
    StableHlo.unary main_v73 main_v74 (broadcastInDim S18432 ![] bcast_S_S18432 : (⟨S_, .i32⟩ : BufTy).Contents (Elt F) → (⟨S18432, .i32⟩ : BufTy).Contents (Elt F)),
    StableHlo.binary main_v74 main_v7 main_v75 (cmpi .sle : (⟨S18432, .i32⟩ : BufTy).Contents (Elt F) → (⟨S18432, .i32⟩ : BufTy).Contents (Elt F) → (⟨S18432, .i1⟩ : BufTy).Contents (Elt F)),
    StableHlo.unary main_v6 main_v76 ((extractStridedSlice S1 ![3] · slices_S8_S1_3) : (⟨S8, .i32⟩ : BufTy).Contents (Elt F) → (⟨S1, .i32⟩ : BufTy).Contents (Elt F)),
    StableHlo.reshape main_v76 main_v77 (rfl : (.i32 : EltTy) = .i32) shapeCasts_S1_S_,
    StableHlo.unary main_v77 main_v78 (broadcastInDim S18432 ![] bcast_S_S18432 : (⟨S_, .i32⟩ : BufTy).Contents (Elt F) → (⟨S18432, .i32⟩ : BufTy).Contents (Elt F)),
    StableHlo.binary main_v7 main_v78 main_v79 (cmpi .slt : (⟨S18432, .i32⟩ : BufTy).Contents (Elt F) → (⟨S18432, .i32⟩ : BufTy).Contents (Elt F) → (⟨S18432, .i1⟩ : BufTy).Contents (Elt F)),
    StableHlo.binary main_v75 main_v79 main_v80 (andi : (⟨S18432, .i1⟩ : BufTy).Contents (Elt F) → (⟨S18432, .i1⟩ : BufTy).Contents (Elt F) → (⟨S18432, .i1⟩ : BufTy).Contents (Elt F)),
    StableHlo.unary main_v80 main_v81 (uitofp .f32 : (⟨S18432, .i1⟩ : BufTy).Contents (Elt F) → (⟨S18432, .f32⟩ : BufTy).Contents (Elt F)),
    StableHlo.unary main_v81 main_v82 (broadcastInDim S18432x1 ![0] bcast_S18432_S18432x1_0 : (⟨S18432, .f32⟩ : BufTy).Contents (Elt F) → (⟨S18432x1, .f32⟩ : BufTy).Contents (Elt F)),
    StableHlo.unary main_arg2 main_v83 ((extractStridedSlice S1x7168x4096 ![3, 0, 0] · slices_S8x7168x4096_S1x7168x4096_3_0_0) : (⟨S8x7168x4096, .f32⟩ : BufTy).Contents (Elt F) → (⟨S1x7168x4096, .f32⟩ : BufTy).Contents (Elt F)),
    StableHlo.reshape main_v83 main_v84 (rfl : (.f32 : EltTy) = .f32) shapeCasts_S1x7168x4096_S7168x4096,
    StableHlo.binary main_v0 main_v84 main_v85 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v82 main_v86 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v86 main_v85 main_v87 (mulf : (⟨S18432x4096, .f32⟩ : BufTy).Contents (Elt F) → (⟨S18432x4096, .f32⟩ : BufTy).Contents (Elt F) → (⟨S18432x4096, .f32⟩ : BufTy).Contents (Elt F)),
    StableHlo.binary main_v68 main_v87 main_v88 (addf : (⟨S18432x4096, .f32⟩ : BufTy).Contents (Elt F) → (⟨S18432x4096, .f32⟩ : BufTy).Contents (Elt F) → (⟨S18432x4096, .f32⟩ : BufTy).Contents (Elt F)) ]

/-- Expert 4's product, added where the row lies in the expert's tiles. -/
abbrev exp4 : List (HloOp τ sig (Elt F)) :=
  [ StableHlo.unary main_v6 main_v89 ((extractStridedSlice S1 ![4] · slices_S8_S1_4) : (⟨S8, .i32⟩ : BufTy).Contents (Elt F) → (⟨S1, .i32⟩ : BufTy).Contents (Elt F)),
    StableHlo.reshape main_v89 main_v90 (rfl : (.i32 : EltTy) = .i32) shapeCasts_S1_S_,
    StableHlo.unary main_v5 main_v91 ((extractStridedSlice S1 ![4] · slices_S8_S1_4) : (⟨S8, .i32⟩ : BufTy).Contents (Elt F) → (⟨S1, .i32⟩ : BufTy).Contents (Elt F)),
    StableHlo.reshape main_v91 main_v92 (rfl : (.i32 : EltTy) = .i32) shapeCasts_S1_S_,
    StableHlo.binary main_v90 main_v92 main_v93 (subi : (⟨S_, .i32⟩ : BufTy).Contents (Elt F) → (⟨S_, .i32⟩ : BufTy).Contents (Elt F) → (⟨S_, .i32⟩ : BufTy).Contents (Elt F)),
    StableHlo.unary main_v93 main_v94 (broadcastInDim S18432 ![] bcast_S_S18432 : (⟨S_, .i32⟩ : BufTy).Contents (Elt F) → (⟨S18432, .i32⟩ : BufTy).Contents (Elt F)),
    StableHlo.binary main_v94 main_v7 main_v95 (cmpi .sle : (⟨S18432, .i32⟩ : BufTy).Contents (Elt F) → (⟨S18432, .i32⟩ : BufTy).Contents (Elt F) → (⟨S18432, .i1⟩ : BufTy).Contents (Elt F)),
    StableHlo.unary main_v6 main_v96 ((extractStridedSlice S1 ![4] · slices_S8_S1_4) : (⟨S8, .i32⟩ : BufTy).Contents (Elt F) → (⟨S1, .i32⟩ : BufTy).Contents (Elt F)),
    StableHlo.reshape main_v96 main_v97 (rfl : (.i32 : EltTy) = .i32) shapeCasts_S1_S_,
    StableHlo.unary main_v97 main_v98 (broadcastInDim S18432 ![] bcast_S_S18432 : (⟨S_, .i32⟩ : BufTy).Contents (Elt F) → (⟨S18432, .i32⟩ : BufTy).Contents (Elt F)),
    StableHlo.binary main_v7 main_v98 main_v99 (cmpi .slt : (⟨S18432, .i32⟩ : BufTy).Contents (Elt F) → (⟨S18432, .i32⟩ : BufTy).Contents (Elt F) → (⟨S18432, .i1⟩ : BufTy).Contents (Elt F)),
    StableHlo.binary main_v95 main_v99 main_v100 (andi : (⟨S18432, .i1⟩ : BufTy).Contents (Elt F) → (⟨S18432, .i1⟩ : BufTy).Contents (Elt F) → (⟨S18432, .i1⟩ : BufTy).Contents (Elt F)),
    StableHlo.unary main_v100 main_v101 (uitofp .f32 : (⟨S18432, .i1⟩ : BufTy).Contents (Elt F) → (⟨S18432, .f32⟩ : BufTy).Contents (Elt F)),
    StableHlo.unary main_v101 main_v102 (broadcastInDim S18432x1 ![0] bcast_S18432_S18432x1_0 : (⟨S18432, .f32⟩ : BufTy).Contents (Elt F) → (⟨S18432x1, .f32⟩ : BufTy).Contents (Elt F)),
    StableHlo.unary main_arg2 main_v103 ((extractStridedSlice S1x7168x4096 ![4, 0, 0] · slices_S8x7168x4096_S1x7168x4096_4_0_0) : (⟨S8x7168x4096, .f32⟩ : BufTy).Contents (Elt F) → (⟨S1x7168x4096, .f32⟩ : BufTy).Contents (Elt F)),
    StableHlo.reshape main_v103 main_v104 (rfl : (.f32 : EltTy) = .f32) shapeCasts_S1x7168x4096_S7168x4096,
    StableHlo.binary main_v0 main_v104 main_v105 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v102 main_v106 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v106 main_v105 main_v107 (mulf : (⟨S18432x4096, .f32⟩ : BufTy).Contents (Elt F) → (⟨S18432x4096, .f32⟩ : BufTy).Contents (Elt F) → (⟨S18432x4096, .f32⟩ : BufTy).Contents (Elt F)),
    StableHlo.binary main_v88 main_v107 main_v108 (addf : (⟨S18432x4096, .f32⟩ : BufTy).Contents (Elt F) → (⟨S18432x4096, .f32⟩ : BufTy).Contents (Elt F) → (⟨S18432x4096, .f32⟩ : BufTy).Contents (Elt F)) ]

/-- Expert 5's product, added where the row lies in the expert's tiles. -/
abbrev exp5 : List (HloOp τ sig (Elt F)) :=
  [ StableHlo.unary main_v6 main_v109 ((extractStridedSlice S1 ![5] · slices_S8_S1_5) : (⟨S8, .i32⟩ : BufTy).Contents (Elt F) → (⟨S1, .i32⟩ : BufTy).Contents (Elt F)),
    StableHlo.reshape main_v109 main_v110 (rfl : (.i32 : EltTy) = .i32) shapeCasts_S1_S_,
    StableHlo.unary main_v5 main_v111 ((extractStridedSlice S1 ![5] · slices_S8_S1_5) : (⟨S8, .i32⟩ : BufTy).Contents (Elt F) → (⟨S1, .i32⟩ : BufTy).Contents (Elt F)),
    StableHlo.reshape main_v111 main_v112 (rfl : (.i32 : EltTy) = .i32) shapeCasts_S1_S_,
    StableHlo.binary main_v110 main_v112 main_v113 (subi : (⟨S_, .i32⟩ : BufTy).Contents (Elt F) → (⟨S_, .i32⟩ : BufTy).Contents (Elt F) → (⟨S_, .i32⟩ : BufTy).Contents (Elt F)),
    StableHlo.unary main_v113 main_v114 (broadcastInDim S18432 ![] bcast_S_S18432 : (⟨S_, .i32⟩ : BufTy).Contents (Elt F) → (⟨S18432, .i32⟩ : BufTy).Contents (Elt F)),
    StableHlo.binary main_v114 main_v7 main_v115 (cmpi .sle : (⟨S18432, .i32⟩ : BufTy).Contents (Elt F) → (⟨S18432, .i32⟩ : BufTy).Contents (Elt F) → (⟨S18432, .i1⟩ : BufTy).Contents (Elt F)),
    StableHlo.unary main_v6 main_v116 ((extractStridedSlice S1 ![5] · slices_S8_S1_5) : (⟨S8, .i32⟩ : BufTy).Contents (Elt F) → (⟨S1, .i32⟩ : BufTy).Contents (Elt F)),
    StableHlo.reshape main_v116 main_v117 (rfl : (.i32 : EltTy) = .i32) shapeCasts_S1_S_,
    StableHlo.unary main_v117 main_v118 (broadcastInDim S18432 ![] bcast_S_S18432 : (⟨S_, .i32⟩ : BufTy).Contents (Elt F) → (⟨S18432, .i32⟩ : BufTy).Contents (Elt F)),
    StableHlo.binary main_v7 main_v118 main_v119 (cmpi .slt : (⟨S18432, .i32⟩ : BufTy).Contents (Elt F) → (⟨S18432, .i32⟩ : BufTy).Contents (Elt F) → (⟨S18432, .i1⟩ : BufTy).Contents (Elt F)),
    StableHlo.binary main_v115 main_v119 main_v120 (andi : (⟨S18432, .i1⟩ : BufTy).Contents (Elt F) → (⟨S18432, .i1⟩ : BufTy).Contents (Elt F) → (⟨S18432, .i1⟩ : BufTy).Contents (Elt F)),
    StableHlo.unary main_v120 main_v121 (uitofp .f32 : (⟨S18432, .i1⟩ : BufTy).Contents (Elt F) → (⟨S18432, .f32⟩ : BufTy).Contents (Elt F)),
    StableHlo.unary main_v121 main_v122 (broadcastInDim S18432x1 ![0] bcast_S18432_S18432x1_0 : (⟨S18432, .f32⟩ : BufTy).Contents (Elt F) → (⟨S18432x1, .f32⟩ : BufTy).Contents (Elt F)),
    StableHlo.unary main_arg2 main_v123 ((extractStridedSlice S1x7168x4096 ![5, 0, 0] · slices_S8x7168x4096_S1x7168x4096_5_0_0) : (⟨S8x7168x4096, .f32⟩ : BufTy).Contents (Elt F) → (⟨S1x7168x4096, .f32⟩ : BufTy).Contents (Elt F)),
    StableHlo.reshape main_v123 main_v124 (rfl : (.f32 : EltTy) = .f32) shapeCasts_S1x7168x4096_S7168x4096,
    StableHlo.binary main_v0 main_v124 main_v125 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v122 main_v126 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v126 main_v125 main_v127 (mulf : (⟨S18432x4096, .f32⟩ : BufTy).Contents (Elt F) → (⟨S18432x4096, .f32⟩ : BufTy).Contents (Elt F) → (⟨S18432x4096, .f32⟩ : BufTy).Contents (Elt F)),
    StableHlo.binary main_v108 main_v127 main_v128 (addf : (⟨S18432x4096, .f32⟩ : BufTy).Contents (Elt F) → (⟨S18432x4096, .f32⟩ : BufTy).Contents (Elt F) → (⟨S18432x4096, .f32⟩ : BufTy).Contents (Elt F)) ]

/-- Expert 6's product, added where the row lies in the expert's tiles. -/
abbrev exp6 : List (HloOp τ sig (Elt F)) :=
  [ StableHlo.unary main_v6 main_v129 ((extractStridedSlice S1 ![6] · slices_S8_S1_6) : (⟨S8, .i32⟩ : BufTy).Contents (Elt F) → (⟨S1, .i32⟩ : BufTy).Contents (Elt F)),
    StableHlo.reshape main_v129 main_v130 (rfl : (.i32 : EltTy) = .i32) shapeCasts_S1_S_,
    StableHlo.unary main_v5 main_v131 ((extractStridedSlice S1 ![6] · slices_S8_S1_6) : (⟨S8, .i32⟩ : BufTy).Contents (Elt F) → (⟨S1, .i32⟩ : BufTy).Contents (Elt F)),
    StableHlo.reshape main_v131 main_v132 (rfl : (.i32 : EltTy) = .i32) shapeCasts_S1_S_,
    StableHlo.binary main_v130 main_v132 main_v133 (subi : (⟨S_, .i32⟩ : BufTy).Contents (Elt F) → (⟨S_, .i32⟩ : BufTy).Contents (Elt F) → (⟨S_, .i32⟩ : BufTy).Contents (Elt F)),
    StableHlo.unary main_v133 main_v134 (broadcastInDim S18432 ![] bcast_S_S18432 : (⟨S_, .i32⟩ : BufTy).Contents (Elt F) → (⟨S18432, .i32⟩ : BufTy).Contents (Elt F)),
    StableHlo.binary main_v134 main_v7 main_v135 (cmpi .sle : (⟨S18432, .i32⟩ : BufTy).Contents (Elt F) → (⟨S18432, .i32⟩ : BufTy).Contents (Elt F) → (⟨S18432, .i1⟩ : BufTy).Contents (Elt F)),
    StableHlo.unary main_v6 main_v136 ((extractStridedSlice S1 ![6] · slices_S8_S1_6) : (⟨S8, .i32⟩ : BufTy).Contents (Elt F) → (⟨S1, .i32⟩ : BufTy).Contents (Elt F)),
    StableHlo.reshape main_v136 main_v137 (rfl : (.i32 : EltTy) = .i32) shapeCasts_S1_S_,
    StableHlo.unary main_v137 main_v138 (broadcastInDim S18432 ![] bcast_S_S18432 : (⟨S_, .i32⟩ : BufTy).Contents (Elt F) → (⟨S18432, .i32⟩ : BufTy).Contents (Elt F)),
    StableHlo.binary main_v7 main_v138 main_v139 (cmpi .slt : (⟨S18432, .i32⟩ : BufTy).Contents (Elt F) → (⟨S18432, .i32⟩ : BufTy).Contents (Elt F) → (⟨S18432, .i1⟩ : BufTy).Contents (Elt F)),
    StableHlo.binary main_v135 main_v139 main_v140 (andi : (⟨S18432, .i1⟩ : BufTy).Contents (Elt F) → (⟨S18432, .i1⟩ : BufTy).Contents (Elt F) → (⟨S18432, .i1⟩ : BufTy).Contents (Elt F)),
    StableHlo.unary main_v140 main_v141 (uitofp .f32 : (⟨S18432, .i1⟩ : BufTy).Contents (Elt F) → (⟨S18432, .f32⟩ : BufTy).Contents (Elt F)),
    StableHlo.unary main_v141 main_v142 (broadcastInDim S18432x1 ![0] bcast_S18432_S18432x1_0 : (⟨S18432, .f32⟩ : BufTy).Contents (Elt F) → (⟨S18432x1, .f32⟩ : BufTy).Contents (Elt F)),
    StableHlo.unary main_arg2 main_v143 ((extractStridedSlice S1x7168x4096 ![6, 0, 0] · slices_S8x7168x4096_S1x7168x4096_6_0_0) : (⟨S8x7168x4096, .f32⟩ : BufTy).Contents (Elt F) → (⟨S1x7168x4096, .f32⟩ : BufTy).Contents (Elt F)),
    StableHlo.reshape main_v143 main_v144 (rfl : (.f32 : EltTy) = .f32) shapeCasts_S1x7168x4096_S7168x4096,
    StableHlo.binary main_v0 main_v144 main_v145 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v142 main_v146 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v146 main_v145 main_v147 (mulf : (⟨S18432x4096, .f32⟩ : BufTy).Contents (Elt F) → (⟨S18432x4096, .f32⟩ : BufTy).Contents (Elt F) → (⟨S18432x4096, .f32⟩ : BufTy).Contents (Elt F)),
    StableHlo.binary main_v128 main_v147 main_v148 (addf : (⟨S18432x4096, .f32⟩ : BufTy).Contents (Elt F) → (⟨S18432x4096, .f32⟩ : BufTy).Contents (Elt F) → (⟨S18432x4096, .f32⟩ : BufTy).Contents (Elt F)) ]

/-- Expert 7's product, added where the row lies in the expert's tiles. -/
abbrev exp7 : List (HloOp τ sig (Elt F)) :=
  [ StableHlo.unary main_v6 main_v149 ((extractStridedSlice S1 ![7] · slices_S8_S1_7) : (⟨S8, .i32⟩ : BufTy).Contents (Elt F) → (⟨S1, .i32⟩ : BufTy).Contents (Elt F)),
    StableHlo.reshape main_v149 main_v150 (rfl : (.i32 : EltTy) = .i32) shapeCasts_S1_S_,
    StableHlo.unary main_v5 main_v151 ((extractStridedSlice S1 ![7] · slices_S8_S1_7) : (⟨S8, .i32⟩ : BufTy).Contents (Elt F) → (⟨S1, .i32⟩ : BufTy).Contents (Elt F)),
    StableHlo.reshape main_v151 main_v152 (rfl : (.i32 : EltTy) = .i32) shapeCasts_S1_S_,
    StableHlo.binary main_v150 main_v152 main_v153 (subi : (⟨S_, .i32⟩ : BufTy).Contents (Elt F) → (⟨S_, .i32⟩ : BufTy).Contents (Elt F) → (⟨S_, .i32⟩ : BufTy).Contents (Elt F)),
    StableHlo.unary main_v153 main_v154 (broadcastInDim S18432 ![] bcast_S_S18432 : (⟨S_, .i32⟩ : BufTy).Contents (Elt F) → (⟨S18432, .i32⟩ : BufTy).Contents (Elt F)),
    StableHlo.binary main_v154 main_v7 main_v155 (cmpi .sle : (⟨S18432, .i32⟩ : BufTy).Contents (Elt F) → (⟨S18432, .i32⟩ : BufTy).Contents (Elt F) → (⟨S18432, .i1⟩ : BufTy).Contents (Elt F)),
    StableHlo.unary main_v6 main_v156 ((extractStridedSlice S1 ![7] · slices_S8_S1_7) : (⟨S8, .i32⟩ : BufTy).Contents (Elt F) → (⟨S1, .i32⟩ : BufTy).Contents (Elt F)),
    StableHlo.reshape main_v156 main_v157 (rfl : (.i32 : EltTy) = .i32) shapeCasts_S1_S_,
    StableHlo.unary main_v157 main_v158 (broadcastInDim S18432 ![] bcast_S_S18432 : (⟨S_, .i32⟩ : BufTy).Contents (Elt F) → (⟨S18432, .i32⟩ : BufTy).Contents (Elt F)),
    StableHlo.binary main_v7 main_v158 main_v159 (cmpi .slt : (⟨S18432, .i32⟩ : BufTy).Contents (Elt F) → (⟨S18432, .i32⟩ : BufTy).Contents (Elt F) → (⟨S18432, .i1⟩ : BufTy).Contents (Elt F)),
    StableHlo.binary main_v155 main_v159 main_v160 (andi : (⟨S18432, .i1⟩ : BufTy).Contents (Elt F) → (⟨S18432, .i1⟩ : BufTy).Contents (Elt F) → (⟨S18432, .i1⟩ : BufTy).Contents (Elt F)),
    StableHlo.unary main_v160 main_v161 (uitofp .f32 : (⟨S18432, .i1⟩ : BufTy).Contents (Elt F) → (⟨S18432, .f32⟩ : BufTy).Contents (Elt F)),
    StableHlo.unary main_v161 main_v162 (broadcastInDim S18432x1 ![0] bcast_S18432_S18432x1_0 : (⟨S18432, .f32⟩ : BufTy).Contents (Elt F) → (⟨S18432x1, .f32⟩ : BufTy).Contents (Elt F)),
    StableHlo.unary main_arg2 main_v163 ((extractStridedSlice S1x7168x4096 ![7, 0, 0] · slices_S8x7168x4096_S1x7168x4096_7_0_0) : (⟨S8x7168x4096, .f32⟩ : BufTy).Contents (Elt F) → (⟨S1x7168x4096, .f32⟩ : BufTy).Contents (Elt F)),
    StableHlo.reshape main_v163 main_v164 (rfl : (.f32 : EltTy) = .f32) shapeCasts_S1x7168x4096_S7168x4096,
    StableHlo.binary main_v0 main_v164 main_v165 ((fun l r => Host.dotGeneral dot_S18432x7168_S7168x4096_S18432x4096_1_0_0_1_n_n none l r) : (⟨S18432x7168, .f32⟩ : BufTy).Contents (Elt F) → (⟨S7168x4096, .f32⟩ : BufTy).Contents (Elt F) → (⟨S18432x4096, .f32⟩ : BufTy).Contents (Elt F)),
    StableHlo.unary main_v162 main_v166 (broadcastInDim S18432x4096 ![0, 1] bcast_S18432x1_S18432x4096_0_1 : (⟨S18432x1, .f32⟩ : BufTy).Contents (Elt F) → (⟨S18432x4096, .f32⟩ : BufTy).Contents (Elt F)),
    StableHlo.binary main_v166 main_v165 main_v167 (mulf : (⟨S18432x4096, .f32⟩ : BufTy).Contents (Elt F) → (⟨S18432x4096, .f32⟩ : BufTy).Contents (Elt F) → (⟨S18432x4096, .f32⟩ : BufTy).Contents (Elt F)),
    StableHlo.binary main_v148 main_v167 main_v168 (addf : (⟨S18432x4096, .f32⟩ : BufTy).Contents (Elt F) → (⟨S18432x4096, .f32⟩ : BufTy).Contents (Elt F) → (⟨S18432x4096, .f32⟩ : BufTy).Contents (Elt F)) ]

/-- The program's operations in order. -/
abbrev allOps : List (HloOp τ sig (Elt F)) := headOps ++ (exp0 ++ (exp1 ++ (exp2 ++ (exp3 ++ (exp4 ++ (exp5 ++ (exp6 ++ exp7)))))))

theorem main_seq (d : Dev nD) : IsSeq (main (F := F) d) (allOps (F := F)) := by
  have h : ∃ ops : List (HloOp τ sig (Elt F)), IsSeq (main (F := F) d) ops ∧ ops = allOps (F := F) := ⟨_, by hlo_seq, rfl⟩
  obtain ⟨ops, h1, rfl⟩ := h
  exact h1

end Cert.Reference2Ideal.Down

end
-- ==== Proof.DownRefVal.lean ====
module

public import proofs.«01_k».proof.Proof.DownOps
public import proofs.«01_k».proof.Proof.RefVal

@[expose] public section

set_option maxRecDepth 16384

noncomputable section

namespace Cert.Reference2Ideal.Down

open Cert.Reference2Ideal Cert.Reference2Ideal.Gen
open Cert.ReferenceIdeal.Experts (plus)
open Idealize.ShloMosaic Idealize.ShloMosaic.TcCoe Idealize.ShloMosaic.StableHlo

variable (W : Valuation τ sig (Elt Ideal))

/-- The one or zero of a row lying in an expert's tiles. -/
def mask (last room row : BitVec 32) : EReal :=
  (uitofp (F := Ideal) .f32 (fun _ : S_.Idx => IntOp.andi (IntOp.cmpi .sle (IntOp.subi last room) row) (IntOp.cmpi .slt row last))) Idealize.ShloMosaic.ix0

/-- What expert `e` adds at row `r` and column `q`. -/
def term (e : Fin 8) (r : Fin 18432) (q : Fin 4096) : EReal :=
  mask (W main_v6 (ix1 e)) (W main_v5 (ix1 e)) (W main_v7 (ix1 r))
    * Spec.dot (fun d => W main_v0 (ix2 r d)) (fun d => W main_arg2 (ix3 e d q))

theorem keep0 : (after exp0 W main_v0 = W main_v0 ∧ after exp0 W main_v5 = W main_v5 ∧ after exp0 W main_v6 = W main_v6)
    ∧ after exp0 W main_v7 = W main_v7 ∧ after exp0 W main_arg2 = W main_arg2 := by
  refine ⟨⟨?_, ?_, ?_⟩, ?_, ?_⟩ <;> after_reads_simp

theorem add0 (r : Fin 18432) (q : Fin 4096) : after exp0 W main_v28 (ix2 r q) = plus (W main_v8 (ix2 r q)) (term W 0 r q) := by
  unfold term plus mask Spec.dot
  after_reads_at

theorem keep1 : (after exp1 W main_v0 = W main_v0 ∧ after exp1 W main_v5 = W main_v5 ∧ after exp1 W main_v6 = W main_v6)
    ∧ after exp1 W main_v7 = W main_v7 ∧ after exp1 W main_arg2 = W main_arg2 := by
  refine ⟨⟨?_, ?_, ?_⟩, ?_, ?_⟩ <;> after_reads_simp

theorem add1 (r : Fin 18432) (q : Fin 4096) : after exp1 W main_v48 (ix2 r q) = plus (W main_v28 (ix2 r q)) (term W 1 r q) := by
  unfold term plus mask Spec.dot
  after_reads_at

theorem keep2 : (after exp2 W main_v0 = W main_v0 ∧ after exp2 W main_v5 = W main_v5 ∧ after exp2 W main_v6 = W main_v6)
    ∧ after exp2 W main_v7 = W main_v7 ∧ after exp2 W main_arg2 = W main_arg2 := by
  refine ⟨⟨?_, ?_, ?_⟩, ?_, ?_⟩ <;> after_reads_simp

theorem add2 (r : Fin 18432) (q : Fin 4096) : after exp2 W main_v68 (ix2 r q) = plus (W main_v48 (ix2 r q)) (term W 2 r q) := by
  unfold term plus mask Spec.dot
  after_reads_at

theorem keep3 : (after exp3 W main_v0 = W main_v0 ∧ after exp3 W main_v5 = W main_v5 ∧ after exp3 W main_v6 = W main_v6)
    ∧ after exp3 W main_v7 = W main_v7 ∧ after exp3 W main_arg2 = W main_arg2 := by
  refine ⟨⟨?_, ?_, ?_⟩, ?_, ?_⟩ <;> after_reads_simp

theorem add3 (r : Fin 18432) (q : Fin 4096) : after exp3 W main_v88 (ix2 r q) = plus (W main_v68 (ix2 r q)) (term W 3 r q) := by
  unfold term plus mask Spec.dot
  after_reads_at

theorem keep4 : (after exp4 W main_v0 = W main_v0 ∧ after exp4 W main_v5 = W main_v5 ∧ after exp4 W main_v6 = W main_v6)
    ∧ after exp4 W main_v7 = W main_v7 ∧ after exp4 W main_arg2 = W main_arg2 := by
  refine ⟨⟨?_, ?_, ?_⟩, ?_, ?_⟩ <;> after_reads_simp

theorem add4 (r : Fin 18432) (q : Fin 4096) : after exp4 W main_v108 (ix2 r q) = plus (W main_v88 (ix2 r q)) (term W 4 r q) := by
  unfold term plus mask Spec.dot
  after_reads_at

theorem keep5 : (after exp5 W main_v0 = W main_v0 ∧ after exp5 W main_v5 = W main_v5 ∧ after exp5 W main_v6 = W main_v6)
    ∧ after exp5 W main_v7 = W main_v7 ∧ after exp5 W main_arg2 = W main_arg2 := by
  refine ⟨⟨?_, ?_, ?_⟩, ?_, ?_⟩ <;> after_reads_simp

theorem add5 (r : Fin 18432) (q : Fin 4096) : after exp5 W main_v128 (ix2 r q) = plus (W main_v108 (ix2 r q)) (term W 5 r q) := by
  unfold term plus mask Spec.dot
  after_reads_at

theorem keep6 : (after exp6 W main_v0 = W main_v0 ∧ after exp6 W main_v5 = W main_v5 ∧ after exp6 W main_v6 = W main_v6)
    ∧ after exp6 W main_v7 = W main_v7 ∧ after exp6 W main_arg2 = W main_arg2 := by
  refine ⟨⟨?_, ?_, ?_⟩, ?_, ?_⟩ <;> after_reads_simp

theorem add6 (r : Fin 18432) (q : Fin 4096) : after exp6 W main_v148 (ix2 r q) = plus (W main_v128 (ix2 r q)) (term W 6 r q) := by
  unfold term plus mask Spec.dot
  after_reads_at

theorem keep7 : (after exp7 W main_v0 = W main_v0 ∧ after exp7 W main_v5 = W main_v5 ∧ after exp7 W main_v6 = W main_v6)
    ∧ after exp7 W main_v7 = W main_v7 ∧ after exp7 W main_arg2 = W main_arg2 := by
  refine ⟨⟨?_, ?_, ?_⟩, ?_, ?_⟩ <;> after_reads_simp

theorem add7 (r : Fin 18432) (q : Fin 4096) : after exp7 W main_v168 (ix2 r q) = plus (W main_v148 (ix2 r q)) (term W 7 r q) := by
  unfold term plus mask Spec.dot
  after_reads_at

theorem head_arg2 : after headOps W main_arg2 = W main_arg2 := by
  after_reads_simp

theorem head_v7 (r : Fin 18432) : after headOps W main_v7 (ix1 r) = BitVec.ofNat 32 r.val := by
  after_reads_at

theorem head_v8 (r : Fin 18432) (q : Fin 4096) : after headOps W main_v8 (ix2 r q) = (0 : EReal) := by
  after_reads_at

theorem head_v0 (r : Fin 18432) (d : Fin 7168) : after headOps W main_v0 (ix2 r d) = W main_arg0 (ix2 r d) := by
  after_reads_at

/-- The number of rows of expert `i`, as the word of `W` holds it. -/
def cnt (i : ℕ) : ℕ := if h : i < 8 then BitVec.toNat (w := 32) (W (Proc.devRef .tc main_arg1) (ix1 (⟨i, h⟩ : Fin 8))) else 0

theorem arg_word (e : Fin 8) : W (Proc.devRef .tc main_arg1) (ix1 e) = BitVec.ofNat 32 (cnt W e.val) := by
  unfold cnt
  rw [dif_pos e.isLt]
  exact (BitVec.ofNat_toNat 32 (W (Proc.devRef .tc main_arg1) (ix1 e) : BitVec 32)).trans (BitVec.setWidth_eq _) |>.symm

theorem head_v5 (hW : ∀ i, cnt W i ≤ 16384) (e : Fin 8) : after headOps W main_v5 (ix1 e) = BitVec.ofNat 32 (Tiles.tiles (cnt W) e.val * 256) := by
  after_reads_at
  exact Cert.ReferenceIdeal.Experts.room_of_word (arg_word W e) (hW e.val)

theorem head_v6 : after headOps W main_v6 =
   (Host.reduceWindow IntOp.addi ![8] ![1] ![7] ![0] (after headOps W main_v5) (constantI S_ 32 0#32) reduceWindows_S8_S8_w8s1p7_0 h_S_ : Vec Ideal S8 .i32) := by
  after_reads_simp
  simp -implicitDefEqProofs only [StableHlo.TRef.toBuf, StableHlo.TRef.ofBuf, cast_cast, cast_eq]
  rfl

theorem ends_word (hW : ∀ i, cnt W i ≤ 16384) (e : Fin 8) : after headOps W main_v6 (ix1 e) = BitVec.ofNat 32 (Tiles.ends (cnt W) e.val * 256) := by
  rw [head_v6]
  refine (Routing.cumsum1 (N := 8) (Nm1 := 7) rfl _ (fun i => Tiles.tiles (cnt W) i * 256) (fun i => head_v5 W hW i) _ rfl _ _ e).trans ?_
  unfold Tiles.ends
  rw [List.sum_map_mul_right]

/-- The one or zero from an expert's first row and its number of rows, as the gate and up products take it. -/
theorem mask_at {s c r : ℕ} (hs : s < 1000000) (hc : c < 1000000) (hr : r < 1000000) :
    mask (BitVec.ofNat 32 (s + c)) (BitVec.ofNat 32 c) (BitVec.ofNat 32 r) = if s ≤ r ∧ r < s + c then 1 else 0 := by
  have hb : IntOp.subi (BitVec.ofNat 32 (s + c)) (BitVec.ofNat 32 c) = BitVec.ofNat 32 s := by
    refine (Routing.ofNat32_sub (by omega)).trans ?_
    congr 1
    omega
  have ha : IntOp.addi (BitVec.ofNat 32 s) (BitVec.ofNat 32 c) = BitVec.ofNat 32 (s + c) := by
    apply BitVec.eq_of_toNat_eq
    simp only [IntOp.addi, BitVec.toNat_add, BitVec.toNat_ofNat]
    omega
  refine Eq.trans ?_ (Cert.ReferenceIdeal.Experts.mask_at hs hc hr)
  unfold mask Cert.ReferenceIdeal.Experts.mask
  rw [hb, ha]

/-- What expert `e` adds, off the contents before the program. -/
theorem term_at (hW : ∀ i, cnt W i ≤ 16384) (e : Fin 8) (r : Fin 18432) (q : Fin 4096) :
    term (after headOps W) e r q = if e.val = Tiles.ex (cnt W) (r.val / 256) ∧ 0 < Tiles.nr (cnt W) (r.val / 256) then
      Spec.dot (fun d => W main_arg0 (ix2 r d)) (fun d => W main_arg2 (ix3 e d q)) else 0 := by
  have h1 := Tiles.ends_eq (cnt W) e.val
  have h2 := Tiles.ends_le (cnt W) hW e.val
  have h3 := e.isLt
  have hr := r.isLt
  have he : Tiles.ends (cnt W) e.val * 256 = Tiles.starts (cnt W) e.val * 256 + Tiles.tiles (cnt W) e.val * 256 := by omega
  unfold term
  rw [ends_word W hW e, head_v5 W hW e, head_v7, he, mask_at (by omega) (by omega) (by omega), head_arg2]
  have hx : (fun d => after headOps W main_v0 (ix2 r d)) = (fun d => W main_arg0 (ix2 r d)) := funext fun d => head_v0 W r d
  rw [hx]
  have hh := Tiles.span_iff (cnt W) (e := e.val) (r := r.val) e.isLt
  rw [he] at hh
  by_cases h : e.val = Tiles.ex (cnt W) (r.val / 256) ∧ 0 < Tiles.nr (cnt W) (r.val / 256)
  · rw [if_pos (hh.2 h), if_pos h, one_mul]
  · rw [if_neg (fun h' => h (hh.1 h')), if_neg h, zero_mul]

/-- Two contents that agree on what the experts read. -/
def Same (A B : Valuation τ sig (Elt Ideal)) : Prop :=
  (A main_v0 = B main_v0 ∧ A main_v5 = B main_v5 ∧ A main_v6 = B main_v6) ∧ A main_v7 = B main_v7 ∧ A main_arg2 = B main_arg2

theorem Same.trans {A B C : Valuation τ sig (Elt Ideal)} (h : Same A B) (k : Same B C) : Same A C :=
  ⟨⟨h.1.1.trans k.1.1, h.1.2.1.trans k.1.2.1, h.1.2.2.trans k.1.2.2⟩, h.2.1.trans k.2.1, h.2.2.trans k.2.2⟩

theorem Same.term {A B : Valuation τ sig (Elt Ideal)} (h : Same A B) (e : Fin 8) (r : Fin 18432) (q : Fin 4096) : term A e r q = term B e r q := by
  unfold Down.term
  rw [h.1.1, h.1.2.1, h.1.2.2, h.2.1, h.2.2]

theorem sum_at (hW : ∀ i, cnt W i ≤ 16384) (r : Fin 18432) (q : Fin 4096) :
    (∑ e : Fin 8, term (after headOps W) e r q) = Spec.down (cnt W) (fun r b => W main_arg0 (ix2 r b)) (fun e d q => W main_arg2 (ix3 e d q)) r q := by
  simp only [term_at W hW]
  unfold Spec.down
  have hex := Tiles.ex_le (cnt W) (r.val / 256)
  by_cases h : 0 < Tiles.nr (cnt W) (r.val / 256)
  · rw [if_pos h, Finset.sum_eq_single (⟨Tiles.ex (cnt W) (r.val / 256), by omega⟩ : Fin 8)]
    · rw [if_pos ⟨rfl, h⟩]
    · intro b _ hb
      rw [if_neg (fun hh => hb (Fin.ext hh.1))]
    · intro hh
      exact absurd (Finset.mem_univ _) hh
  · rw [if_neg h]
    refine Finset.sum_eq_zero fun e _ => ?_
    rw [if_neg (fun hh => h hh.2)]

/-- The reference's result, entry by entry. -/
theorem value (hW : ∀ i, cnt W i ≤ 16384) (r : Fin 18432) (q : Fin 4096) :
    after allOps W main_v168 (ix2 r q) = Spec.down (cnt W) (fun r b => W main_arg0 (ix2 r b)) (fun e d q => W main_arg2 (ix3 e d q)) r q := by
  have s0 : Same (after exp0 (after headOps W)) (after headOps W) := keep0 _
  have s1 : Same (after exp1 (after exp0 (after headOps W))) (after headOps W) := Same.trans (keep1 _) s0
  have s2 : Same (after exp2 (after exp1 (after exp0 (after headOps W)))) (after headOps W) := Same.trans (keep2 _) s1
  have s3 : Same (after exp3 (after exp2 (after exp1 (after exp0 (after headOps W))))) (after headOps W) := Same.trans (keep3 _) s2
  have s4 : Same (after exp4 (after exp3 (after exp2 (after exp1 (after exp0 (after headOps W)))))) (after headOps W) := Same.trans (keep4 _) s3
  have s5 : Same (after exp5 (after exp4 (after exp3 (after exp2 (after exp1 (after exp0 (after headOps W))))))) (after headOps W) := Same.trans (keep5 _) s4
  have s6 : Same (after exp6 (after exp5 (after exp4 (after exp3 (after exp2 (after exp1 (after exp0 (after headOps W)))))))) (after headOps W) := Same.trans (keep6 _) s5
  simp only [after_append]
  rw [add7, add6, add5, add4, add3, add2, add1, add0, head_v8, s6.term, s5.term, s4.term, s3.term, s2.term, s1.term, s0.term]
  have hsum : plus (plus (plus (plus (plus (plus (plus (plus 0 (term (after headOps W) 0 r q)) (term (after headOps W) 1 r q)) (term (after headOps W) 2 r q)) (term (after headOps W) 3 r q))
      (term (after headOps W) 4 r q)) (term (after headOps W) 5 r q)) (term (after headOps W) 6 r q)) (term (after headOps W) 7 r q) = ∑ e : Fin 8, term (after headOps W) e r q := by
    rw [Fin.sum_univ_eight]
    unfold plus
    rw [zero_add]
  exact Eq.trans hsum (sum_at W hW r q)

end Cert.Reference2Ideal.Down

end
-- ==== Proof.DownRefRun.lean ====
module

public import proofs.«01_k».proof.Proof.DownOps

@[expose] public section

set_option maxRecDepth 16384

noncomputable section

namespace Cert.Reference2Ideal.Down

open Cert.Reference2Ideal Cert.Reference2Ideal.Gen
open Idealize.ShloMosaic Idealize.ShloMosaic.TcCoe Idealize.SL.Sem Idealize.ShloMosaic.StableHlo

variable (W : Valuation τ sig (Elt Ideal))

theorem headOps_sub : (headOps (F := Ideal)).Forall fun op => op.bufs ⊆ tcRefs τ sig := by
  simp

theorem headOps_fresh : ∀ op ∈ (headOps (F := Ideal)), op.fresh = ∅ := by
  intro _ h; (repeat (cases h with | head => rfl | tail _ h => ?_)); exact nomatch h

theorem headOps_args : (after headOps W main_arg0 = W main_arg0 ∧ after headOps W main_arg1 = W main_arg1) ∧ after headOps W main_arg2 = W main_arg2 := by
  refine ⟨⟨?_, ?_⟩, ?_⟩ <;> after_reads_simp

theorem exp0_sub : (exp0 (F := Ideal)).Forall fun op => op.bufs ⊆ tcRefs τ sig := by
  simp

theorem exp0_fresh : ∀ op ∈ (exp0 (F := Ideal)), op.fresh = ∅ := by
  intro _ h; (repeat (cases h with | head => rfl | tail _ h => ?_)); exact nomatch h

theorem exp0_args : (after exp0 W main_arg0 = W main_arg0 ∧ after exp0 W main_arg1 = W main_arg1) ∧ after exp0 W main_arg2 = W main_arg2 := by
  refine ⟨⟨?_, ?_⟩, ?_⟩ <;> after_reads_simp

theorem exp1_sub : (exp1 (F := Ideal)).Forall fun op => op.bufs ⊆ tcRefs τ sig := by
  simp

theorem exp1_fresh : ∀ op ∈ (exp1 (F := Ideal)), op.fresh = ∅ := by
  intro _ h; (repeat (cases h with | head => rfl | tail _ h => ?_)); exact nomatch h

theorem exp1_args : (after exp1 W main_arg0 = W main_arg0 ∧ after exp1 W main_arg1 = W main_arg1) ∧ after exp1 W main_arg2 = W main_arg2 := by
  refine ⟨⟨?_, ?_⟩, ?_⟩ <;> after_reads_simp

theorem exp2_sub : (exp2 (F := Ideal)).Forall fun op => op.bufs ⊆ tcRefs τ sig := by
  simp

theorem exp2_fresh : ∀ op ∈ (exp2 (F := Ideal)), op.fresh = ∅ := by
  intro _ h; (repeat (cases h with | head => rfl | tail _ h => ?_)); exact nomatch h

theorem exp2_args : (after exp2 W main_arg0 = W main_arg0 ∧ after exp2 W main_arg1 = W main_arg1) ∧ after exp2 W main_arg2 = W main_arg2 := by
  refine ⟨⟨?_, ?_⟩, ?_⟩ <;> after_reads_simp

theorem exp3_sub : (exp3 (F := Ideal)).Forall fun op => op.bufs ⊆ tcRefs τ sig := by
  simp

theorem exp3_fresh : ∀ op ∈ (exp3 (F := Ideal)), op.fresh = ∅ := by
  intro _ h; (repeat (cases h with | head => rfl | tail _ h => ?_)); exact nomatch h

theorem exp3_args : (after exp3 W main_arg0 = W main_arg0 ∧ after exp3 W main_arg1 = W main_arg1) ∧ after exp3 W main_arg2 = W main_arg2 := by
  refine ⟨⟨?_, ?_⟩, ?_⟩ <;> after_reads_simp

theorem exp4_sub : (exp4 (F := Ideal)).Forall fun op => op.bufs ⊆ tcRefs τ sig := by
  simp

theorem exp4_fresh : ∀ op ∈ (exp4 (F := Ideal)), op.fresh = ∅ := by
  intro _ h; (repeat (cases h with | head => rfl | tail _ h => ?_)); exact nomatch h

theorem exp4_args : (after exp4 W main_arg0 = W main_arg0 ∧ after exp4 W main_arg1 = W main_arg1) ∧ after exp4 W main_arg2 = W main_arg2 := by
  refine ⟨⟨?_, ?_⟩, ?_⟩ <;> after_reads_simp

theorem exp5_sub : (exp5 (F := Ideal)).Forall fun op => op.bufs ⊆ tcRefs τ sig := by
  simp

theorem exp5_fresh : ∀ op ∈ (exp5 (F := Ideal)), op.fresh = ∅ := by
  intro _ h; (repeat (cases h with | head => rfl | tail _ h => ?_)); exact nomatch h

theorem exp5_args : (after exp5 W main_arg0 = W main_arg0 ∧ after exp5 W main_arg1 = W main_arg1) ∧ after exp5 W main_arg2 = W main_arg2 := by
  refine ⟨⟨?_, ?_⟩, ?_⟩ <;> after_reads_simp

theorem exp6_sub : (exp6 (F := Ideal)).Forall fun op => op.bufs ⊆ tcRefs τ sig := by
  simp

theorem exp6_fresh : ∀ op ∈ (exp6 (F := Ideal)), op.fresh = ∅ := by
  intro _ h; (repeat (cases h with | head => rfl | tail _ h => ?_)); exact nomatch h

theorem exp6_args : (after exp6 W main_arg0 = W main_arg0 ∧ after exp6 W main_arg1 = W main_arg1) ∧ after exp6 W main_arg2 = W main_arg2 := by
  refine ⟨⟨?_, ?_⟩, ?_⟩ <;> after_reads_simp

theorem exp7_sub : (exp7 (F := Ideal)).Forall fun op => op.bufs ⊆ tcRefs τ sig := by
  simp

theorem exp7_fresh : ∀ op ∈ (exp7 (F := Ideal)), op.fresh = ∅ := by
  intro _ h; (repeat (cases h with | head => rfl | tail _ h => ?_)); exact nomatch h

theorem exp7_args : (after exp7 W main_arg0 = W main_arg0 ∧ after exp7 W main_arg1 = W main_arg1) ∧ after exp7 W main_arg2 = W main_arg2 := by
  refine ⟨⟨?_, ?_⟩, ?_⟩ <;> after_reads_simp

theorem all_sub : (allOps (F := Ideal)).Forall fun op => op.bufs ⊆ tcRefs τ sig := by
  have both : ∀ {a b : List (HloOp τ sig (Elt Ideal))}, (a.Forall fun op => op.bufs ⊆ tcRefs τ sig) → (b.Forall fun op => op.bufs ⊆ tcRefs τ sig) →
      ((a ++ b).Forall fun op => op.bufs ⊆ tcRefs τ sig) := fun ha hb => List.forall_append.2 ⟨ha, hb⟩
  exact both headOps_sub (both exp0_sub (both exp1_sub (both exp2_sub (both exp3_sub (both exp4_sub (both exp5_sub (both exp6_sub (exp7_sub))))))))

theorem all_fresh : ∀ op ∈ (allOps (F := Ideal)), op.fresh = ∅ := by
  have both : ∀ {a b : List (HloOp τ sig (Elt Ideal))}, (∀ op ∈ a, op.fresh = ∅) → (∀ op ∈ b, op.fresh = ∅) → ∀ op ∈ a ++ b, op.fresh = ∅ :=
    fun ha hb op h => (List.mem_append.1 h).elim (ha op) (hb op)
  exact both headOps_fresh (both exp0_fresh (both exp1_fresh (both exp2_fresh (both exp3_fresh (both exp4_fresh (both exp5_fresh (both exp6_fresh (exp7_fresh))))))))

theorem all_args : (after allOps W main_arg0 = W main_arg0 ∧ after allOps W main_arg1 = W main_arg1) ∧ after allOps W main_arg2 = W main_arg2 := by
  have both : ∀ {a b : List (HloOp τ sig (Elt Ideal))},
      (∀ V, (after a V main_arg0 = V main_arg0 ∧ after a V main_arg1 = V main_arg1) ∧ after a V main_arg2 = V main_arg2) →
      (∀ V, (after b V main_arg0 = V main_arg0 ∧ after b V main_arg1 = V main_arg1) ∧ after b V main_arg2 = V main_arg2) →
      ∀ V, (after (a ++ b) V main_arg0 = V main_arg0 ∧ after (a ++ b) V main_arg1 = V main_arg1) ∧ after (a ++ b) V main_arg2 = V main_arg2 := by
    intro a b ha hb V
    have h1 := ha V
    have h2 := hb (after a V)
    rw [after_append]
    exact ⟨⟨h2.1.1.trans h1.1.1, h2.1.2.trans h1.1.2⟩, h2.2.trans h1.2⟩
  exact both headOps_args (both exp0_args (both exp1_args (both exp2_args (both exp3_args (both exp4_args (both exp5_args (both exp6_args (exp7_args)))))))) W

/-- Every run ends with the operations' results, the arguments as they were and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_v168) = after allOps (launchContents m c) main_v168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run (defs (F := Ideal)) _ _).mono (fun r h => ⟨fun c => ?_, sem_eq_zero_of_no_sems (by decide) r.2⟩)
    (run_hlo (defs (F := Ideal)) (main (F := Ideal)) main_seq (by decide) (by decide) all_sub all_fresh m ρ)
  have hk := all_args (launchContents m c)
  exact ⟨h c main_v168, (h c main_arg0).trans hk.1.1, (h c main_arg1).trans hk.1.2, (h c main_arg2).trans hk.2⟩

end Cert.Reference2Ideal.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Val
public import proofs.«01_k».proof.Proof.RefRun
public import proofs.«01_k».proof.Proof.DownVal
public import proofs.«01_k».proof.Proof.DownRefVal
public import proofs.«01_k».proof.Proof.DownRefRun
public import Idealize.ShloMosaic.Lib.Claim
public import Idealize.ShloMosaic.Lib.Quiescent
public import Idealize.ShloMosaic.Adequacy
public import Idealize.ShloMosaic.Init

@[expose] public section

noncomputable section

/-!
The certificate: the experts' gated products, and their down product, run and leave their arguments unchanged, as printed and over the extended
reals; so do the references; and over the extended reals each and its reference give the same array.
-/

namespace Cert.Proof

open Idealize.ShloMosaic Idealize.SL.Sem Idealize.ShloMosaic.TcCoe Idealize.ShloMosaic.StableHlo

theorem pre_facts : Cert.Pre_counts_in_range.Facts where
  bcast_S_S8 := @Cert.ReferenceIdeal.Gen.bcast_S_S8

instance : Cert.Pre_counts_in_range.Facts := pre_facts

theorem frame : Cert.quiescent_Kernel := by
  intro m g hp
  have hm : ∀ c : Dev Cert.KernelIdeal.nD, ∀ i, Cert.KernelIdeal.Experts.cnt (F := Bits) (fun b => m (c, b)) i ≤ 16384 :=
    fun c i => Cert.KernelIdeal.Experts.cnt_le (F := Bits) m c (hp c) i
  have h := Cert.KernelIdeal.Experts.run_args (F := Bits) m g hm
  have h' := (θ_run Cert.KernelIdeal.defs _ _).mono (fun r (h : _ ∧ _) => (⟨fun c => (h.1 c).2, h.2⟩ : (∀ c : Dev Cert.KernelIdeal.nD, _) ∧ _)) h
  refine Eq.mp ?_ h'
  clear h' h hm hp
  sl_kernel_rfl

theorem frameIdeal : Cert.quiescent_KernelIdeal := fun m g hp =>
  (θ_run Cert.KernelIdeal.defs _ _).mono (fun _ h => ⟨fun c => (h.1 c).2, h.2⟩)
    (Cert.KernelIdeal.Experts.run_args m g fun c i => Cert.KernelIdeal.Experts.cnt_le m c (hp c) i)

theorem frameReference : Cert.quiescent_ReferenceIdeal := fun m g _ =>
  (θ_run Cert.ReferenceIdeal.defs _ _).mono (fun _ h => ⟨fun c => (h.1 c).2, h.2⟩) (Cert.ReferenceIdeal.Experts.run m g)

theorem frameReferencePre : Cert.quiescent_ReferenceIdeal_pre_counts_in_range := fun m g _ => frameReference m g trivial

/-- The two programs' arrays agree. -/
theorem arrays (m : (ℓ : Loc Cert.KernelIdeal.nD Cert.KernelIdeal.τ Cert.KernelIdeal.sig) → Buf (Elt Ideal) ℓ)
    (hm : ∀ c : Dev Cert.KernelIdeal.nD, ∀ i, Cert.KernelIdeal.Experts.cnt (fun b => m (c, b)) i ≤ 16384)
    (c : Dev Cert.KernelIdeal.nD) (W : Valuation Cert.ReferenceIdeal.τ Cert.ReferenceIdeal.sig (Elt Ideal))
    (h0 : W Cert.ReferenceIdeal.main_arg0 = m ((c.tc : Thread Cert.KernelIdeal.nD Cert.KernelIdeal.τ).loc Cert.KernelIdeal.main_arg0))
    (h1 : W Cert.ReferenceIdeal.main_arg1 = m ((c.tc : Thread Cert.KernelIdeal.nD Cert.KernelIdeal.τ).loc Cert.KernelIdeal.main_arg1))
    (h2 : W Cert.ReferenceIdeal.main_arg2 = m ((c.tc : Thread Cert.KernelIdeal.nD Cert.KernelIdeal.τ).loc Cert.KernelIdeal.main_arg2))
    (h3 : W Cert.ReferenceIdeal.main_arg3 = m ((c.tc : Thread Cert.KernelIdeal.nD Cert.KernelIdeal.τ).loc Cert.KernelIdeal.main_arg3)) :
    Cert.KernelIdeal.Experts.outArr m hm c = after Cert.ReferenceIdeal.Experts.allOps W Cert.ReferenceIdeal.main_v216 := by
  obtain rfl : c = 0 := Subsingleton.elim c 0
  have hc : Cert.ReferenceIdeal.Experts.cnt W = Cert.KernelIdeal.Experts.cnt (fun b => m (0, b)) := by
    funext i
    unfold Cert.ReferenceIdeal.Experts.cnt Cert.KernelIdeal.Experts.cnt
    by_cases hi : i < 8
    · rw [dif_pos hi, dif_pos hi]
      exact congrArg (BitVec.toNat (w := 32)) (congrFun h1 _)
    · rw [dif_neg hi, dif_neg hi]
  refine Cert.KernelIdeal.Experts.final (Cert.KernelIdeal.Experts.tables_hold m 0 (hm 0)) (Cert.KernelIdeal.Experts.Vm m) 0 _ fun r q => ?_
  have hW : ∀ i, Cert.ReferenceIdeal.Experts.cnt W i ≤ 16384 := fun i => by rw [hc]; exact hm 0 i
  refine (Cert.ReferenceIdeal.Experts.value W hW r q).trans ?_
  rw [hc, h0, h2, h3, Cert.KernelIdeal.Experts.Vm_arg0, Cert.KernelIdeal.Experts.Vm_arg2, Cert.KernelIdeal.Experts.Vm_arg3]

theorem algebraic : Cert.algebraic_KernelIdeal_ReferenceIdeal := by
  intro m g m' g' hp hagree
  have hm : ∀ c : Dev Cert.KernelIdeal.nD, ∀ i, Cert.KernelIdeal.Experts.cnt (fun b => m (c, b)) i ≤ 16384 :=
    fun c i => Cert.KernelIdeal.Experts.cnt_le m c (hp c) i
  refine ⟨fun c => Cert.KernelIdeal.Experts.outArr m hm c, ?_, ?_⟩
  · exact (θ_run Cert.KernelIdeal.defs _ _).mono (fun _ h => h.1) (Cert.KernelIdeal.Experts.run_args m g hm)
  · refine (θ_run Cert.ReferenceIdeal.defs _ _).mono (fun _ h c => ⟨(h.1 c).1.trans ?_, (h.1 c).2⟩) (Cert.ReferenceIdeal.Experts.run m' g')
    have ha := hagree c
    exact (arrays m hm c (launchContents m' c) ha.1 ha.2.1 ha.2.2.1 ha.2.2.2).symm

theorem pre_facts2 : Cert.Pre_counts_in_range2.Facts where
  bcast_S_S8 := @Cert.Reference2Ideal.Gen.bcast_S_S8

instance : Cert.Pre_counts_in_range2.Facts := pre_facts2

theorem frame2 : Cert.quiescent_Kernel2 := by
  intro m g hp
  have hm : ∀ c : Dev Cert.Kernel2Ideal.nD, ∀ i, Cert.Kernel2Ideal.Down.cnt (F := Bits) (fun b => m (c, b)) i ≤ 16384 :=
    fun c i => Cert.Kernel2Ideal.Down.cnt_le (F := Bits) m c (hp c) i
  have h := Cert.Kernel2Ideal.Down.run_args (F := Bits) m g hm
  have h' := (θ_run Cert.Kernel2Ideal.defs _ _).mono (fun r (h : _ ∧ _) => (⟨fun c => (h.1 c).2, h.2⟩ : (∀ c : Dev Cert.Kernel2Ideal.nD, _) ∧ _)) h
  refine Eq.mp ?_ h'
  clear h' h hm hp
  sl_kernel_rfl

theorem frameIdeal2 : Cert.quiescent_Kernel2Ideal := fun m g hp =>
  (θ_run Cert.Kernel2Ideal.defs _ _).mono (fun _ h => ⟨fun c => (h.1 c).2, h.2⟩)
    (Cert.Kernel2Ideal.Down.run_args m g fun c i => Cert.Kernel2Ideal.Down.cnt_le m c (hp c) i)

theorem frameReference2 : Cert.quiescent_Reference2Ideal := fun m g _ =>
  (θ_run Cert.Reference2Ideal.defs _ _).mono (fun _ h => ⟨fun c => (h.1 c).2, h.2⟩) (Cert.Reference2Ideal.Down.run m g)

theorem frameReferencePre2 : Cert.quiescent_Reference2Ideal_pre_counts_in_range2 := fun m g _ => frameReference2 m g trivial

/-- The down call's arrays agree. -/
theorem arrays2 (m : (ℓ : Loc Cert.Kernel2Ideal.nD Cert.Kernel2Ideal.τ Cert.Kernel2Ideal.sig) → Buf (Elt Ideal) ℓ)
    (hm : ∀ c : Dev Cert.Kernel2Ideal.nD, ∀ i, Cert.Kernel2Ideal.Down.cnt (fun b => m (c, b)) i ≤ 16384)
    (c : Dev Cert.Kernel2Ideal.nD) (W : Valuation Cert.Reference2Ideal.τ Cert.Reference2Ideal.sig (Elt Ideal))
    (h0 : W Cert.Reference2Ideal.main_arg0 = m ((c.tc : Thread Cert.Kernel2Ideal.nD Cert.Kernel2Ideal.τ).loc Cert.Kernel2Ideal.main_arg0))
    (h1 : W Cert.Reference2Ideal.main_arg1 = m ((c.tc : Thread Cert.Kernel2Ideal.nD Cert.Kernel2Ideal.τ).loc Cert.Kernel2Ideal.main_arg1))
    (h2 : W Cert.Reference2Ideal.main_arg2 = m ((c.tc : Thread Cert.Kernel2Ideal.nD Cert.Kernel2Ideal.τ).loc Cert.Kernel2Ideal.main_arg2)) :
    Cert.Kernel2Ideal.Down.outArr m hm c = after Cert.Reference2Ideal.Down.allOps W Cert.Reference2Ideal.main_v168 := by
  obtain rfl : c = 0 := Subsingleton.elim c 0
  have hc : Cert.Reference2Ideal.Down.cnt W = Cert.Kernel2Ideal.Down.cnt (fun b => m (0, b)) := by
    funext i
    unfold Cert.Reference2Ideal.Down.cnt Cert.Kernel2Ideal.Down.cnt
    by_cases hi : i < 8
    · rw [dif_pos hi, dif_pos hi]
      exact congrArg (BitVec.toNat (w := 32)) (congrFun h1 _)
    · rw [dif_neg hi, dif_neg hi]
  refine Cert.Kernel2Ideal.Down.final (Cert.Kernel2Ideal.Down.tables_hold m 0 (hm 0)) (Cert.Kernel2Ideal.Down.Vm m) 0 _ fun r q => ?_
  have hW : ∀ i, Cert.Reference2Ideal.Down.cnt W i ≤ 16384 := fun i => by rw [hc]; exact hm 0 i
  refine (Cert.Reference2Ideal.Down.value W hW r q).trans ?_
  rw [hc, h0, h2, Cert.Kernel2Ideal.Down.Vm_arg0, Cert.Kernel2Ideal.Down.Vm_arg2]

theorem algebraic2 : Cert.algebraic_Kernel2Ideal_Reference2Ideal := by
  intro m g m' g' hp hagree
  have hm : ∀ c : Dev Cert.Kernel2Ideal.nD, ∀ i, Cert.Kernel2Ideal.Down.cnt (fun b => m (c, b)) i ≤ 16384 :=
    fun c i => Cert.Kernel2Ideal.Down.cnt_le m c (hp c) i
  refine ⟨fun c => Cert.Kernel2Ideal.Down.outArr m hm c, ?_, ?_⟩
  · exact (θ_run Cert.Kernel2Ideal.defs _ _).mono (fun _ h => h.1) (Cert.Kernel2Ideal.Down.run_args m g hm)
  · refine (θ_run Cert.Reference2Ideal.defs _ _).mono (fun _ h c => ⟨(h.1 c).1.trans ?_, (h.1 c).2⟩) (Cert.Reference2Ideal.Down.run m' g')
    have ha := hagree c
    exact (arrays2 m hm c (launchContents m' c) ha.1 ha.2.1 ha.2.2).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, pre_facts, pre_facts2,
  frame, frameIdeal, frameReference, frameReferencePre, frame2, frameIdeal2, frameReference2, frameReferencePre2,
  trivial, algebraic, trivial, algebraic2⟩

end Cert.Proof

end
